-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v9_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v9_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v320) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x128 : Shape := ⟨2, ![8192, 128]⟩
abbrev S128x512 : Shape := ⟨2, ![128, 512]⟩
abbrev S512 : Shape := ⟨1, ![512]⟩
abbrev S4x512x512 : Shape := ⟨3, ![4, 512, 512]⟩
abbrev S4x512 : Shape := ⟨2, ![4, 512]⟩
abbrev S512x256 : Shape := ⟨2, ![512, 256]⟩
abbrev S256 : Shape := ⟨1, ![256]⟩
abbrev S256x512 : Shape := ⟨2, ![256, 512]⟩
abbrev S512x128 : Shape := ⟨2, ![512, 128]⟩
abbrev S128 : Shape := ⟨1, ![128]⟩
abbrev S1024x64 : Shape := ⟨2, ![1024, 64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1024x64 : S_.BroadcastsInDim S1024x64 (![] : Fin 0 → Fin S1024x64.rank)
  reducesTo_S1024x64_S_d0_1 : S1024x64.ReducesTo [0, 1] S_

variable [Facts]

def fn_part5 {F : FTy → Type} [FloatOps F] (main_v83 : IVec S_ 1) (main_v84 : FVec F S1024x64 .f32) (main_cst_32 : FVec F S_ .f32) : IVec S_ 1 :=
  let main_v85 : FVec F S1024x64 .f32 := broadcastInDim S1024x64 ![] bcast_S_S1024x64 main_cst_32
  let main_v86 : IVec S1024x64 1 := cmpf .olt main_v84 main_v85
  let main_c_33 : IVec S_ 1 := constantI S_ 1 1#1
  let main_v87 : IVec S_ 1 := (fun x v => Host.reduce IntOp.andi x v reducesTo_S1024x64_S_d0_1 h_S_) main_v86 main_c_33
  let main_v88 : IVec S_ 1 := andi main_v83 main_v87
  main_v88

def fn_part4 {F : FTy → Type} [FloatOps F] (main_arg14 : FVec F S4x512 .f32) (main_arg15 : FVec F S512x128 .f32) (main_arg16 : FVec F S128 .f32) (main_arg17 : FVec F S1024x64 .f32) (main_v63 : IVec S_ 1) (main_v67 : IVec S_ 1) : IVec S_ 1 :=
  let main_v68 : IVec S_ 1 := andi main_v63 main_v67
  let main_v69 : FVec F S4x512 .f32 := Host.absf main_arg14
  let main_cst_26 : FVec F S_ .f32 := constant S_ .f32 0x7F800000#32
  let main_v70 : FVec F S4x512 .f32 := broadcastInDim S4x512 ![] bcast_S_S4x512 main_cst_26
  let main_v71 : IVec S4x512 1 := cmpf .olt main_v69 main_v70
  let main_c_27 : IVec S_ 1 := constantI S_ 1 1#1
  let main_v72 : IVec S_ 1 := (fun x v => Host.reduce IntOp.andi x v reducesTo_S4x512_S_d0_1 h_S_) main_v71 main_c_27
  let main_v73 : IVec S_ 1 := andi main_v68 main_v72
  let main_v74 : FVec F S512x128 .f32 := Host.absf main_arg15
  let main_cst_28 : FVec F S_ .f32 := constant S_ .f32 0x7F800000#32
  let main_v75 : FVec F S512x128 .f32 := broadcastInDim S512x128 ![] bcast_S_S512x128 main_cst_28
  let main_v76 : IVec S512x128 1 := cmpf .olt main_v74 main_v75
  let main_c_29 : IVec S_ 1 := constantI S_ 1 1#1
  let main_v77 : IVec S_ 1 := (fun x v => Host.reduce IntOp.andi x v reducesTo_S512x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S1024x64 .f32 := Host.absf main_arg17
  let main_cst_32 : FVec F S_ .f32 := constant S_ .f32 0x7F800000#32
  fn_part5 (F := F) main_v83 main_v84 main_cst_32

def fn_part3 {F : FTy → Type} [FloatOps F] (main_arg11 : FVec F S4x512x512 .f32) (main_arg12 : FVec F S4x512 .f32) (main_arg13 : FVec F S4x512 .f32) (main_arg14 : FVec F S4x512 .f32) (main_arg15 : FVec F S512x128 .f32) (main_arg16 : FVec F S128 .f32) (main_arg17 : FVec F S1024x64 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S4x512x512 .f32 := Host.absf main_arg11
  let main_cst_20 : FVec F S_ .f32 := constant S_ .f32 0x7F800000#32
  let main_v55 : FVec F S4x512x512 .f32 := broadcastInDim S4x512x512 ![] bcast_S_S4x512x512 main_cst_20
  let main_v56 : IVec S4x512x512 1 := cmpf .olt main_v54 main_v55
  let main_c_21 : IVec S_ 1 := constantI S_ 1 1#1
  let main_v57 : IVec S_ 1 := (fun x v => Host.reduce IntOp.andi x v reducesTo_S4x512x512_S_d0_1_2 h_S_) main_v56 main_c_21
  let main_v58 : IVec S_ 1 := andi main_v53 main_v57
  let main_v59 : FVec F S4x512 .f32 := Host.absf main_arg12
  let main_cst_22 : FVec F S_ .f32 := constant S_ .f32 0x7F800000#32
  let main_v60 : FVec F S4x512 .f32 := broadcastInDim S4x512 ![] bcast_S_S4x512 main_cst_22
  let main_v61 : IVec S4x512 1 := cmpf .olt main_v59 main_v60
  let main_c_23 : IVec S_ 1 := constantI S_ 1 1#1
  let main_v62 : IVec S_ 1 := (fun x v => Host.reduce IntOp.andi x v reducesTo_S4x512_S_d0_1 h_S_) main_v61 main_c_23
  let main_v63 : IVec S_ 1 := andi main_v58 main_v62
  let main_v64 : FVec F S4x512 .f32 := Host.absf main_arg13
  let main_cst_24 : FVec F S_ .f32 := constant S_ .f32 0x7F800000#32
  let main_v65 : FVec F S4x512 .f32 := broadcastInDim S4x512 ![] bcast_S_S4x512 main_cst_24
  let main_v66 : IVec S4x512 1 := cmpf .olt main_v64 main_v65
  let main_c_25 : IVec S_ 1 := constantI S_ 1 1#1
  let main_v67 : IVec S_ 1 := (fun x v => Host.reduce IntOp.andi x v reducesTo_S4x512_S_d0_1 h_S_) main_v66 main_c_25
  fn_part4 (F := F) main_arg14 main_arg15 main_arg16 main_arg17 main_v63 main_v67

def fn_part2 {F : FTy → Type} [FloatOps F] (main_arg7 : FVec F S512x256 .f32) (main_arg8 : FVec F S256 .f32) (main_arg9 : FVec F S256x512 .f32) (main_arg10 : FVec F S512 .f32) (main_arg11 : FVec F S4x512x512 .f32) (main_arg12 : FVec F S4x512 .f32) (main_arg13 : FVec F S4x512 .f32) (main_arg14 : FVec F S4x512 .f32) (main_arg15 : FVec F S512x128 .f32) (main_arg16 : FVec F S128 .f32) (main_arg17 : FVec F S1024x64 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg9
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_v48 main_v49 main_v50

def fn_part1 {F : FTy → Type} [FloatOps F] (main_arg4 : FVec F S4x512 .f32) (main_arg5 : FVec F S4x512 .f32) (main_arg6 : FVec F S4x512 .f32) (main_arg7 : FVec F S512x256 .f32) (main_arg8 : FVec F S256 .f32) (main_arg9 : FVec F S256x512 .f32) (main_arg10 : FVec F S512 .f32) (main_arg11 : FVec F S4x512x512 .f32) (main_arg12 : FVec F S4x512 .f32) (main_arg13 : FVec F S4x512 .f32) (main_arg14 : FVec F S4x512 .f32) (main_arg15 : FVec F S512x128 .f32) (main_arg16 : FVec F S128 .f32) (main_arg17 : FVec F S1024x64 .f32) (main_v13 : IVec S_ 1) (main_v16 : IVec S4x512x512 1) : IVec S_ 1 :=
  let main_c_5 : IVec S_ 1 := constantI S_ 1 1#1
  let main_v17 : IVec S_ 1 := (fun x v => Host.reduce IntOp.andi x v reducesTo_S4x512x512_S_d0_1_2 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  let main_v29 : FVec F S4x512 .f32 := Host.absf main_arg6
  let main_cst_10 : FVec F S_ .f32 := constant S_ .f32 0x7F800000#32
  let main_v30 : FVec F S4x512 .f32 := broadcastInDim S4x512 ![] bcast_S_S4x512 main_cst_10
  let main_v31 : IVec S4x512 1 := cmpf .olt main_v29 main_v30
  let main_c_11 : IVec S_ 1 := constantI S_ 1 1#1
  let main_v32 : IVec S_ 1 := (fun x v => Host.reduce IntOp.andi x v reducesTo_S4x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x128 .f32) (main_arg1 : FVec F S128x512 .f32) (main_arg2 : FVec F S512 .f32) (main_arg3 : FVec F S4x512x512 .f32) (main_arg4 : FVec F S4x512 .f32) (main_arg5 : FVec F S4x512 .f32) (main_arg6 : FVec F S4x512 .f32) (main_arg7 : FVec F S512x256 .f32) (main_arg8 : FVec F S256 .f32) (main_arg9 : FVec F S256x512 .f32) (main_arg10 : FVec F S512 .f32) (main_arg11 : FVec F S4x512x512 .f32) (main_arg12 : FVec F S4x512 .f32) (main_arg13 : FVec F S4x512 .f32) (main_arg14 : FVec F S4x512 .f32) (main_arg15 : FVec F S512x128 .f32) (main_arg16 : FVec F S128 .f32) (main_arg17 : FVec F S1024x64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x512x512 .f32 := Host.absf main_arg3
  let main_cst_4 : FVec F S_ .f32 := constant S_ .f32 0x7F800000#32
  let main_v15 : FVec F S4x512x512 .f32 := broadcastInDim S4x512x512 ![] bcast_S_S4x512x512 main_cst_4
  let main_v16 : IVec S4x512x512 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x128 : Shape := ⟨2, ![8192, 128]⟩
abbrev S128x512 : Shape := ⟨2, ![128, 512]⟩
abbrev S512 : Shape := ⟨1, ![512]⟩
abbrev S4x512x512 : Shape := ⟨3, ![4, 512, 512]⟩
abbrev S4x512 : Shape := ⟨2, ![4, 512]⟩
abbrev S512x256 : Shape := ⟨2, ![512, 256]⟩
abbrev S256 : Shape := ⟨1, ![256]⟩
abbrev S256x512 : Shape := ⟨2, ![256, 512]⟩
abbrev S512x128 : Shape := ⟨2, ![512, 128]⟩
abbrev S128 : Shape := ⟨1, ![128]⟩
abbrev S1024x64 : Shape := ⟨2, ![1024, 64]⟩
abbrev S64x1024 : Shape := ⟨2, ![64, 1024]⟩
abbrev S_ : Shape := ⟨0, ![]⟩
abbrev S1024 : Shape := ⟨1, ![1024]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S8192x256 : Shape := ⟨2, ![8192, 256]⟩
abbrev S8x128 : Shape := ⟨2, ![8, 128]⟩
abbrev S2048x128 : Shape := ⟨2, ![2048, 128]⟩
abbrev S2048x256 : Shape := ⟨2, ![2048, 256]⟩
abbrev S8x1024 : Shape := ⟨2, ![8, 1024]⟩
abbrev S2048x512 : Shape := ⟨2, ![2048, 512]⟩
abbrev S1x512x512 : Shape := ⟨3, ![1, 512, 512]⟩
abbrev S512x512 : Shape := ⟨2, ![512, 512]⟩
abbrev S2048 : Shape := ⟨1, ![2048]⟩
abbrev S2048x1 : Shape := ⟨2, ![2048, 1]⟩
abbrev S2048x1024 : Shape := ⟨2, ![2048, 1024]⟩
abbrev S2048x64 : Shape := ⟨2, ![2048, 64]⟩
abbrev S1x2048x64 : Shape := ⟨3, ![1, 2048, 64]⟩
abbrev S1 : Shape := ⟨1, ![1]⟩
abbrev S1x1x1 : Shape := ⟨3, ![1, 1, 1]⟩
abbrev S1x1 : Shape := ⟨2, ![1, 1]⟩
abbrev S1x1x1024 : Shape := ⟨3, ![1, 1, 1024]⟩

abbrev nBuf : Space → Nat
  | .hbm => 36
  | .vmem => 37
  | .smem => 0
  | _ => 0

abbrev bufTy : (tb : Table) → Fin (tcTables nBuf tb) → BufTy
  | .hbm, ⟨0, _⟩ => ⟨S8192x128, .f32⟩
  | .hbm, ⟨1, _⟩ => ⟨S128x512, .f32⟩
  | .hbm, ⟨2, _⟩ => ⟨S512, .f32⟩
  | .hbm, ⟨3, _⟩ => ⟨S4x512x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S512x256, .f32⟩
  | .hbm, ⟨8, _⟩ => ⟨S256, .f32⟩
  | .hbm, ⟨9, _⟩ => ⟨S256x512, .f32⟩
  | .hbm, ⟨10, _⟩ => ⟨S512, .f32⟩
  | .hbm, ⟨11, _⟩ => ⟨S4x512x512, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S512x128, .f32⟩
  | .hbm, ⟨16, _⟩ => ⟨S128, .f32⟩
  | .hbm, ⟨17, _⟩ => ⟨S1024x64, .f32⟩
  | .hbm, ⟨18, _⟩ => ⟨S1024x64, .f32⟩
  | .hbm, ⟨19, _⟩ => ⟨S64x1024, .f32⟩
  | .hbm, ⟨20, _⟩ => ⟨S1024x64, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1x512, .f32⟩
  | .hbm, ⟨25, _⟩ => ⟨S1x256, .f32⟩
  | .hbm, ⟨26, _⟩ => ⟨S1x512, .f32⟩
  | .hbm, ⟨27, _⟩ => ⟨S1x128, .f32⟩
  | .hbm, ⟨28, _⟩ => ⟨S8192x256, .f32⟩
  | .hbm, ⟨29, _⟩ => ⟨S8192x128, .f32⟩
  | .hbm, ⟨30, _⟩ => ⟨S8x128, .f32⟩
  | .hbm, ⟨31, _⟩ => ⟨S8x128, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S1x512, .f32⟩
  | .local _ .vmem, ⟨4, _⟩ => ⟨S4x512x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S512x256, .f32⟩
  | .local _ .vmem, ⟨9, _⟩ => ⟨S1x256, .f32⟩
  | .local _ .vmem, ⟨10, _⟩ => ⟨S256x512, .f32⟩
  | .local _ .vmem, ⟨11, _⟩ => ⟨S1x512, .f32⟩
  | .local _ .vmem, ⟨12, _⟩ => ⟨S4x512x512, .f32⟩
  | .local _ .vmem, ⟨13, _⟩ => ⟨S4x512, .f32⟩
  | .local _ .vmem, ⟨14, _⟩ => ⟨S4x512, .f32⟩
  | .local _ .vmem, ⟨15, _⟩ => ⟨S4x512, .f32⟩
  | .local _ .vmem, ⟨16, _⟩ => ⟨S512x128, .f32⟩
  | .local _ .vmem, ⟨17, _⟩ => ⟨S1x128, .f32⟩
  | .local _ .vmem, ⟨18, _⟩ => ⟨S1024x64, .f32⟩
  | .local _ .vmem, ⟨19, _⟩ => ⟨S64x1024, .f32⟩
  | .local _ .vmem, ⟨20, _⟩ => ⟨S1x1024, .f32⟩
  | .local _ .vmem, ⟨21, _⟩ => ⟨S2048x256, .f32⟩
  | .local _ .vmem, ⟨22, _⟩ => ⟨S2048x256, .f32⟩
  | .local _ .vmem, ⟨23, _⟩ => ⟨S2048x128, .f32⟩
  | .local _ .vmem, ⟨24, _⟩ => ⟨S2048x128, .f32⟩
  | .local _ .vmem, ⟨25, _⟩ => ⟨S8x128, .f32⟩
  | .local _ .vmem, ⟨26, _⟩ => ⟨S8x128, .f32⟩
  | .local _ .vmem, ⟨27, _⟩ => ⟨S128x512, .bf16⟩
  | .local _ .vmem, ⟨28, _⟩ => ⟨S4x512x512, .bf16⟩
  | .local _ .vmem, ⟨29, _⟩ => ⟨S512x256, .bf16⟩
  | .local _ .vmem, ⟨30, _⟩ => ⟨S256x512, .bf16⟩
  | .local _ .vmem, ⟨31, _⟩ => ⟨S4x512x512, .bf16⟩
  | .local _ .vmem, ⟨32, _⟩ => ⟨S512x128, .bf16⟩
  | .local _ .vmem, ⟨33, _⟩ => ⟨S1024x64, .bf16⟩
  | .local _ .vmem, ⟨34, _⟩ => ⟨S64x1024, .bf16⟩
  | .local _ .vmem, ⟨35, _⟩ => ⟨S8x1024, .f32⟩
  | .local _ .vmem, ⟨36, _⟩ => ⟨S8x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg23_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_scratch9 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc0_sem21_0 : DmaSem sig := 23
abbrev cc0_sem21_1 : DmaSem sig := 24
abbrev cc0_sem22_0 : DmaSem sig := 25
abbrev cc0_sem23_0 : DmaSem sig := 26

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v470 : BitVec 1 := Scalar.cmpi .eq arg0 c3_i32
  let v471 : BitVec 32 := Scalar.extui v470
  let c0_i32_209 : BitVec 32 := 0#32
  let v472 : BitVec 1 := Scalar.cmpi .ne v471 c0_i32_209
  v472

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2048x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2048x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== ReferenceIdeal.lean ====
abbrev S8192x128 : Shape := ⟨2, ![8192, 128]⟩
abbrev S128x512 : Shape := ⟨2, ![128, 512]⟩
abbrev S512 : Shape := ⟨1, ![512]⟩
abbrev S4x512x512 : Shape := ⟨3, ![4, 512, 512]⟩
abbrev S4x512 : Shape := ⟨2, ![4, 512]⟩
abbrev S512x256 : Shape := ⟨2, ![512, 256]⟩
abbrev S256 : Shape := ⟨1, ![256]⟩
abbrev S256x512 : Shape := ⟨2, ![256, 512]⟩
abbrev S512x128 : Shape := ⟨2, ![512, 128]⟩
abbrev S128 : Shape := ⟨1, ![128]⟩
abbrev S1024x64 : Shape := ⟨2, ![1024, 64]⟩
abbrev S_ : Shape := ⟨0, ![]⟩
abbrev S8192x512 : Shape := ⟨2, ![8192, 512]⟩
abbrev S1x512 : Shape := ⟨2, ![1, 512]⟩
abbrev S1x512x512 : Shape := ⟨3, ![1, 512, 512]⟩
abbrev S512x512 : Shape := ⟨2, ![512, 512]⟩
abbrev S8192 : Shape := ⟨1, ![8192]⟩
abbrev S8192x1 : Shape := ⟨2, ![8192, 1]⟩
abbrev S8192x256 : Shape := ⟨2, ![8192, 256]⟩
abbrev S1x256 : Shape := ⟨2, ![1, 256]⟩
abbrev S32768x64 : Shape := ⟨2, ![32768, 64]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1x128 : Shape := ⟨2, ![1, 128]⟩

abbrev nBuf : Space → Nat
  | .hbm => 588
  | .vmem => 0
  | .smem => 0
  | _ => 0

abbrev hbmTy0_0 (i : Nat) : BufTy := match i % 128 with
  | 0 => ⟨S8192x128, .f32⟩
  | 1 => ⟨S128x512, .f32⟩
  | 2 => ⟨S512, .f32⟩
  | 3 => ⟨S4x512x512, .f32⟩
  | 4 => ⟨S4x512, .f32⟩
  | 5 => ⟨S4x512, .f32⟩
  | 6 => ⟨S4x512, .f32⟩
  | 7 => ⟨S512x256, .f32⟩
  | 8 => ⟨S256, .f32⟩
  | 9 => ⟨S256x512, .f32⟩
  | 10 => ⟨S512, .f32⟩
  | 11 => ⟨S4x512x512, .f32⟩
  | 12 => ⟨S4x512, .f32⟩
  | 13 => ⟨S4x512, .f32⟩
  | 14 => ⟨S4x512, .f32⟩
  | 15 => ⟨S512x128, .f32⟩
  | 16 => ⟨S128, .f32⟩
  | 17 => ⟨S1024x64, .f32⟩
  | 18 => ⟨S_, .f32⟩
  | 19 => ⟨S8192x128, .f32⟩
  | 20 => ⟨S8192x128, .f32⟩
  | 21 => ⟨S_, .f32⟩
  | 22 => ⟨S8192x128, .f32⟩
  | 23 => ⟨S8192x128, .f32⟩
  | 24 => ⟨S8192x512, .f32⟩
  | 25 => ⟨S1x512, .f32⟩
  | 26 => ⟨S8192x512, .f32⟩
  | 27 => ⟨S8192x512, .f32⟩
  | 28 => ⟨S1x512x512, .f32⟩
  | 29 => ⟨S512x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S512, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .i32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x512, .f32⟩
  | 54 => ⟨S8192x512, .f32⟩
  | 55 => ⟨S8192x512, .f32⟩
  | 56 => ⟨S_, .f32⟩
  | 57 => ⟨S_, .f32⟩
  | 58 => ⟨S_, .f32⟩
  | 59 => ⟨S_, .f32⟩
  | 60 => ⟨S8192, .f32⟩
  | 61 => ⟨S8192x1, .f32⟩
  | 62 => ⟨S8192x1, .f32⟩
  | 63 => ⟨S8192x1, .f32⟩
  | 64 => ⟨S_, .f32⟩
  | 65 => ⟨S_, .i1⟩
  | 66 => ⟨S_, .f32⟩
  | 67 => ⟨S_, .f32⟩
  | 68 => ⟨S8192x1, .f32⟩
  | 69 => ⟨S8192x1, .f32⟩
  | 70 => ⟨S8192x512, .f32⟩
  | 71 => ⟨S8192x512, .f32⟩
  | 72 => ⟨S_, .f32⟩
  | 73 => ⟨S8192x1, .f32⟩
  | 74 => ⟨S8192x1, .f32⟩
  | 75 => ⟨S8192x1, .f32⟩
  | 76 => ⟨S8192x512, .f32⟩
  | 77 => ⟨S8192x512, .f32⟩
  | 78 => ⟨S1x512, .f32⟩
  | 79 => ⟨S8192x512, .f32⟩
  | 80 => ⟨S8192x512, .f32⟩
  | 81 => ⟨S1x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S1x512x512, .f32⟩
  | 89 => ⟨S512x512, .f32⟩
  | 90 => ⟨S8192x512, .f32⟩
  | 91 => ⟨S1x512, .f32⟩
  | 92 => ⟨S512, .f32⟩
  | 93 => ⟨S1x512, .f32⟩
  | 94 => ⟨S8192x512, .f32⟩
  | 95 => ⟨S8192x512, .f32⟩
  | 96 => ⟨S1x512, .f32⟩
  | 97 => ⟨S512, .f32⟩
  | 98 => ⟨S1x512, .f32⟩
  | 99 => ⟨S512, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .i32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S8192x512, .f32⟩
  | 114 => ⟨S8192x512, .f32⟩
  | 115 => ⟨S8192x512, .f32⟩
  | 116 => ⟨S_, .f32⟩
  | 117 => ⟨S_, .f32⟩
  | 118 => ⟨S_, .f32⟩
  | 119 => ⟨S_, .f32⟩
  | 120 => ⟨S8192, .f32⟩
  | 121 => ⟨S8192x1, .f32⟩
  | 122 => ⟨S8192x1, .f32⟩
  | 123 => ⟨S8192x1, .f32⟩
  | 124 => ⟨S_, .f32⟩
  | 125 => ⟨S_, .i1⟩
  | 126 => ⟨S_, .f32⟩
  | 127 => ⟨S_, .f32⟩
  | _ => ⟨S8192x128, .f32⟩

abbrev hbmTy0_1 (i : Nat) : BufTy := match i % 128 with
  | 0 => ⟨S8192x1, .f32⟩
  | 1 => ⟨S8192x1, .f32⟩
  | 2 => ⟨S8192x512, .f32⟩
  | 3 => ⟨S8192x512, .f32⟩
  | 4 => ⟨S_, .f32⟩
  | 5 => ⟨S8192x1, .f32⟩
  | 6 => ⟨S8192x1, .f32⟩
  | 7 => ⟨S8192x1, .f32⟩
  | 8 => ⟨S8192x512, .f32⟩
  | 9 => ⟨S8192x512, .f32⟩
  | 10 => ⟨S1x512, .f32⟩
  | 11 => ⟨S8192x512, .f32⟩
  | 12 => ⟨S8192x512, .f32⟩
  | 13 => ⟨S1x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S1x512x512, .f32⟩
  | 21 => ⟨S512x512, .f32⟩
  | 22 => ⟨S8192x512, .f32⟩
  | 23 => ⟨S1x512, .f32⟩
  | 24 => ⟨S512, .f32⟩
  | 25 => ⟨S1x512, .f32⟩
  | 26 => ⟨S8192x512, .f32⟩
  | 27 => ⟨S8192x512, .f32⟩
  | 28 => ⟨S1x512, .f32⟩
  | 29 => ⟨S512, .f32⟩
  | 30 => ⟨S1x512, .f32⟩
  | 31 => ⟨S512, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .i32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x512, .f32⟩
  | 46 => ⟨S8192x512, .f32⟩
  | 47 => ⟨S8192x512, .f32⟩
  | 48 => ⟨S_, .f32⟩
  | 49 => ⟨S_, .f32⟩
  | 50 => ⟨S_, .f32⟩
  | 51 => ⟨S_, .f32⟩
  | 52 => ⟨S8192, .f32⟩
  | 53 => ⟨S8192x1, .f32⟩
  | 54 => ⟨S8192x1, .f32⟩
  | 55 => ⟨S8192x1, .f32⟩
  | 56 => ⟨S_, .f32⟩
  | 57 => ⟨S_, .i1⟩
  | 58 => ⟨S_, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S_, .f32⟩
  | 65 => ⟨S8192x1, .f32⟩
  | 66 => ⟨S8192x1, .f32⟩
  | 67 => ⟨S8192x1, .f32⟩
  | 68 => ⟨S8192x512, .f32⟩
  | 69 => ⟨S8192x512, .f32⟩
  | 70 => ⟨S1x512, .f32⟩
  | 71 => ⟨S8192x512, .f32⟩
  | 72 => ⟨S8192x512, .f32⟩
  | 73 => ⟨S1x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S1x512x512, .f32⟩
  | 81 => ⟨S512x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S1x512, .f32⟩
  | 89 => ⟨S512, .f32⟩
  | 90 => ⟨S1x512, .f32⟩
  | 91 => ⟨S512, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .i32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x512, .f32⟩
  | 106 => ⟨S8192x512, .f32⟩
  | 107 => ⟨S8192x512, .f32⟩
  | 108 => ⟨S_, .f32⟩
  | 109 => ⟨S_, .f32⟩
  | 110 => ⟨S_, .f32⟩
  | 111 => ⟨S_, .f32⟩
  | 112 => ⟨S8192, .f32⟩
  | 113 => ⟨S8192x1, .f32⟩
  | 114 => ⟨S8192x1, .f32⟩
  | 115 => ⟨S8192x1, .f32⟩
  | 116 => ⟨S_, .f32⟩
  | 117 => ⟨S_, .i1⟩
  | 118 => ⟨S_, .f32⟩
  | 119 => ⟨S_, .f32⟩
  | 120 => ⟨S8192x1, .f32⟩
  | 121 => ⟨S8192x1, .f32⟩
  | 122 => ⟨S8192x512, .f32⟩
  | 123 => ⟨S8192x512, .f32⟩
  | 124 => ⟨S_, .f32⟩
  | 125 => ⟨S8192x1, .f32⟩
  | 126 => ⟨S8192x1, .f32⟩
  | 127 => ⟨S8192x1, .f32⟩
  | _ => ⟨S8192x128, .f32⟩

abbrev hbmTy0_2 (i : Nat) : BufTy := match i % 128 with
  | 0 => ⟨S8192x512, .f32⟩
  | 1 => ⟨S8192x512, .f32⟩
  | 2 => ⟨S1x512, .f32⟩
  | 3 => ⟨S8192x512, .f32⟩
  | 4 => ⟨S8192x512, .f32⟩
  | 5 => ⟨S1x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S8192x512, .f32⟩
  | 12 => ⟨S8192x256, .f32⟩
  | 13 => ⟨S1x256, .f32⟩
  | 14 => ⟨S8192x256, .f32⟩
  | 15 => ⟨S8192x256, .f32⟩
  | 16 => ⟨S32768x64, .f32⟩
  | 17 => ⟨S32768x64, .f32⟩
  | 18 => ⟨S_, .f32⟩
  | 19 => ⟨S32768, .f32⟩
  | 20 => ⟨S32768x1, .f32⟩
  | 21 => ⟨S1024x64, .f32⟩
  | 22 => ⟨S_, .f32⟩
  | 23 => ⟨S1024, .f32⟩
  | 24 => ⟨S1x1024, .f32⟩
  | 25 => ⟨S32768x1024, .f32⟩
  | 26 => ⟨S32768x1024, .f32⟩
  | 27 => ⟨S32768x1024, .f32⟩
  | 28 => ⟨S64x1024, .f32⟩
  | 29 => ⟨S32768x1024, .f32⟩
  | 30 => ⟨S_, .f32⟩
  | 31 => ⟨S32768x1024, .f32⟩
  | 32 => ⟨S32768x1024, .f32⟩
  | 33 => ⟨S32768x1024, .f32⟩
  | 34 => ⟨S32768x1024, .i32⟩
  | 35 => ⟨S_, .f32⟩
  | 36 => ⟨S_, .i32⟩
  | 37 => ⟨S32768, .f32⟩
  | 38 => ⟨S32768, .i32⟩
  | 39 => ⟨S32768x1, .i32⟩
  | 40 => ⟨S1x1024, .i32⟩
  | 41 => ⟨S32768x1024, .i32⟩
  | 42 => ⟨S32768x1024, .i32⟩
  | 43 => ⟨S32768x1024, .i1⟩
  | 44 => ⟨S32768x1024, .f32⟩
  | 45 => ⟨S32768x64, .f32⟩
  | 46 => ⟨S32768x64, .f32⟩
  | 47 => ⟨S32768x64, .f32⟩
  | 48 => ⟨S_, .f32⟩
  | 49 => ⟨S_, .f32⟩
  | 50 => ⟨S_, .f32⟩
  | 51 => ⟨S_, .f32⟩
  | 52 => ⟨S32768x64, .f32⟩
  | 53 => ⟨S32768x64, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S32768x64, .f32⟩
  | 62 => ⟨S32768x64, .f32⟩
  | 63 => ⟨S_, .f32⟩
  | 64 => ⟨S1024, .f32⟩
  | 65 => ⟨S_, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S1024, .f32⟩
  | 73 => ⟨S_, .f32⟩
  | 74 => ⟨S_, .f32⟩
  | 75 => ⟨S_, .f32⟩
  | 76 => ⟨S_, .f32⟩
  | 77 => ⟨S8192x256, .f32⟩
  | 78 => ⟨S8192x512, .f32⟩
  | 79 => ⟨S1x512, .f32⟩
  | 80 => ⟨S8192x512, .f32⟩
  | 81 => ⟨S8192x512, .f32⟩
  | 82 => ⟨S1x512x512, .f32⟩
  | 83 => ⟨S512x512, .f32⟩
  | 84 => ⟨S8192x512, .f32⟩
  | 85 => ⟨S1x512, .f32⟩
  | 86 => ⟨S512, .f32⟩
  | 87 => ⟨S1x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S512, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S_, .i32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S8192x512, .f32⟩
  | 108 => ⟨S8192x512, .f32⟩
  | 109 => ⟨S8192x512, .f32⟩
  | 110 => ⟨S_, .f32⟩
  | 111 => ⟨S_, .f32⟩
  | 112 => ⟨S_, .f32⟩
  | 113 => ⟨S_, .f32⟩
  | 114 => ⟨S8192, .f32⟩
  | 115 => ⟨S8192x1, .f32⟩
  | 116 => ⟨S8192x1, .f32⟩
  | 117 => ⟨S8192x1, .f32⟩
  | 118 => ⟨S_, .f32⟩
  | 119 => ⟨S_, .i1⟩
  | 120 => ⟨S_, .f32⟩
  | 121 => ⟨S_, .f32⟩
  | 122 => ⟨S8192x1, .f32⟩
  | 123 => ⟨S8192x1, .f32⟩
  | 124 => ⟨S8192x512, .f32⟩
  | 125 => ⟨S8192x512, .f32⟩
  | 126 => ⟨S_, .f32⟩
  | 127 => ⟨S8192x1, .f32⟩
  | _ => ⟨S8192x128, .f32⟩

abbrev hbmTy0_3 (i : Nat) : BufTy := match i % 128 with
  | 0 => ⟨S8192x1, .f32⟩
  | 1 => ⟨S8192x1, .f32⟩
  | 2 => ⟨S8192x512, .f32⟩
  | 3 => ⟨S8192x512, .f32⟩
  | 4 => ⟨S1x512, .f32⟩
  | 5 => ⟨S8192x512, .f32⟩
  | 6 => ⟨S8192x512, .f32⟩
  | 7 => ⟨S1x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S1x512x512, .f32⟩
  | 15 => ⟨S512x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S1x512, .f32⟩
  | 23 => ⟨S512, .f32⟩
  | 24 => ⟨S1x512, .f32⟩
  | 25 => ⟨S512, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .i32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x512, .f32⟩
  | 40 => ⟨S8192x512, .f32⟩
  | 41 => ⟨S8192x512, .f32⟩
  | 42 => ⟨S_, .f32⟩
  | 43 => ⟨S_, .f32⟩
  | 44 => ⟨S_, .f32⟩
  | 45 => ⟨S_, .f32⟩
  | 46 => ⟨S8192, .f32⟩
  | 47 => ⟨S8192x1, .f32⟩
  | 48 => ⟨S8192x1, .f32⟩
  | 49 => ⟨S8192x1, .f32⟩
  | 50 => ⟨S_, .f32⟩
  | 51 => ⟨S_, .i1⟩
  | 52 => ⟨S_, .f32⟩
  | 53 => ⟨S_, .f32⟩
  | 54 => ⟨S8192x1, .f32⟩
  | 55 => ⟨S8192x1, .f32⟩
  | 56 => ⟨S8192x512, .f32⟩
  | 57 => ⟨S8192x512, .f32⟩
  | 58 => ⟨S_, .f32⟩
  | 59 => ⟨S8192x1, .f32⟩
  | 60 => ⟨S8192x1, .f32⟩
  | 61 => ⟨S8192x1, .f32⟩
  | 62 => ⟨S8192x512, .f32⟩
  | 63 => ⟨S8192x512, .f32⟩
  | 64 => ⟨S1x512, .f32⟩
  | 65 => ⟨S8192x512, .f32⟩
  | 66 => ⟨S8192x512, .f32⟩
  | 67 => ⟨S1x512, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S8192x512, .f32⟩
  | 74 => ⟨S1x512x512, .f32⟩
  | 75 => ⟨S512x512, .f32⟩
  | 76 => ⟨S8192x512, .f32⟩
  | 77 => ⟨S1x512, .f32⟩
  | 78 => ⟨S512, .f32⟩
  | 79 => ⟨S1x512, .f32⟩
  | 80 => ⟨S8192x512, .f32⟩
  | 81 => ⟨S8192x512, .f32⟩
  | 82 => ⟨S1x512, .f32⟩
  | 83 => ⟨S512, .f32⟩
  | 84 => ⟨S1x512, .f32⟩
  | 85 => ⟨S512, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S_, .i32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S8192x512, .f32⟩
  | 100 => ⟨S8192x512, .f32⟩
  | 101 => ⟨S8192x512, .f32⟩
  | 102 => ⟨S_, .f32⟩
  | 103 => ⟨S_, .f32⟩
  | 104 => ⟨S_, .f32⟩
  | 105 => ⟨S_, .f32⟩
  | 106 => ⟨S8192, .f32⟩
  | 107 => ⟨S8192x1, .f32⟩
  | 108 => ⟨S8192x1, .f32⟩
  | 109 => ⟨S8192x1, .f32⟩
  | 110 => ⟨S_, .f32⟩
  | 111 => ⟨S_, .i1⟩
  | 112 => ⟨S_, .f32⟩
  | 113 => ⟨S_, .f32⟩
  | 114 => ⟨S8192x1, .f32⟩
  | 115 => ⟨S8192x1, .f32⟩
  | 116 => ⟨S8192x512, .f32⟩
  | 117 => ⟨S8192x512, .f32⟩
  | 118 => ⟨S_, .f32⟩
  | 119 => ⟨S8192x1, .f32⟩
  | 120 => ⟨S8192x1, .f32⟩
  | 121 => ⟨S8192x1, .f32⟩
  | 122 => ⟨S8192x512, .f32⟩
  | 123 => ⟨S8192x512, .f32⟩
  | 124 => ⟨S1x512, .f32⟩
  | 125 => ⟨S8192x512, .f32⟩
  | 126 => ⟨S8192x512, .f32⟩
  | 127 => ⟨S1x512, .f32⟩
  | _ => ⟨S8192x128, .f32⟩

abbrev hbmTy0_4 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S1x512x512, .f32⟩
  | 7 => ⟨S512x512, .f32⟩
  | 8 => ⟨S8192x512, .f32⟩
  | 9 => ⟨S1x512, .f32⟩
  | 10 => ⟨S512, .f32⟩
  | 11 => ⟨S1x512, .f32⟩
  | 12 => ⟨S8192x512, .f32⟩
  | 13 => ⟨S8192x512, .f32⟩
  | 14 => ⟨S1x512, .f32⟩
  | 15 => ⟨S512, .f32⟩
  | 16 => ⟨S1x512, .f32⟩
  | 17 => ⟨S512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .i32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x512, .f32⟩
  | 32 => ⟨S8192x512, .f32⟩
  | 33 => ⟨S8192x512, .f32⟩
  | 34 => ⟨S_, .f32⟩
  | 35 => ⟨S_, .f32⟩
  | 36 => ⟨S_, .f32⟩
  | 37 => ⟨S_, .f32⟩
  | 38 => ⟨S8192, .f32⟩
  | 39 => ⟨S8192x1, .f32⟩
  | 40 => ⟨S8192x1, .f32⟩
  | 41 => ⟨S8192x1, .f32⟩
  | 42 => ⟨S_, .f32⟩
  | 43 => ⟨S_, .i1⟩
  | 44 => ⟨S_, .f32⟩
  | 45 => ⟨S_, .f32⟩
  | 46 => ⟨S8192x1, .f32⟩
  | 47 => ⟨S8192x1, .f32⟩
  | 48 => ⟨S8192x512, .f32⟩
  | 49 => ⟨S8192x512, .f32⟩
  | 50 => ⟨S_, .f32⟩
  | 51 => ⟨S8192x1, .f32⟩
  | 52 => ⟨S8192x1, .f32⟩
  | 53 => ⟨S8192x1, .f32⟩
  | 54 => ⟨S8192x512, .f32⟩
  | 55 => ⟨S8192x512, .f32⟩
  | 56 => ⟨S1x512, .f32⟩
  | 57 => ⟨S8192x512, .f32⟩
  | 58 => ⟨S8192x512, .f32⟩
  | 59 => ⟨S1x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S8192x128, .f32⟩
  | 67 => ⟨S1x128, .f32⟩
  | 68 => ⟨S8192x128, .f32⟩
  | 69 => ⟨S8192x128, .f32⟩
  | 70 => ⟨S_, .f32⟩
  | 71 => ⟨S8192x128, .f32⟩
  | 72 => ⟨S8192x128, .f32⟩
  | 73 => ⟨S_, .f32⟩
  | 74 => ⟨S8192x128, .f32⟩
  | 75 => ⟨S8192x128, .f32⟩
  | _ => ⟨S8192x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_3 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_call1_cst : Ref sig .tc := ⟨.hbm, 84, rfl⟩
abbrev main_call1_v0 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_4 : Ref sig .tc := ⟨.hbm, 100, rfl⟩
abbrev main_v52 : Ref sig .tc := ⟨.hbm, 101, rfl⟩
abbrev main_v53 : Ref sig .tc := ⟨.hbm, 102, rfl⟩
abbrev main_cst_5 : Ref sig .tc := ⟨.hbm, 103, rfl⟩
abbrev main_v54 : Ref sig .tc := ⟨.hbm, 104, rfl⟩
abbrev main_v55 : Ref sig .tc := ⟨.hbm, 105, rfl⟩
abbrev main_c_6 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_cst_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_v6 : Ref sig .tc := ⟨.hbm, 115, rfl⟩
abbrev main_call2_v7 : Ref sig .tc := ⟨.hbm, 116, rfl⟩
abbrev main_call2_cst_1 : Ref sig .tc := ⟨.hbm, 117, rfl⟩
abbrev main_call2_v8 : Ref sig .tc := ⟨.hbm, 118, rfl⟩
abbrev main_call2_cst_2 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_v12 : Ref sig .tc := ⟨.hbm, 123, rfl⟩
abbrev main_call2_cst_3 : Ref sig .tc := ⟨.hbm, 124, rfl⟩
abbrev main_call2_v13 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_7 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_call3_cst : Ref sig .tc := ⟨.hbm, 144, rfl⟩
abbrev main_call3_v0 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_8 : Ref sig .tc := ⟨.hbm, 160, rfl⟩
abbrev main_v84 : Ref sig .tc := ⟨.hbm, 161, rfl⟩
abbrev main_v85 : Ref sig .tc := ⟨.hbm, 162, rfl⟩
abbrev main_cst_9 : Ref sig .tc := ⟨.hbm, 163, rfl⟩
abbrev main_v86 : Ref sig .tc := ⟨.hbm, 164, rfl⟩
abbrev main_v87 : Ref sig .tc := ⟨.hbm, 165, rfl⟩
abbrev main_c_10 : Ref sig .tc := ⟨.hbm, 166, rfl⟩
abbrev main_call4_cst : Ref sig .tc := ⟨.hbm, 167, rfl⟩
abbrev main_call4_v0 : Ref sig .tc := ⟨.hbm, 168, rfl⟩
abbrev main_call4_v1 : Ref sig .tc := ⟨.hbm, 169, rfl⟩
abbrev main_call4_cst_0 : Ref sig .tc := ⟨.hbm, 170, rfl⟩
abbrev main_call4_v2 : Ref sig .tc := ⟨.hbm, 171, rfl⟩
abbrev main_call4_v3 : Ref sig .tc := ⟨.hbm, 172, rfl⟩
abbrev main_call4_v4 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_cst_1 : Ref sig .tc := ⟨.hbm, 177, rfl⟩
abbrev main_call4_v8 : Ref sig .tc := ⟨.hbm, 178, rfl⟩
abbrev main_call4_cst_2 : Ref sig .tc := ⟨.hbm, 179, rfl⟩
abbrev main_call4_v9 : Ref sig .tc := ⟨.hbm, 180, rfl⟩
abbrev main_call4_v10 : Ref sig .tc := ⟨.hbm, 181, rfl⟩
abbrev main_call4_v11 : Ref sig .tc := ⟨.hbm, 182, rfl⟩
abbrev main_call4_v12 : Ref sig .tc := ⟨.hbm, 183, rfl⟩
abbrev main_call4_cst_3 : Ref sig .tc := ⟨.hbm, 184, rfl⟩
abbrev main_call4_v13 : Ref sig .tc := ⟨.hbm, 185, rfl⟩
abbrev main_call4_cst_4 : Ref sig .tc := ⟨.hbm, 186, rfl⟩
abbrev main_call4_call0_v0 : Ref sig .tc := ⟨.hbm, 187, rfl⟩
abbrev main_call4_call0_v1 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_cst_11 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_call5_cst : Ref sig .tc := ⟨.hbm, 204, rfl⟩
abbrev main_call5_v0 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_cst_12 : Ref sig .tc := ⟨.hbm, 220, rfl⟩
abbrev main_v116 : Ref sig .tc := ⟨.hbm, 221, rfl⟩
abbrev main_v117 : Ref sig .tc := ⟨.hbm, 222, rfl⟩
abbrev main_cst_13 : Ref sig .tc := ⟨.hbm, 223, rfl⟩
abbrev main_v118 : Ref sig .tc := ⟨.hbm, 224, rfl⟩
abbrev main_v119 : Ref sig .tc := ⟨.hbm, 225, rfl⟩
abbrev main_c_14 : Ref sig .tc := ⟨.hbm, 226, rfl⟩
abbrev main_call6_cst : Ref sig .tc := ⟨.hbm, 227, rfl⟩
abbrev main_call6_v0 : Ref sig .tc := ⟨.hbm, 228, rfl⟩
abbrev main_call6_v1 : Ref sig .tc := ⟨.hbm, 229, rfl⟩
abbrev main_call6_cst_0 : Ref sig .tc := ⟨.hbm, 230, rfl⟩
abbrev main_call6_v2 : Ref sig .tc := ⟨.hbm, 231, rfl⟩
abbrev main_call6_v3 : Ref sig .tc := ⟨.hbm, 232, rfl⟩
abbrev main_call6_v4 : Ref sig .tc := ⟨.hbm, 233, rfl⟩
abbrev main_call6_v5 : Ref sig .tc := ⟨.hbm, 234, rfl⟩
abbrev main_call6_v6 : Ref sig .tc := ⟨.hbm, 235, rfl⟩
abbrev main_call6_v7 : Ref sig .tc := ⟨.hbm, 236, rfl⟩
abbrev main_call6_cst_1 : Ref sig .tc := ⟨.hbm, 237, rfl⟩
abbrev main_call6_v8 : Ref sig .tc := ⟨.hbm, 238, rfl⟩
abbrev main_call6_cst_2 : Ref sig .tc := ⟨.hbm, 239, rfl⟩
abbrev main_call6_v9 : Ref sig .tc := ⟨.hbm, 240, rfl⟩
abbrev main_call6_v10 : Ref sig .tc := ⟨.hbm, 241, rfl⟩
abbrev main_call6_v11 : Ref sig .tc := ⟨.hbm, 242, rfl⟩
abbrev main_call6_v12 : Ref sig .tc := ⟨.hbm, 243, rfl⟩
abbrev main_call6_cst_3 : Ref sig .tc := ⟨.hbm, 244, rfl⟩
abbrev main_call6_v13 : Ref sig .tc := ⟨.hbm, 245, rfl⟩
abbrev main_call6_cst_4 : Ref sig .tc := ⟨.hbm, 246, rfl⟩
abbrev main_call6_call0_v0 : Ref sig .tc := ⟨.hbm, 247, rfl⟩
abbrev main_call6_call0_v1 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_cst_15 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_v128 : Ref sig .tc := ⟨.hbm, 258, rfl⟩
abbrev main_v129 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev main_call7_cst : Ref sig .tc := ⟨.hbm, 264, rfl⟩
abbrev main_call7_v0 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_cst_16 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_cst_17 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_cst_18 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_call8_v0 : Ref sig .tc := ⟨.hbm, 290, rfl⟩
abbrev main_call8_cst : Ref sig .tc := ⟨.hbm, 291, rfl⟩
abbrev main_call8_c : Ref sig .tc := ⟨.hbm, 292, rfl⟩
abbrev main_call8_v1_0 : Ref sig .tc := ⟨.hbm, 293, rfl⟩
abbrev main_v155 : Ref sig .tc := ⟨.hbm, 294, rfl⟩
abbrev main_call9_v0 : Ref sig .tc := ⟨.hbm, 295, rfl⟩
abbrev main_call9_v1 : Ref sig .tc := ⟨.hbm, 296, rfl⟩
abbrev main_call9_v2 : Ref sig .tc := ⟨.hbm, 297, rfl⟩
abbrev main_call9_v3 : Ref sig .tc := ⟨.hbm, 298, rfl⟩
abbrev main_call9_v4 : Ref sig .tc := ⟨.hbm, 299, rfl⟩
abbrev main_v156 : Ref sig .tc := ⟨.hbm, 300, rfl⟩
abbrev main_v157 : Ref sig .tc := ⟨.hbm, 301, rfl⟩
abbrev main_v158 : Ref sig .tc := ⟨.hbm, 302, rfl⟩
abbrev main_v159 : Ref sig .tc := ⟨.hbm, 303, rfl⟩
abbrev main_cst_19 : Ref sig .tc := ⟨.hbm, 304, rfl⟩
abbrev main_v160 : Ref sig .tc := ⟨.hbm, 305, rfl⟩
abbrev main_cst_20 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_cst_21 : Ref sig .tc := ⟨.hbm, 310, rfl⟩
abbrev main_v164 : Ref sig .tc := ⟨.hbm, 311, rfl⟩
abbrev main_cst_22 : Ref sig .tc := ⟨.hbm, 312, rfl⟩
abbrev main_v165 : Ref sig .tc := ⟨.hbm, 313, rfl⟩
abbrev main_cst_23 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_cst_24 : Ref sig .tc := ⟨.hbm, 319, rfl⟩
abbrev main_v170 : Ref sig .tc := ⟨.hbm, 320, rfl⟩
abbrev main_cst_25 : Ref sig .tc := ⟨.hbm, 321, rfl⟩
abbrev main_v171 : Ref sig .tc := ⟨.hbm, 322, rfl⟩
abbrev main_v172 : Ref sig .tc := ⟨.hbm, 323, rfl⟩
abbrev main_cst_26 : Ref sig .tc := ⟨.hbm, 324, rfl⟩
abbrev main_v173 : Ref sig .tc := ⟨.hbm, 325, rfl⟩
abbrev main_v174 : Ref sig .tc := ⟨.hbm, 326, rfl⟩
abbrev main_v175 : Ref sig .tc := ⟨.hbm, 327, rfl⟩
abbrev main_v176 : Ref sig .tc := ⟨.hbm, 328, rfl⟩
abbrev main_cst_27 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_v191 : Ref sig .tc := ⟨.hbm, 344, rfl⟩
abbrev main_v192 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_v196 : Ref sig .tc := ⟨.hbm, 349, rfl⟩
abbrev main_cst_28 : Ref sig .tc := ⟨.hbm, 350, rfl⟩
abbrev main_v197 : Ref sig .tc := ⟨.hbm, 351, rfl⟩
abbrev main_v198 : Ref sig .tc := ⟨.hbm, 352, rfl⟩
abbrev main_cst_29 : Ref sig .tc := ⟨.hbm, 353, rfl⟩
abbrev main_v199 : Ref sig .tc := ⟨.hbm, 354, rfl⟩
abbrev main_v200 : Ref sig .tc := ⟨.hbm, 355, rfl⟩
abbrev main_c_30 : Ref sig .tc := ⟨.hbm, 356, rfl⟩
abbrev main_call10_cst : Ref sig .tc := ⟨.hbm, 357, rfl⟩
abbrev main_call10_v0 : Ref sig .tc := ⟨.hbm, 358, rfl⟩
abbrev main_call10_v1 : Ref sig .tc := ⟨.hbm, 359, rfl⟩
abbrev main_call10_cst_0 : Ref sig .tc := ⟨.hbm, 360, rfl⟩
abbrev main_call10_v2 : Ref sig .tc := ⟨.hbm, 361, rfl⟩
abbrev main_call10_v3 : Ref sig .tc := ⟨.hbm, 362, rfl⟩
abbrev main_call10_v4 : Ref sig .tc := ⟨.hbm, 363, rfl⟩
abbrev main_call10_v5 : Ref sig .tc := ⟨.hbm, 364, rfl⟩
abbrev main_call10_v6 : Ref sig .tc := ⟨.hbm, 365, rfl⟩
abbrev main_call10_v7 : Ref sig .tc := ⟨.hbm, 366, rfl⟩
abbrev main_call10_cst_1 : Ref sig .tc := ⟨.hbm, 367, rfl⟩
abbrev main_call10_v8 : Ref sig .tc := ⟨.hbm, 368, rfl⟩
abbrev main_call10_cst_2 : Ref sig .tc := ⟨.hbm, 369, rfl⟩
abbrev main_call10_v9 : Ref sig .tc := ⟨.hbm, 370, rfl⟩
abbrev main_call10_v10 : Ref sig .tc := ⟨.hbm, 371, rfl⟩
abbrev main_call10_v11 : Ref sig .tc := ⟨.hbm, 372, rfl⟩
abbrev main_call10_v12 : Ref sig .tc := ⟨.hbm, 373, rfl⟩
abbrev main_call10_cst_3 : Ref sig .tc := ⟨.hbm, 374, rfl⟩
abbrev main_call10_v13 : Ref sig .tc := ⟨.hbm, 375, rfl⟩
abbrev main_call10_cst_4 : Ref sig .tc := ⟨.hbm, 376, rfl⟩
abbrev main_call10_call0_v0 : Ref sig .tc := ⟨.hbm, 377, rfl⟩
abbrev main_call10_call0_v1 : Ref sig .tc := ⟨.hbm, 378, rfl⟩
abbrev main_v201 : Ref sig .tc := ⟨.hbm, 379, rfl⟩
abbrev main_v202 : Ref sig .tc := ⟨.hbm, 380, rfl⟩
abbrev main_v203 : Ref sig .tc := ⟨.hbm, 381, rfl⟩
abbrev main_cst_31 : Ref sig .tc := ⟨.hbm, 382, rfl⟩
abbrev main_v204 : Ref sig .tc := ⟨.hbm, 383, rfl⟩
abbrev main_v205 : Ref sig .tc := ⟨.hbm, 384, rfl⟩
abbrev main_v206 : Ref sig .tc := ⟨.hbm, 385, rfl⟩
abbrev main_v207 : Ref sig .tc := ⟨.hbm, 386, rfl⟩
abbrev main_v208 : Ref sig .tc := ⟨.hbm, 387, rfl⟩
abbrev main_v209 : Ref sig .tc := ⟨.hbm, 388, rfl⟩
abbrev main_v210 : Ref sig .tc := ⟨.hbm, 389, rfl⟩
abbrev main_v211 : Ref sig .tc := ⟨.hbm, 390, rfl⟩
abbrev main_v212 : Ref sig .tc := ⟨.hbm, 391, rfl⟩
abbrev main_v213 : Ref sig .tc := ⟨.hbm, 392, rfl⟩
abbrev main_v214 : Ref sig .tc := ⟨.hbm, 393, rfl⟩
abbrev main_call11_cst : Ref sig .tc := ⟨.hbm, 394, rfl⟩
abbrev main_call11_v0 : Ref sig .tc := ⟨.hbm, 395, rfl⟩
abbrev main_v215 : Ref sig .tc := ⟨.hbm, 396, rfl⟩
abbrev main_v216 : Ref sig .tc := ⟨.hbm, 397, rfl⟩
abbrev main_v217 : Ref sig .tc := ⟨.hbm, 398, rfl⟩
abbrev main_v218 : Ref sig .tc := ⟨.hbm, 399, rfl⟩
abbrev main_v219 : Ref sig .tc := ⟨.hbm, 400, rfl⟩
abbrev main_v220 : Ref sig .tc := ⟨.hbm, 401, rfl⟩
abbrev main_v221 : Ref sig .tc := ⟨.hbm, 402, rfl⟩
abbrev main_v222 : Ref sig .tc := ⟨.hbm, 403, rfl⟩
abbrev main_v223 : Ref sig .tc := ⟨.hbm, 404, rfl⟩
abbrev main_v224 : Ref sig .tc := ⟨.hbm, 405, rfl⟩
abbrev main_v225 : Ref sig .tc := ⟨.hbm, 406, rfl⟩
abbrev main_v226 : Ref sig .tc := ⟨.hbm, 407, rfl⟩
abbrev main_v227 : Ref sig .tc := ⟨.hbm, 408, rfl⟩
abbrev main_v228 : Ref sig .tc := ⟨.hbm, 409, rfl⟩
abbrev main_cst_32 : Ref sig .tc := ⟨.hbm, 410, rfl⟩
abbrev main_v229 : Ref sig .tc := ⟨.hbm, 411, rfl⟩
abbrev main_v230 : Ref sig .tc := ⟨.hbm, 412, rfl⟩
abbrev main_cst_33 : Ref sig .tc := ⟨.hbm, 413, rfl⟩
abbrev main_v231 : Ref sig .tc := ⟨.hbm, 414, rfl⟩
abbrev main_v232 : Ref sig .tc := ⟨.hbm, 415, rfl⟩
abbrev main_c_34 : Ref sig .tc := ⟨.hbm, 416, rfl⟩
abbrev main_call12_cst : Ref sig .tc := ⟨.hbm, 417, rfl⟩
abbrev main_call12_v0 : Ref sig .tc := ⟨.hbm, 418, rfl⟩
abbrev main_call12_v1 : Ref sig .tc := ⟨.hbm, 419, rfl⟩
abbrev main_call12_cst_0 : Ref sig .tc := ⟨.hbm, 420, rfl⟩
abbrev main_call12_v2 : Ref sig .tc := ⟨.hbm, 421, rfl⟩
abbrev main_call12_v3 : Ref sig .tc := ⟨.hbm, 422, rfl⟩
abbrev main_call12_v4 : Ref sig .tc := ⟨.hbm, 423, rfl⟩
abbrev main_call12_v5 : Ref sig .tc := ⟨.hbm, 424, rfl⟩
abbrev main_call12_v6 : Ref sig .tc := ⟨.hbm, 425, rfl⟩
abbrev main_call12_v7 : Ref sig .tc := ⟨.hbm, 426, rfl⟩
abbrev main_call12_cst_1 : Ref sig .tc := ⟨.hbm, 427, rfl⟩
abbrev main_call12_v8 : Ref sig .tc := ⟨.hbm, 428, rfl⟩
abbrev main_call12_cst_2 : Ref sig .tc := ⟨.hbm, 429, rfl⟩
abbrev main_call12_v9 : Ref sig .tc := ⟨.hbm, 430, rfl⟩
abbrev main_call12_v10 : Ref sig .tc := ⟨.hbm, 431, rfl⟩
abbrev main_call12_v11 : Ref sig .tc := ⟨.hbm, 432, rfl⟩
abbrev main_call12_v12 : Ref sig .tc := ⟨.hbm, 433, rfl⟩
abbrev main_call12_cst_3 : Ref sig .tc := ⟨.hbm, 434, rfl⟩
abbrev main_call12_v13 : Ref sig .tc := ⟨.hbm, 435, rfl⟩
abbrev main_call12_cst_4 : Ref sig .tc := ⟨.hbm, 436, rfl⟩
abbrev main_call12_call0_v0 : Ref sig .tc := ⟨.hbm, 437, rfl⟩
abbrev main_call12_call0_v1 : Ref sig .tc := ⟨.hbm, 438, rfl⟩
abbrev main_v233 : Ref sig .tc := ⟨.hbm, 439, rfl⟩
abbrev main_v234 : Ref sig .tc := ⟨.hbm, 440, rfl⟩
abbrev main_v235 : Ref sig .tc := ⟨.hbm, 441, rfl⟩
abbrev main_cst_35 : Ref sig .tc := ⟨.hbm, 442, rfl⟩
abbrev main_v236 : Ref sig .tc := ⟨.hbm, 443, rfl⟩
abbrev main_v237 : Ref sig .tc := ⟨.hbm, 444, rfl⟩
abbrev main_v238 : Ref sig .tc := ⟨.hbm, 445, rfl⟩
abbrev main_v239 : Ref sig .tc := ⟨.hbm, 446, rfl⟩
abbrev main_v240 : Ref sig .tc := ⟨.hbm, 447, rfl⟩
abbrev main_v241 : Ref sig .tc := ⟨.hbm, 448, rfl⟩
abbrev main_v242 : Ref sig .tc := ⟨.hbm, 449, rfl⟩
abbrev main_v243 : Ref sig .tc := ⟨.hbm, 450, rfl⟩
abbrev main_v244 : Ref sig .tc := ⟨.hbm, 451, rfl⟩
abbrev main_v245 : Ref sig .tc := ⟨.hbm, 452, rfl⟩
abbrev main_v246 : Ref sig .tc := ⟨.hbm, 453, rfl⟩
abbrev main_call13_cst : Ref sig .tc := ⟨.hbm, 454, rfl⟩
abbrev main_call13_v0 : Ref sig .tc := ⟨.hbm, 455, rfl⟩
abbrev main_v247 : Ref sig .tc := ⟨.hbm, 456, rfl⟩
abbrev main_v248 : Ref sig .tc := ⟨.hbm, 457, rfl⟩
abbrev main_v249 : Ref sig .tc := ⟨.hbm, 458, rfl⟩
abbrev main_v250 : Ref sig .tc := ⟨.hbm, 459, rfl⟩
abbrev main_v251 : Ref sig .tc := ⟨.hbm, 460, rfl⟩
abbrev main_v252 : Ref sig .tc := ⟨.hbm, 461, rfl⟩
abbrev main_v253 : Ref sig .tc := ⟨.hbm, 462, rfl⟩
abbrev main_v254 : Ref sig .tc := ⟨.hbm, 463, rfl⟩
abbrev main_v255 : Ref sig .tc := ⟨.hbm, 464, rfl⟩
abbrev main_v256 : Ref sig .tc := ⟨.hbm, 465, rfl⟩
abbrev main_v257 : Ref sig .tc := ⟨.hbm, 466, rfl⟩
abbrev main_v258 : Ref sig .tc := ⟨.hbm, 467, rfl⟩
abbrev main_v259 : Ref sig .tc := ⟨.hbm, 468, rfl⟩
abbrev main_v260 : Ref sig .tc := ⟨.hbm, 469, rfl⟩
abbrev main_cst_36 : Ref sig .tc := ⟨.hbm, 470, rfl⟩
abbrev main_v261 : Ref sig .tc := ⟨.hbm, 471, rfl⟩
abbrev main_v262 : Ref sig .tc := ⟨.hbm, 472, rfl⟩
abbrev main_cst_37 : Ref sig .tc := ⟨.hbm, 473, rfl⟩
abbrev main_v263 : Ref sig .tc := ⟨.hbm, 474, rfl⟩
abbrev main_v264 : Ref sig .tc := ⟨.hbm, 475, rfl⟩
abbrev main_c_38 : Ref sig .tc := ⟨.hbm, 476, rfl⟩
abbrev main_call14_cst : Ref sig .tc := ⟨.hbm, 477, rfl⟩
abbrev main_call14_v0 : Ref sig .tc := ⟨.hbm, 478, rfl⟩
abbrev main_call14_v1 : Ref sig .tc := ⟨.hbm, 479, rfl⟩
abbrev main_call14_cst_0 : Ref sig .tc := ⟨.hbm, 480, rfl⟩
abbrev main_call14_v2 : Ref sig .tc := ⟨.hbm, 481, rfl⟩
abbrev main_call14_v3 : Ref sig .tc := ⟨.hbm, 482, rfl⟩
abbrev main_call14_v4 : Ref sig .tc := ⟨.hbm, 483, rfl⟩
abbrev main_call14_v5 : Ref sig .tc := ⟨.hbm, 484, rfl⟩
abbrev main_call14_v6 : Ref sig .tc := ⟨.hbm, 485, rfl⟩
abbrev main_call14_v7 : Ref sig .tc := ⟨.hbm, 486, rfl⟩
abbrev main_call14_cst_1 : Ref sig .tc := ⟨.hbm, 487, rfl⟩
abbrev main_call14_v8 : Ref sig .tc := ⟨.hbm, 488, rfl⟩
abbrev main_call14_cst_2 : Ref sig .tc := ⟨.hbm, 489, rfl⟩
abbrev main_call14_v9 : Ref sig .tc := ⟨.hbm, 490, rfl⟩
abbrev main_call14_v10 : Ref sig .tc := ⟨.hbm, 491, rfl⟩
abbrev main_call14_v11 : Ref sig .tc := ⟨.hbm, 492, rfl⟩
abbrev main_call14_v12 : Ref sig .tc := ⟨.hbm, 493, rfl⟩
abbrev main_call14_cst_3 : Ref sig .tc := ⟨.hbm, 494, rfl⟩
abbrev main_call14_v13 : Ref sig .tc := ⟨.hbm, 495, rfl⟩
abbrev main_call14_cst_4 : Ref sig .tc := ⟨.hbm, 496, rfl⟩
abbrev main_call14_call0_v0 : Ref sig .tc := ⟨.hbm, 497, rfl⟩
abbrev main_call14_call0_v1 : Ref sig .tc := ⟨.hbm, 498, rfl⟩
abbrev main_v265 : Ref sig .tc := ⟨.hbm, 499, rfl⟩
abbrev main_v266 : Ref sig .tc := ⟨.hbm, 500, rfl⟩
abbrev main_v267 : Ref sig .tc := ⟨.hbm, 501, rfl⟩
abbrev main_cst_39 : Ref sig .tc := ⟨.hbm, 502, rfl⟩
abbrev main_v268 : Ref sig .tc := ⟨.hbm, 503, rfl⟩
abbrev main_v269 : Ref sig .tc := ⟨.hbm, 504, rfl⟩
abbrev main_v270 : Ref sig .tc := ⟨.hbm, 505, rfl⟩
abbrev main_v271 : Ref sig .tc := ⟨.hbm, 506, rfl⟩
abbrev main_v272 : Ref sig .tc := ⟨.hbm, 507, rfl⟩
abbrev main_v273 : Ref sig .tc := ⟨.hbm, 508, rfl⟩
abbrev main_v274 : Ref sig .tc := ⟨.hbm, 509, rfl⟩
abbrev main_v275 : Ref sig .tc := ⟨.hbm, 510, rfl⟩
abbrev main_v276 : Ref sig .tc := ⟨.hbm, 511, rfl⟩
abbrev main_v277 : Ref sig .tc := ⟨.hbm, 512, rfl⟩
abbrev main_v278 : Ref sig .tc := ⟨.hbm, 513, rfl⟩
abbrev main_call15_cst : Ref sig .tc := ⟨.hbm, 514, rfl⟩
abbrev main_call15_v0 : Ref sig .tc := ⟨.hbm, 515, rfl⟩
abbrev main_v279 : Ref sig .tc := ⟨.hbm, 516, rfl⟩
abbrev main_v280 : Ref sig .tc := ⟨.hbm, 517, rfl⟩
abbrev main_v281 : Ref sig .tc := ⟨.hbm, 518, rfl⟩
abbrev main_v282 : Ref sig .tc := ⟨.hbm, 519, rfl⟩
abbrev main_v283 : Ref sig .tc := ⟨.hbm, 520, rfl⟩
abbrev main_v284 : Ref sig .tc := ⟨.hbm, 521, rfl⟩
abbrev main_v285 : Ref sig .tc := ⟨.hbm, 522, rfl⟩
abbrev main_v286 : Ref sig .tc := ⟨.hbm, 523, rfl⟩
abbrev main_v287 : Ref sig .tc := ⟨.hbm, 524, rfl⟩
abbrev main_v288 : Ref sig .tc := ⟨.hbm, 525, rfl⟩
abbrev main_v289 : Ref sig .tc := ⟨.hbm, 526, rfl⟩
abbrev main_v290 : Ref sig .tc := ⟨.hbm, 527, rfl⟩
abbrev main_v291 : Ref sig .tc := ⟨.hbm, 528, rfl⟩
abbrev main_v292 : Ref sig .tc := ⟨.hbm, 529, rfl⟩
abbrev main_cst_40 : Ref sig .tc := ⟨.hbm, 530, rfl⟩
abbrev main_v293 : Ref sig .tc := ⟨.hbm, 531, rfl⟩
abbrev main_v294 : Ref sig .tc := ⟨.hbm, 532, rfl⟩
abbrev main_cst_41 : Ref sig .tc := ⟨.hbm, 533, rfl⟩
abbrev main_v295 : Ref sig .tc := ⟨.hbm, 534, rfl⟩
abbrev main_v296 : Ref sig .tc := ⟨.hbm, 535, rfl⟩
abbrev main_c_42 : Ref sig .tc := ⟨.hbm, 536, rfl⟩
abbrev main_call16_cst : Ref sig .tc := ⟨.hbm, 537, rfl⟩
abbrev main_call16_v0 : Ref sig .tc := ⟨.hbm, 538, rfl⟩
abbrev main_call16_v1 : Ref sig .tc := ⟨.hbm, 539, rfl⟩
abbrev main_call16_cst_0 : Ref sig .tc := ⟨.hbm, 540, rfl⟩
abbrev main_call16_v2 : Ref sig .tc := ⟨.hbm, 541, rfl⟩
abbrev main_call16_v3 : Ref sig .tc := ⟨.hbm, 542, rfl⟩
abbrev main_call16_v4 : Ref sig .tc := ⟨.hbm, 543, rfl⟩
abbrev main_call16_v5 : Ref sig .tc := ⟨.hbm, 544, rfl⟩
abbrev main_call16_v6 : Ref sig .tc := ⟨.hbm, 545, rfl⟩
abbrev main_call16_v7 : Ref sig .tc := ⟨.hbm, 546, rfl⟩
abbrev main_call16_cst_1 : Ref sig .tc := ⟨.hbm, 547, rfl⟩
abbrev main_call16_v8 : Ref sig .tc := ⟨.hbm, 548, rfl⟩
abbrev main_call16_cst_2 : Ref sig .tc := ⟨.hbm, 549, rfl⟩
abbrev main_call16_v9 : Ref sig .tc := ⟨.hbm, 550, rfl⟩
abbrev main_call16_v10 : Ref sig .tc := ⟨.hbm, 551, rfl⟩
abbrev main_call16_v11 : Ref sig .tc := ⟨.hbm, 552, rfl⟩
abbrev main_call16_v12 : Ref sig .tc := ⟨.hbm, 553, rfl⟩
abbrev main_call16_cst_3 : Ref sig .tc := ⟨.hbm, 554, rfl⟩
abbrev main_call16_v13 : Ref sig .tc := ⟨.hbm, 555, rfl⟩
abbrev main_call16_cst_4 : Ref sig .tc := ⟨.hbm, 556, rfl⟩
abbrev main_call16_call0_v0 : Ref sig .tc := ⟨.hbm, 557, rfl⟩
abbrev main_call16_call0_v1 : Ref sig .tc := ⟨.hbm, 558, rfl⟩
abbrev main_v297 : Ref sig .tc := ⟨.hbm, 559, rfl⟩
abbrev main_v298 : Ref sig .tc := ⟨.hbm, 560, rfl⟩
abbrev main_v299 : Ref sig .tc := ⟨.hbm, 561, rfl⟩
abbrev main_cst_43 : Ref sig .tc := ⟨.hbm, 562, rfl⟩
abbrev main_v300 : Ref sig .tc := ⟨.hbm, 563, rfl⟩
abbrev main_v301 : Ref sig .tc := ⟨.hbm, 564, rfl⟩
abbrev main_v302 : Ref sig .tc := ⟨.hbm, 565, rfl⟩
abbrev main_v303 : Ref sig .tc := ⟨.hbm, 566, rfl⟩
abbrev main_v304 : Ref sig .tc := ⟨.hbm, 567, rfl⟩
abbrev main_v305 : Ref sig .tc := ⟨.hbm, 568, rfl⟩
abbrev main_v306 : Ref sig .tc := ⟨.hbm, 569, rfl⟩
abbrev main_v307 : Ref sig .tc := ⟨.hbm, 570, rfl⟩
abbrev main_v308 : Ref sig .tc := ⟨.hbm, 571, rfl⟩
abbrev main_v309 : Ref sig .tc := ⟨.hbm, 572, rfl⟩
abbrev main_v310 : Ref sig .tc := ⟨.hbm, 573, rfl⟩
abbrev main_call17_cst : Ref sig .tc := ⟨.hbm, 574, rfl⟩
abbrev main_call17_v0 : Ref sig .tc := ⟨.hbm, 575, rfl⟩
abbrev main_v311 : Ref sig .tc := ⟨.hbm, 576, rfl⟩
abbrev main_v312 : Ref sig .tc := ⟨.hbm, 577, rfl⟩
abbrev main_v313 : Ref sig .tc := ⟨.hbm, 578, rfl⟩
abbrev main_v314 : Ref sig .tc := ⟨.hbm, 579, rfl⟩
abbrev main_v315 : Ref sig .tc := ⟨.hbm, 580, rfl⟩
abbrev main_v316 : Ref sig .tc := ⟨.hbm, 581, rfl⟩
abbrev main_cst_44 : Ref sig .tc := ⟨.hbm, 582, rfl⟩
abbrev main_v317 : Ref sig .tc := ⟨.hbm, 583, rfl⟩
abbrev main_v318 : Ref sig .tc := ⟨.hbm, 584, rfl⟩
abbrev main_cst_45 : Ref sig .tc := ⟨.hbm, 585, rfl⟩
abbrev main_v319 : Ref sig .tc := ⟨.hbm, 586, rfl⟩
abbrev main_v320 : Ref sig .tc := ⟨.hbm, 587, rfl⟩

abbrev nD : Nat := 1
abbrev τ : Topo := Topo.v7x

variable {F : FTy → Type} [FloatOps F]
-- ==== Proof.Body.Whole.lean ====
/- Owning a whole buffer at named contents. -/
module

public import Idealize.ShloMosaic.Lib.Pipeline.Frame

@[expose] public section

noncomputable section

namespace Cert.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Owning a whole buffer that reads `X` is holding its one raw content that reads `X`. -/
theorem owns_whole (c : Thread nD τ) {sp : Space} {sh : Shape} {e : EltTy} {M : Memref sig c.2.kind sp sh e}
    (h : M.IsWhole) (q : PosShare TreeShare) (X : sh.Idx → Val e) :
    (owns c M q X : sProp 𝕄) = (M.view.loc c ↦[M.view.set]{q} h.unread X) := by
  have h₁ : (owns c M q X : sProp 𝕄) ⊢ (M.view.loc c ↦[M.view.set]{q} h.unread X) := by
    unfold owns
    iintro ⟨%f, %hf, H⟩
    obtain rfl := h.eq_unread hf
    iexact H
  have h₂ : (M.view.loc c ↦[M.view.set]{q} h.unread X : sProp 𝕄) ⊢ owns c M q X := by
    unfold owns
    iintro H
    iexists _; isplitr
    · ipureintro; exact h.read_unread X
    iexact H
  exact Entails.antisymm h₁ h₂

end Cert.Body

end
-- ==== Proof.Body.RunA.lean ====
/- The whole kernel body run at the first grid point: the weights are copied into the scratches, the two accumulators start from zero. -/
module

public import proofs.«01_k».proof.Proof.Gen.KernelIdeal.Frame.Runs
public import proofs.«01_k».proof.Proof.Body.Whole

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at the first grid point, on whole buffers with the inputs at their contents: the lists of stores each buffer ends with,
    together with the proof that the body runs and leaves exactly these stores. -/
def runA (c : Dev nD) (i : grid0.Coords) (arg1 : Memref sig .tc .vmem S2048x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S4x512x512 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S4x512x512 .f32) (harg12 : arg12.IsWhole) (arg13 : Memref sig .tc .vmem S4x512 .f32) (harg13 : arg13.IsWhole) (arg14 : Memref sig .tc .vmem S4x512 .f32) (harg14 : arg14.IsWhole) (arg15 : Memref sig .tc .vmem S4x512 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S1024x64 .f32) (harg18 : arg18.IsWhole) (arg19 : Memref sig .tc .vmem S64x1024 .f32) (harg19 : arg19.IsWhole) (arg20 : Memref sig .tc .vmem S1x1024 .f32) (harg20 : arg20.IsWhole) (arg21 : Memref sig .tc .vmem S2048x256 .f32) (harg21 : arg21.IsWhole) (arg22 : Memref sig .tc .vmem S2048x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S128x512 .bf16) (harg25 : arg25.IsWhole) (arg26 : Memref sig .tc .vmem S4x512x512 .bf16) (harg26 : arg26.IsWhole) (arg27 : Memref sig .tc .vmem S512x256 .bf16) (harg27 : arg27.IsWhole) (arg28 : Memref sig .tc .vmem S256x512 .bf16) (harg28 : arg28.IsWhole) (arg29 : Memref sig .tc .vmem S4x512x512 .bf16) (harg29 : arg29.IsWhole) (arg30 : Memref sig .tc .vmem S512x128 .bf16) (harg30 : arg30.IsWhole) (arg31 : Memref sig .tc .vmem S1024x64 .bf16) (harg31 : arg31.IsWhole) (arg32 : Memref sig .tc .vmem S64x1024 .bf16) (harg32 : arg32.IsWhole) (arg33 : Memref sig .tc .vmem S8x1024 .f32) (harg33 : arg33.IsWhole) (arg34 : Memref sig .tc .vmem S8x128 .f32) (harg34 : arg34.IsWhole) (hc0 : cond0_0 i) (hc1 : ¬cond0_1 i)
    (x0 : Vec F S2048x128 .f32) (x1 : Vec F S128x512 .f32) (x2 : Vec F S1x512 .f32) (x3 : Vec F S4x512x512 .f32) (x4 : Vec F S4x512 .f32) (x5 : Vec F S4x512 .f32) (x6 : Vec F S4x512 .f32) (x7 : Vec F S512x256 .f32) (x8 : Vec F S1x256 .f32) (x9 : Vec F S256x512 .f32) (x10 : Vec F S1x512 .f32) (x11 : Vec F S4x512x512 .f32) (x12 : Vec F S4x512 .f32) (x13 : Vec F S4x512 .f32) (x14 : Vec F S4x512 .f32) (x15 : Vec F S512x128 .f32) (x16 : Vec F S1x128 .f32) (x17 : Vec F S1024x64 .f32) (x18 : Vec F S64x1024 .f32) (x19 : Vec F S1x1024 .f32) :
    Σ' (L20 : List (View.Piece (Elt F) S2048x256 .f32)), Σ' (L21 : List (View.Piece (Elt F) S2048x128 .f32)), Σ' (L22 : List (View.Piece (Elt F) S8x128 .f32)), Σ' (L23 : List (View.Piece (Elt F) S8x128 .f32)), Σ' (LS0 : List (View.Piece (Elt F) S128x512 .bf16)), Σ' (LS1 : List (View.Piece (Elt F) S4x512x512 .bf16)), Σ' (LS2 : List (View.Piece (Elt F) S512x256 .bf16)), Σ' (LS3 : List (View.Piece (Elt F) S256x512 .bf16)), Σ' (LS4 : List (View.Piece (Elt F) S4x512x512 .bf16)), Σ' (LS5 : List (View.Piece (Elt F) S512x128 .bf16)), Σ' (LS6 : List (View.Piece (Elt F) S1024x64 .bf16)), Σ' (LS7 : List (View.Piece (Elt F) S64x1024 .bf16)), Σ' (LS8 : List (View.Piece (Elt F) S8x1024 .f32)), { LS9 : List (View.Piece (Elt F) S8x128 .f32) //
      ∀ (xi22 : Vec F S8x128 .f32) (xi23 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xi22 ∗ owns (c : Thread nD τ) arg24 fullShare xi23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ owns (c : Thread nD τ) arg23 fullShare xi22 ∗ owns (c : Thread nD τ) arg24 fullShare xi23 ∗ (∃ f, arg25.view.loc (c : Thread nD τ) ↦[arg25.view.set]{fullShare} arg25.view.writes (Elt F) f LS0) ∗ (∃ f, arg26.view.loc (c : Thread nD τ) ↦[arg26.view.set]{fullShare} arg26.view.writes (Elt F) f LS1) ∗ (∃ f, arg27.view.loc (c : Thread nD τ) ↦[arg27.view.set]{fullShare} arg27.view.writes (Elt F) f LS2) ∗ (∃ f, arg28.view.loc (c : Thread nD τ) ↦[arg28.view.set]{fullShare} arg28.view.writes (Elt F) f LS3) ∗ (∃ f, arg29.view.loc (c : Thread nD τ) ↦[arg29.view.set]{fullShare} arg29.view.writes (Elt F) f LS4) ∗ (∃ f, arg30.view.loc (c : Thread nD τ) ↦[arg30.view.set]{fullShare} arg30.view.writes (Elt F) f LS5) ∗ (∃ f, arg31.view.loc (c : Thread nD τ) ↦[arg31.view.set]{fullShare} arg31.view.writes (Elt F) f LS6) ∗ (∃ f, arg32.view.loc (c : Thread nD τ) ↦[arg32.view.set]{fullShare} arg32.view.writes (Elt F) f LS7) ∗ (∃ f, arg33.view.loc (c : Thread nD τ) ↦[arg33.view.set]{fullShare} arg33.view.writes (Elt F) f LS8) ∗ (∃ f, arg34.view.loc (c : Thread nD τ) ↦[arg34.view.set]{fullShare} arg34.view.writes (Elt F) f LS9)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, [], [], ?_, ?_, ?_, ?_, ?_, ?_, ?_, ?_, ?_, ?_, fun xi22 xi23 E K => ?run⟩
  case run =>
    simp only [Cert.Body.owns_whole (c : Thread nD τ) harg1, Cert.Body.owns_whole (c : Thread nD τ) harg2, Cert.Body.owns_whole (c : Thread nD τ) harg3, Cert.Body.owns_whole (c : Thread nD τ) harg4, Cert.Body.owns_whole (c : Thread nD τ) harg5, Cert.Body.owns_whole (c : Thread nD τ) harg6, Cert.Body.owns_whole (c : Thread nD τ) harg7, Cert.Body.owns_whole (c : Thread nD τ) harg8, Cert.Body.owns_whole (c : Thread nD τ) harg9, Cert.Body.owns_whole (c : Thread nD τ) harg10, Cert.Body.owns_whole (c : Thread nD τ) harg11, Cert.Body.owns_whole (c : Thread nD τ) harg12, Cert.Body.owns_whole (c : Thread nD τ) harg13, Cert.Body.owns_whole (c : Thread nD τ) harg14, Cert.Body.owns_whole (c : Thread nD τ) harg15, Cert.Body.owns_whole (c : Thread nD τ) harg16, Cert.Body.owns_whole (c : Thread nD τ) harg17, Cert.Body.owns_whole (c : Thread nD τ) harg18, Cert.Body.owns_whole (c : Thread nD τ) harg19, Cert.Body.owns_whole (c : Thread nD τ) harg20, Cert.Body.owns_whole (c : Thread nD τ) harg21, Cert.Body.owns_whole (c : Thread nD τ) harg22, Cert.Body.owns_whole (c : Thread nD τ) harg23, Cert.Body.owns_whole (c : Thread nD τ) harg24, Cert.Body.owns_whole (c : Thread nD τ) harg25, Cert.Body.owns_whole (c : Thread nD τ) harg26, Cert.Body.owns_whole (c : Thread nD τ) harg27, Cert.Body.owns_whole (c : Thread nD τ) harg28, Cert.Body.owns_whole (c : Thread nD τ) harg29, Cert.Body.owns_whole (c : Thread nD τ) harg30, Cert.Body.owns_whole (c : Thread nD τ) harg31, Cert.Body.owns_whole (c : Thread nD τ) harg32, Cert.Body.owns_whole (c : Thread nD τ) harg33, Cert.Body.owns_whole (c : Thread nD τ) harg34]
    iintro ⟨H0, H1, H2, H3, H4, H5, H6, H7, H8, H9, H10, H11, H12, H13, H14, H15, H16, H17, H18, H19, ⟨%d20, H20⟩, ⟨%d21, H21⟩, H22, H23, ⟨%ds0, HS0⟩, ⟨%ds1, HS1⟩, ⟨%ds2, HS2⟩, ⟨%ds3, HS3⟩, ⟨%ds4, HS4⟩, ⟨%ds5, HS5⟩, ⟨%ds6, HS6⟩, ⟨%ds7, HS7⟩, ⟨%ds8, HS8⟩, ⟨%ds9, HS9⟩, Hk⟩
    simp only [cc0__fused_body_eq_skeleton]; unfold cc0__fused_body_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    sl_exec (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexact H22
    isplitl [H23]; · iexact H23
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Body

end
-- ==== Proof.Body.RunB.lean ====
/- The whole kernel body run at a middle grid point: the scratches hold what the point before left; the two accumulators are read, added to and written back. -/
module

public import proofs.«01_k».proof.Proof.Gen.KernelIdeal.Frame.Runs
public import proofs.«01_k».proof.Proof.Body.Whole

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at a middle grid point, on whole buffers with the inputs at their contents: the lists of stores each buffer ends with,
    together with the proof that the body runs and leaves exactly these stores. -/
def runB (c : Dev nD) (i : grid0.Coords) (arg1 : Memref sig .tc .vmem S2048x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S4x512x512 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S4x512x512 .f32) (harg12 : arg12.IsWhole) (arg13 : Memref sig .tc .vmem S4x512 .f32) (harg13 : arg13.IsWhole) (arg14 : Memref sig .tc .vmem S4x512 .f32) (harg14 : arg14.IsWhole) (arg15 : Memref sig .tc .vmem S4x512 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S1024x64 .f32) (harg18 : arg18.IsWhole) (arg19 : Memref sig .tc .vmem S64x1024 .f32) (harg19 : arg19.IsWhole) (arg20 : Memref sig .tc .vmem S1x1024 .f32) (harg20 : arg20.IsWhole) (arg21 : Memref sig .tc .vmem S2048x256 .f32) (harg21 : arg21.IsWhole) (arg22 : Memref sig .tc .vmem S2048x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S128x512 .bf16) (harg25 : arg25.IsWhole) (arg26 : Memref sig .tc .vmem S4x512x512 .bf16) (harg26 : arg26.IsWhole) (arg27 : Memref sig .tc .vmem S512x256 .bf16) (harg27 : arg27.IsWhole) (arg28 : Memref sig .tc .vmem S256x512 .bf16) (harg28 : arg28.IsWhole) (arg29 : Memref sig .tc .vmem S4x512x512 .bf16) (harg29 : arg29.IsWhole) (arg30 : Memref sig .tc .vmem S512x128 .bf16) (harg30 : arg30.IsWhole) (arg31 : Memref sig .tc .vmem S1024x64 .bf16) (harg31 : arg31.IsWhole) (arg32 : Memref sig .tc .vmem S64x1024 .bf16) (harg32 : arg32.IsWhole) (arg33 : Memref sig .tc .vmem S8x1024 .f32) (harg33 : arg33.IsWhole) (arg34 : Memref sig .tc .vmem S8x128 .f32) (harg34 : arg34.IsWhole) (hc0 : ¬cond0_0 i) (hc1 : ¬cond0_1 i)
    (x0 : Vec F S2048x128 .f32) (x1 : Vec F S128x512 .f32) (x2 : Vec F S1x512 .f32) (x3 : Vec F S4x512x512 .f32) (x4 : Vec F S4x512 .f32) (x5 : Vec F S4x512 .f32) (x6 : Vec F S4x512 .f32) (x7 : Vec F S512x256 .f32) (x8 : Vec F S1x256 .f32) (x9 : Vec F S256x512 .f32) (x10 : Vec F S1x512 .f32) (x11 : Vec F S4x512x512 .f32) (x12 : Vec F S4x512 .f32) (x13 : Vec F S4x512 .f32) (x14 : Vec F S4x512 .f32) (x15 : Vec F S512x128 .f32) (x16 : Vec F S1x128 .f32) (x17 : Vec F S1024x64 .f32) (x18 : Vec F S64x1024 .f32) (x19 : Vec F S1x1024 .f32) (xs0 : Vec F S128x512 .bf16) (xs1 : Vec F S4x512x512 .bf16) (xs2 : Vec F S512x256 .bf16) (xs3 : Vec F S256x512 .bf16) (xs4 : Vec F S4x512x512 .bf16) (xs5 : Vec F S512x128 .bf16) (xs6 : Vec F S1024x64 .bf16) (xs7 : Vec F S64x1024 .bf16) (xs8 : Vec F S8x1024 .f32) (xs9 : Vec F S8x128 .f32) :
    Σ' (L20 : List (View.Piece (Elt F) S2048x256 .f32)), Σ' (L21 : List (View.Piece (Elt F) S2048x128 .f32)), Σ' (L22 : List (View.Piece (Elt F) S8x128 .f32)), Σ' (L23 : List (View.Piece (Elt F) S8x128 .f32)), Σ' (LS0 : List (View.Piece (Elt F) S128x512 .bf16)), Σ' (LS1 : List (View.Piece (Elt F) S4x512x512 .bf16)), Σ' (LS2 : List (View.Piece (Elt F) S512x256 .bf16)), Σ' (LS3 : List (View.Piece (Elt F) S256x512 .bf16)), Σ' (LS4 : List (View.Piece (Elt F) S4x512x512 .bf16)), Σ' (LS5 : List (View.Piece (Elt F) S512x128 .bf16)), Σ' (LS6 : List (View.Piece (Elt F) S1024x64 .bf16)), Σ' (LS7 : List (View.Piece (Elt F) S64x1024 .bf16)), Σ' (LS8 : List (View.Piece (Elt F) S8x1024 .f32)), { LS9 : List (View.Piece (Elt F) S8x128 .f32) //
      ∀ (xi22 : Vec F S8x128 .f32) (xi23 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xi22 ∗ owns (c : Thread nD τ) arg24 fullShare xi23 ∗ owns (c : Thread nD τ) arg25 fullShare xs0 ∗ owns (c : Thread nD τ) arg26 fullShare xs1 ∗ owns (c : Thread nD τ) arg27 fullShare xs2 ∗ owns (c : Thread nD τ) arg28 fullShare xs3 ∗ owns (c : Thread nD τ) arg29 fullShare xs4 ∗ owns (c : Thread nD τ) arg30 fullShare xs5 ∗ owns (c : Thread nD τ) arg31 fullShare xs6 ∗ owns (c : Thread nD τ) arg32 fullShare xs7 ∗ owns (c : Thread nD τ) arg33 fullShare xs8 ∗ owns (c : Thread nD τ) arg34 fullShare xs9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ owns (c : Thread nD τ) arg23 fullShare xi22 ∗ owns (c : Thread nD τ) arg24 fullShare xi23 ∗ owns (c : Thread nD τ) arg25 fullShare xs0 ∗ owns (c : Thread nD τ) arg26 fullShare xs1 ∗ owns (c : Thread nD τ) arg27 fullShare xs2 ∗ owns (c : Thread nD τ) arg28 fullShare xs3 ∗ owns (c : Thread nD τ) arg29 fullShare xs4 ∗ owns (c : Thread nD τ) arg30 fullShare xs5 ∗ owns (c : Thread nD τ) arg31 fullShare xs6 ∗ owns (c : Thread nD τ) arg32 fullShare xs7 ∗ (∃ f, arg33.view.loc (c : Thread nD τ) ↦[arg33.view.set]{fullShare} arg33.view.writes (Elt F) f LS8) ∗ (∃ f, arg34.view.loc (c : Thread nD τ) ↦[arg34.view.set]{fullShare} arg34.view.writes (Elt F) f LS9)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, [], [], [], [], [], [], [], [], [], [], ?_, ?_, fun xi22 xi23 E K => ?run⟩
  case run =>
    simp only [Cert.Body.owns_whole (c : Thread nD τ) harg1, Cert.Body.owns_whole (c : Thread nD τ) harg2, Cert.Body.owns_whole (c : Thread nD τ) harg3, Cert.Body.owns_whole (c : Thread nD τ) harg4, Cert.Body.owns_whole (c : Thread nD τ) harg5, Cert.Body.owns_whole (c : Thread nD τ) harg6, Cert.Body.owns_whole (c : Thread nD τ) harg7, Cert.Body.owns_whole (c : Thread nD τ) harg8, Cert.Body.owns_whole (c : Thread nD τ) harg9, Cert.Body.owns_whole (c : Thread nD τ) harg10, Cert.Body.owns_whole (c : Thread nD τ) harg11, Cert.Body.owns_whole (c : Thread nD τ) harg12, Cert.Body.owns_whole (c : Thread nD τ) harg13, Cert.Body.owns_whole (c : Thread nD τ) harg14, Cert.Body.owns_whole (c : Thread nD τ) harg15, Cert.Body.owns_whole (c : Thread nD τ) harg16, Cert.Body.owns_whole (c : Thread nD τ) harg17, Cert.Body.owns_whole (c : Thread nD τ) harg18, Cert.Body.owns_whole (c : Thread nD τ) harg19, Cert.Body.owns_whole (c : Thread nD τ) harg20, Cert.Body.owns_whole (c : Thread nD τ) harg21, Cert.Body.owns_whole (c : Thread nD τ) harg22, Cert.Body.owns_whole (c : Thread nD τ) harg23, Cert.Body.owns_whole (c : Thread nD τ) harg24, Cert.Body.owns_whole (c : Thread nD τ) harg25, Cert.Body.owns_whole (c : Thread nD τ) harg26, Cert.Body.owns_whole (c : Thread nD τ) harg27, Cert.Body.owns_whole (c : Thread nD τ) harg28, Cert.Body.owns_whole (c : Thread nD τ) harg29, Cert.Body.owns_whole (c : Thread nD τ) harg30, Cert.Body.owns_whole (c : Thread nD τ) harg31, Cert.Body.owns_whole (c : Thread nD τ) harg32, Cert.Body.owns_whole (c : Thread nD τ) harg33, Cert.Body.owns_whole (c : Thread nD τ) harg34]
    iintro ⟨H0, H1, H2, H3, H4, H5, H6, H7, H8, H9, H10, H11, H12, H13, H14, H15, H16, H17, H18, H19, ⟨%d20, H20⟩, ⟨%d21, H21⟩, H22, H23, HS0, HS1, HS2, HS3, HS4, HS5, HS6, HS7, HS8, HS9, Hk⟩
    simp only [cc0__fused_body_eq_skeleton]; unfold cc0__fused_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    sl_exec (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexact H22
    isplitl [H23]; · iexact H23
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexists _; iexact HS8
    iexists _; iexact HS9

end Cert.KernelIdeal.Body

end
-- ==== Proof.Body.RunC.lean ====
/- The whole kernel body run at the last grid point: the scratches hold what the point before left; the accumulators are brought up to date and the loss and the perplexity are written. -/
module

public import proofs.«01_k».proof.Proof.Gen.KernelIdeal.Frame.Runs
public import proofs.«01_k».proof.Proof.Body.Whole

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The body at the last grid point, on whole buffers with the inputs at their contents: the lists of stores each buffer ends with,
    together with the proof that the body runs and leaves exactly these stores. -/
def runC (c : Dev nD) (i : grid0.Coords) (arg1 : Memref sig .tc .vmem S2048x128 .f32) (harg1 : arg1.IsWhole) (arg2 : Memref sig .tc .vmem S128x512 .f32) (harg2 : arg2.IsWhole) (arg3 : Memref sig .tc .vmem S1x512 .f32) (harg3 : arg3.IsWhole) (arg4 : Memref sig .tc .vmem S4x512x512 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S256x512 .f32) (harg10 : arg10.IsWhole) (arg11 : Memref sig .tc .vmem S1x512 .f32) (harg11 : arg11.IsWhole) (arg12 : Memref sig .tc .vmem S4x512x512 .f32) (harg12 : arg12.IsWhole) (arg13 : Memref sig .tc .vmem S4x512 .f32) (harg13 : arg13.IsWhole) (arg14 : Memref sig .tc .vmem S4x512 .f32) (harg14 : arg14.IsWhole) (arg15 : Memref sig .tc .vmem S4x512 .f32) (harg15 : arg15.IsWhole) (arg16 : Memref sig .tc .vmem S512x128 .f32) (harg16 : arg16.IsWhole) (arg17 : Memref sig .tc .vmem S1x128 .f32) (harg17 : arg17.IsWhole) (arg18 : Memref sig .tc .vmem S1024x64 .f32) (harg18 : arg18.IsWhole) (arg19 : Memref sig .tc .vmem S64x1024 .f32) (harg19 : arg19.IsWhole) (arg20 : Memref sig .tc .vmem S1x1024 .f32) (harg20 : arg20.IsWhole) (arg21 : Memref sig .tc .vmem S2048x256 .f32) (harg21 : arg21.IsWhole) (arg22 : Memref sig .tc .vmem S2048x128 .f32) (harg22 : arg22.IsWhole) (arg23 : Memref sig .tc .vmem S8x128 .f32) (harg23 : arg23.IsWhole) (arg24 : Memref sig .tc .vmem S8x128 .f32) (harg24 : arg24.IsWhole) (arg25 : Memref sig .tc .vmem S128x512 .bf16) (harg25 : arg25.IsWhole) (arg26 : Memref sig .tc .vmem S4x512x512 .bf16) (harg26 : arg26.IsWhole) (arg27 : Memref sig .tc .vmem S512x256 .bf16) (harg27 : arg27.IsWhole) (arg28 : Memref sig .tc .vmem S256x512 .bf16) (harg28 : arg28.IsWhole) (arg29 : Memref sig .tc .vmem S4x512x512 .bf16) (harg29 : arg29.IsWhole) (arg30 : Memref sig .tc .vmem S512x128 .bf16) (harg30 : arg30.IsWhole) (arg31 : Memref sig .tc .vmem S1024x64 .bf16) (harg31 : arg31.IsWhole) (arg32 : Memref sig .tc .vmem S64x1024 .bf16) (harg32 : arg32.IsWhole) (arg33 : Memref sig .tc .vmem S8x1024 .f32) (harg33 : arg33.IsWhole) (arg34 : Memref sig .tc .vmem S8x128 .f32) (harg34 : arg34.IsWhole) (hc0 : ¬cond0_0 i) (hc1 : cond0_1 i)
    (x0 : Vec F S2048x128 .f32) (x1 : Vec F S128x512 .f32) (x2 : Vec F S1x512 .f32) (x3 : Vec F S4x512x512 .f32) (x4 : Vec F S4x512 .f32) (x5 : Vec F S4x512 .f32) (x6 : Vec F S4x512 .f32) (x7 : Vec F S512x256 .f32) (x8 : Vec F S1x256 .f32) (x9 : Vec F S256x512 .f32) (x10 : Vec F S1x512 .f32) (x11 : Vec F S4x512x512 .f32) (x12 : Vec F S4x512 .f32) (x13 : Vec F S4x512 .f32) (x14 : Vec F S4x512 .f32) (x15 : Vec F S512x128 .f32) (x16 : Vec F S1x128 .f32) (x17 : Vec F S1024x64 .f32) (x18 : Vec F S64x1024 .f32) (x19 : Vec F S1x1024 .f32) (xs0 : Vec F S128x512 .bf16) (xs1 : Vec F S4x512x512 .bf16) (xs2 : Vec F S512x256 .bf16) (xs3 : Vec F S256x512 .bf16) (xs4 : Vec F S4x512x512 .bf16) (xs5 : Vec F S512x128 .bf16) (xs6 : Vec F S1024x64 .bf16) (xs7 : Vec F S64x1024 .bf16) (xs8 : Vec F S8x1024 .f32) (xs9 : Vec F S8x128 .f32) :
    Σ' (L20 : List (View.Piece (Elt F) S2048x256 .f32)), Σ' (L21 : List (View.Piece (Elt F) S2048x128 .f32)), Σ' (L22 : List (View.Piece (Elt F) S8x128 .f32)), Σ' (L23 : List (View.Piece (Elt F) S8x128 .f32)), Σ' (LS0 : List (View.Piece (Elt F) S128x512 .bf16)), Σ' (LS1 : List (View.Piece (Elt F) S4x512x512 .bf16)), Σ' (LS2 : List (View.Piece (Elt F) S512x256 .bf16)), Σ' (LS3 : List (View.Piece (Elt F) S256x512 .bf16)), Σ' (LS4 : List (View.Piece (Elt F) S4x512x512 .bf16)), Σ' (LS5 : List (View.Piece (Elt F) S512x128 .bf16)), Σ' (LS6 : List (View.Piece (Elt F) S1024x64 .bf16)), Σ' (LS7 : List (View.Piece (Elt F) S64x1024 .bf16)), Σ' (LS8 : List (View.Piece (Elt F) S8x1024 .f32)), { LS9 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xs0 ∗ owns (c : Thread nD τ) arg26 fullShare xs1 ∗ owns (c : Thread nD τ) arg27 fullShare xs2 ∗ owns (c : Thread nD τ) arg28 fullShare xs3 ∗ owns (c : Thread nD τ) arg29 fullShare xs4 ∗ owns (c : Thread nD τ) arg30 fullShare xs5 ∗ owns (c : Thread nD τ) arg31 fullShare xs6 ∗ owns (c : Thread nD τ) arg32 fullShare xs7 ∗ owns (c : Thread nD τ) arg33 fullShare xs8 ∗ owns (c : Thread nD τ) arg34 fullShare xs9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ owns (c : Thread nD τ) arg25 fullShare xs0 ∗ owns (c : Thread nD τ) arg26 fullShare xs1 ∗ owns (c : Thread nD τ) arg27 fullShare xs2 ∗ owns (c : Thread nD τ) arg28 fullShare xs3 ∗ owns (c : Thread nD τ) arg29 fullShare xs4 ∗ owns (c : Thread nD τ) arg30 fullShare xs5 ∗ owns (c : Thread nD τ) arg31 fullShare xs6 ∗ owns (c : Thread nD τ) arg32 fullShare xs7 ∗ (∃ f, arg33.view.loc (c : Thread nD τ) ↦[arg33.view.set]{fullShare} arg33.view.writes (Elt F) f LS8) ∗ (∃ f, arg34.view.loc (c : Thread nD τ) ↦[arg34.view.set]{fullShare} arg34.view.writes (Elt F) f LS9)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, ?_, ?_, ?_, [], [], [], [], [], [], [], [], ?_, ?_, fun E K => ?run⟩
  case run =>
    simp only [Cert.Body.owns_whole (c : Thread nD τ) harg1, Cert.Body.owns_whole (c : Thread nD τ) harg2, Cert.Body.owns_whole (c : Thread nD τ) harg3, Cert.Body.owns_whole (c : Thread nD τ) harg4, Cert.Body.owns_whole (c : Thread nD τ) harg5, Cert.Body.owns_whole (c : Thread nD τ) harg6, Cert.Body.owns_whole (c : Thread nD τ) harg7, Cert.Body.owns_whole (c : Thread nD τ) harg8, Cert.Body.owns_whole (c : Thread nD τ) harg9, Cert.Body.owns_whole (c : Thread nD τ) harg10, Cert.Body.owns_whole (c : Thread nD τ) harg11, Cert.Body.owns_whole (c : Thread nD τ) harg12, Cert.Body.owns_whole (c : Thread nD τ) harg13, Cert.Body.owns_whole (c : Thread nD τ) harg14, Cert.Body.owns_whole (c : Thread nD τ) harg15, Cert.Body.owns_whole (c : Thread nD τ) harg16, Cert.Body.owns_whole (c : Thread nD τ) harg17, Cert.Body.owns_whole (c : Thread nD τ) harg18, Cert.Body.owns_whole (c : Thread nD τ) harg19, Cert.Body.owns_whole (c : Thread nD τ) harg20, Cert.Body.owns_whole (c : Thread nD τ) harg21, Cert.Body.owns_whole (c : Thread nD τ) harg22, Cert.Body.owns_whole (c : Thread nD τ) harg23, Cert.Body.owns_whole (c : Thread nD τ) harg24, Cert.Body.owns_whole (c : Thread nD τ) harg25, Cert.Body.owns_whole (c : Thread nD τ) harg26, Cert.Body.owns_whole (c : Thread nD τ) harg27, Cert.Body.owns_whole (c : Thread nD τ) harg28, Cert.Body.owns_whole (c : Thread nD τ) harg29, Cert.Body.owns_whole (c : Thread nD τ) harg30, Cert.Body.owns_whole (c : Thread nD τ) harg31, Cert.Body.owns_whole (c : Thread nD τ) harg32, Cert.Body.owns_whole (c : Thread nD τ) harg33, Cert.Body.owns_whole (c : Thread nD τ) harg34]
    iintro ⟨H0, H1, H2, H3, H4, H5, H6, H7, H8, H9, H10, H11, H12, H13, H14, H15, H16, H17, H18, H19, ⟨%d20, H20⟩, ⟨%d21, H21⟩, ⟨%d22, H22⟩, ⟨%d23, H23⟩, HS0, HS1, HS2, HS3, HS4, HS5, HS6, HS7, HS8, HS9, Hk⟩
    simp only [cc0__fused_body_eq_skeleton]; unfold cc0__fused_body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    sl_exec (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexists _; iexact HS8
    iexists _; iexact HS9

end Cert.KernelIdeal.Body

end
-- ==== Proof.Body.Held.lean ====
/- What the buffers of the pipeline hold after each grid point: the stores of the three runs read back. -/
module

public import proofs.«01_k».proof.Proof.Body.RunA
public import proofs.«01_k».proof.Proof.Body.RunB
public import proofs.«01_k».proof.Proof.Body.RunC

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four output buffers and the ten scratches hold after a grid point. -/
structure Held (F : FTy → Type) [FloatOps F] where
  y : Vec F S2048x256 .f32
  x : Vec F S2048x128 .f32
  l : Vec F S8x128 .f32
  p : Vec F S8x128 .f32
  s0 : Vec F S128x512 .bf16
  s1 : Vec F S4x512x512 .bf16
  s2 : Vec F S512x256 .bf16
  s3 : Vec F S256x512 .bf16
  s4 : Vec F S4x512x512 .bf16
  s5 : Vec F S512x128 .bf16
  s6 : Vec F S1024x64 .bf16
  s7 : Vec F S64x1024 .bf16
  s8 : Vec F S8x1024 .f32
  s9 : Vec F S8x128 .f32

/-- The run of the first point, on the buffers point `t` works on and the blocks it is given. -/
def atA (c : Dev nD) (t : Fin cfg0.N) (h0 : cond0_0 (grid0.coords t)) (h1 : ¬cond0_1 (grid0.coords t)) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- What the first point leaves in each buffer: its stores read back. -/
def leavesA (c : Dev nD) (t : Fin cfg0.N) (h0 : cond0_0 (grid0.coords t)) (h1 : ¬cond0_1 (grid0.coords t)) : Held F where
  y := VO0_20.read (Elt F) (VO0_20.writes (Elt F) VO0_20.junk (atA m c t h0 h1).1)
  x := VO0_21.read (Elt F) (VO0_21.writes (Elt F) VO0_21.junk (atA m c t h0 h1).2.1)
  l := VO0_22.read (Elt F) (VO0_22.writes (Elt F) VO0_22.junk (atA m c t h0 h1).2.2.1)
  p := VO0_23.read (Elt F) (VO0_23.writes (Elt F) VO0_23.junk (atA m c t h0 h1).2.2.2.1)
  s0 := VS0_0.read (Elt F) (VS0_0.writes (Elt F) VS0_0.junk (atA m c t h0 h1).2.2.2.2.1)
  s1 := VS0_1.read (Elt F) (VS0_1.writes (Elt F) VS0_1.junk (atA m c t h0 h1).2.2.2.2.2.1)
  s2 := VS0_2.read (Elt F) (VS0_2.writes (Elt F) VS0_2.junk (atA m c t h0 h1).2.2.2.2.2.2.1)
  s3 := VS0_3.read (Elt F) (VS0_3.writes (Elt F) VS0_3.junk (atA m c t h0 h1).2.2.2.2.2.2.2.1)
  s4 := VS0_4.read (Elt F) (VS0_4.writes (Elt F) VS0_4.junk (atA m c t h0 h1).2.2.2.2.2.2.2.2.1)
  s5 := VS0_5.read (Elt F) (VS0_5.writes (Elt F) VS0_5.junk (atA m c t h0 h1).2.2.2.2.2.2.2.2.2.1)
  s6 := VS0_6.read (Elt F) (VS0_6.writes (Elt F) VS0_6.junk (atA m c t h0 h1).2.2.2.2.2.2.2.2.2.2.1)
  s7 := VS0_7.read (Elt F) (VS0_7.writes (Elt F) VS0_7.junk (atA m c t h0 h1).2.2.2.2.2.2.2.2.2.2.2.1)
  s8 := VS0_8.read (Elt F) (VS0_8.writes (Elt F) VS0_8.junk (atA m c t h0 h1).2.2.2.2.2.2.2.2.2.2.2.2.1)
  s9 := VS0_9.read (Elt F) (VS0_9.writes (Elt F) VS0_9.junk (atA m c t h0 h1).2.2.2.2.2.2.2.2.2.2.2.2.2.1)

/-- The stores of the first point into output 0 cover it. -/
theorem coverA_y (c : Dev nD) (t : Fin cfg0.N) (h0 : cond0_0 (grid0.coords t)) (h1 : ¬cond0_1 (grid0.coords t)) (y : S2048x256.Idx) :
    ∃ pc ∈ (atA m c t h0 h1).1, y ∈ pc.1.set :=
  View.cover_of_tiledL (atA m c t h0 h1).1 S2048x256.size (by sl_kernel_rfl) y

/-- The stores of the first point into output 1 cover it. -/
theorem coverA_x (c : Dev nD) (t : Fin cfg0.N) (h0 : cond0_0 (grid0.coords t)) (h1 : ¬cond0_1 (grid0.coords t)) (y : S2048x128.Idx) :
    ∃ pc ∈ (atA m c t h0 h1).2.1, y ∈ pc.1.set :=
  View.cover_of_tiledL (atA m c t h0 h1).2.1 S2048x128.size (by sl_kernel_rfl) y

/-- The stores of the first point into scratch 0 cover it. -/
theorem coverA_s0 (c : Dev nD) (t : Fin cfg0.N) (h0 : cond0_0 (grid0.coords t)) (h1 : ¬cond0_1 (grid0.coords t)) (y : S128x512.Idx) :
    ∃ pc ∈ (atA m c t h0 h1).2.2.2.2.1, y ∈ pc.1.set :=
  View.cover_of_tiledL (atA m c t h0 h1).2.2.2.2.1 S128x512.size (by sl_kernel_rfl) y

/-- The stores of the first point into scratch 1 cover it. -/
theorem coverA_s1 (c : Dev nD) (t : Fin cfg0.N) (h0 : cond0_0 (grid0.coords t)) (h1 : ¬cond0_1 (grid0.coords t)) (y : S4x512x512.Idx) :
    ∃ pc ∈ (atA m c t h0 h1).2.2.2.2.2.1, y ∈ pc.1.set :=
  View.cover_of_tiledL (atA m c t h0 h1).2.2.2.2.2.1 S4x512x512.size (by sl_kernel_rfl) y

/-- The stores of the first point into scratch 2 cover it. -/
theorem coverA_s2 (c : Dev nD) (t : Fin cfg0.N) (h0 : cond0_0 (grid0.coords t)) (h1 : ¬cond0_1 (grid0.coords t)) (y : S512x256.Idx) :
    ∃ pc ∈ (atA m c t h0 h1).2.2.2.2.2.2.1, y ∈ pc.1.set :=
  View.cover_of_tiledL (atA m c t h0 h1).2.2.2.2.2.2.1 S512x256.size (by sl_kernel_rfl) y

/-- The stores of the first point into scratch 3 cover it. -/
theorem coverA_s3 (c : Dev nD) (t : Fin cfg0.N) (h0 : cond0_0 (grid0.coords t)) (h1 : ¬cond0_1 (grid0.coords t)) (y : S256x512.Idx) :
    ∃ pc ∈ (atA m c t h0 h1).2.2.2.2.2.2.2.1, y ∈ pc.1.set :=
  View.cover_of_tiledL (atA m c t h0 h1).2.2.2.2.2.2.2.1 S256x512.size (by sl_kernel_rfl) y

/-- The stores of the first point into scratch 4 cover it. -/
theorem coverA_s4 (c : Dev nD) (t : Fin cfg0.N) (h0 : cond0_0 (grid0.coords t)) (h1 : ¬cond0_1 (grid0.coords t)) (y : S4x512x512.Idx) :
    ∃ pc ∈ (atA m c t h0 h1).2.2.2.2.2.2.2.2.1, y ∈ pc.1.set :=
  View.cover_of_tiledL (atA m c t h0 h1).2.2.2.2.2.2.2.2.1 S4x512x512.size (by sl_kernel_rfl) y

/-- The stores of the first point into scratch 5 cover it. -/
theorem coverA_s5 (c : Dev nD) (t : Fin cfg0.N) (h0 : cond0_0 (grid0.coords t)) (h1 : ¬cond0_1 (grid0.coords t)) (y : S512x128.Idx) :
    ∃ pc ∈ (atA m c t h0 h1).2.2.2.2.2.2.2.2.2.1, y ∈ pc.1.set :=
  View.cover_of_tiledL (atA m c t h0 h1).2.2.2.2.2.2.2.2.2.1 S512x128.size (by sl_kernel_rfl) y

/-- The stores of the first point into scratch 6 cover it. -/
theorem coverA_s6 (c : Dev nD) (t : Fin cfg0.N) (h0 : cond0_0 (grid0.coords t)) (h1 : ¬cond0_1 (grid0.coords t)) (y : S1024x64.Idx) :
    ∃ pc ∈ (atA m c t h0 h1).2.2.2.2.2.2.2.2.2.2.1, y ∈ pc.1.set :=
  View.cover_of_tiledL (atA m c t h0 h1).2.2.2.2.2.2.2.2.2.2.1 S1024x64.size (by sl_kernel_rfl) y

/-- The stores of the first point into scratch 7 cover it. -/
theorem coverA_s7 (c : Dev nD) (t : Fin cfg0.N) (h0 : cond0_0 (grid0.coords t)) (h1 : ¬cond0_1 (grid0.coords t)) (y : S64x1024.Idx) :
    ∃ pc ∈ (atA m c t h0 h1).2.2.2.2.2.2.2.2.2.2.2.1, y ∈ pc.1.set :=
  View.cover_of_tiledL (atA m c t h0 h1).2.2.2.2.2.2.2.2.2.2.2.1 S64x1024.size (by sl_kernel_rfl) y

/-- The stores of the first point into scratch 8 cover it. -/
theorem coverA_s8 (c : Dev nD) (t : Fin cfg0.N) (h0 : cond0_0 (grid0.coords t)) (h1 : ¬cond0_1 (grid0.coords t)) (y : S8x1024.Idx) :
    ∃ pc ∈ (atA m c t h0 h1).2.2.2.2.2.2.2.2.2.2.2.2.1, y ∈ pc.1.set :=
  View.cover_of_tiledL (atA m c t h0 h1).2.2.2.2.2.2.2.2.2.2.2.2.1 S8x1024.size (by sl_kernel_rfl) y

/-- The stores of the first point into scratch 9 cover it. -/
theorem coverA_s9 (c : Dev nD) (t : Fin cfg0.N) (h0 : cond0_0 (grid0.coords t)) (h1 : ¬cond0_1 (grid0.coords t)) (y : S8x128.Idx) :
    ∃ pc ∈ (atA m c t h0 h1).2.2.2.2.2.2.2.2.2.2.2.2.2.1, y ∈ pc.1.set :=
  View.cover_of_tiledL (atA m c t h0 h1).2.2.2.2.2.2.2.2.2.2.2.2.2.1 S8x128.size (by sl_kernel_rfl) y

/-- The run of a middle point, on the buffers point `t` works on and the blocks it is given. -/
def atB (c : Dev nD) (t : Fin cfg0.N) (h0 : ¬cond0_0 (grid0.coords t)) (h1 : ¬cond0_1 (grid0.coords t)) (h : Held F) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) h.s0 h.s1 h.s2 h.s3 h.s4 h.s5 h.s6 h.s7 h.s8 h.s9

/-- What a middle point leaves in each buffer: its stores read back; a scratch it does not store into stays as it was. -/
def leavesB (c : Dev nD) (t : Fin cfg0.N) (h0 : ¬cond0_0 (grid0.coords t)) (h1 : ¬cond0_1 (grid0.coords t)) (h : Held F) : Held F where
  y := VO0_20.read (Elt F) (VO0_20.writes (Elt F) VO0_20.junk (atB m c t h0 h1 h).1)
  x := VO0_21.read (Elt F) (VO0_21.writes (Elt F) VO0_21.junk (atB m c t h0 h1 h).2.1)
  l := VO0_22.read (Elt F) (VO0_22.writes (Elt F) VO0_22.junk (atB m c t h0 h1 h).2.2.1)
  p := VO0_23.read (Elt F) (VO0_23.writes (Elt F) VO0_23.junk (atB m c t h0 h1 h).2.2.2.1)
  s0 := h.s0
  s1 := h.s1
  s2 := h.s2
  s3 := h.s3
  s4 := h.s4
  s5 := h.s5
  s6 := h.s6
  s7 := h.s7
  s8 := VS0_8.read (Elt F) (VS0_8.writes (Elt F) VS0_8.junk (atB m c t h0 h1 h).2.2.2.2.2.2.2.2.2.2.2.2.1)
  s9 := VS0_9.read (Elt F) (VS0_9.writes (Elt F) VS0_9.junk (atB m c t h0 h1 h).2.2.2.2.2.2.2.2.2.2.2.2.2.1)

/-- The stores of a middle point into output 0 cover it. -/
theorem coverB_y (c : Dev nD) (t : Fin cfg0.N) (h0 : ¬cond0_0 (grid0.coords t)) (h1 : ¬cond0_1 (grid0.coords t)) (h : Held F) (y : S2048x256.Idx) :
    ∃ pc ∈ (atB m c t h0 h1 h).1, y ∈ pc.1.set :=
  View.cover_of_tiledL (atB m c t h0 h1 h).1 S2048x256.size (by sl_kernel_rfl) y

/-- The stores of a middle point into output 1 cover it. -/
theorem coverB_x (c : Dev nD) (t : Fin cfg0.N) (h0 : ¬cond0_0 (grid0.coords t)) (h1 : ¬cond0_1 (grid0.coords t)) (h : Held F) (y : S2048x128.Idx) :
    ∃ pc ∈ (atB m c t h0 h1 h).2.1, y ∈ pc.1.set :=
  View.cover_of_tiledL (atB m c t h0 h1 h).2.1 S2048x128.size (by sl_kernel_rfl) y

/-- The stores of a middle point into scratch 8 cover it. -/
theorem coverB_s8 (c : Dev nD) (t : Fin cfg0.N) (h0 : ¬cond0_0 (grid0.coords t)) (h1 : ¬cond0_1 (grid0.coords t)) (h : Held F) (y : S8x1024.Idx) :
    ∃ pc ∈ (atB m c t h0 h1 h).2.2.2.2.2.2.2.2.2.2.2.2.1, y ∈ pc.1.set :=
  View.cover_of_tiledL (atB m c t h0 h1 h).2.2.2.2.2.2.2.2.2.2.2.2.1 S8x1024.size (by sl_kernel_rfl) y

/-- The stores of a middle point into scratch 9 cover it. -/
theorem coverB_s9 (c : Dev nD) (t : Fin cfg0.N) (h0 : ¬cond0_0 (grid0.coords t)) (h1 : ¬cond0_1 (grid0.coords t)) (h : Held F) (y : S8x128.Idx) :
    ∃ pc ∈ (atB m c t h0 h1 h).2.2.2.2.2.2.2.2.2.2.2.2.2.1, y ∈ pc.1.set :=
  View.cover_of_tiledL (atB m c t h0 h1 h).2.2.2.2.2.2.2.2.2.2.2.2.2.1 S8x128.size (by sl_kernel_rfl) y

/-- The run of the last point, on the buffers point `t` works on and the blocks it is given. -/
def atC (c : Dev nD) (t : Fin cfg0.N) (h0 : ¬cond0_0 (grid0.coords t)) (h1 : cond0_1 (grid0.coords t)) (h : Held F) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) h.s0 h.s1 h.s2 h.s3 h.s4 h.s5 h.s6 h.s7 h.s8 h.s9

/-- What the last point leaves in each buffer: its stores read back; a scratch it does not store into stays as it was. -/
def leavesC (c : Dev nD) (t : Fin cfg0.N) (h0 : ¬cond0_0 (grid0.coords t)) (h1 : cond0_1 (grid0.coords t)) (h : Held F) : Held F where
  y := VO0_20.read (Elt F) (VO0_20.writes (Elt F) VO0_20.junk (atC m c t h0 h1 h).1)
  x := VO0_21.read (Elt F) (VO0_21.writes (Elt F) VO0_21.junk (atC m c t h0 h1 h).2.1)
  l := VO0_22.read (Elt F) (VO0_22.writes (Elt F) VO0_22.junk (atC m c t h0 h1 h).2.2.1)
  p := VO0_23.read (Elt F) (VO0_23.writes (Elt F) VO0_23.junk (atC m c t h0 h1 h).2.2.2.1)
  s0 := h.s0
  s1 := h.s1
  s2 := h.s2
  s3 := h.s3
  s4 := h.s4
  s5 := h.s5
  s6 := h.s6
  s7 := h.s7
  s8 := VS0_8.read (Elt F) (VS0_8.writes (Elt F) VS0_8.junk (atC m c t h0 h1 h).2.2.2.2.2.2.2.2.2.2.2.2.1)
  s9 := VS0_9.read (Elt F) (VS0_9.writes (Elt F) VS0_9.junk (atC m c t h0 h1 h).2.2.2.2.2.2.2.2.2.2.2.2.2.1)

/-- The stores of the last point into output 0 cover it. -/
theorem coverC_y (c : Dev nD) (t : Fin cfg0.N) (h0 : ¬cond0_0 (grid0.coords t)) (h1 : cond0_1 (grid0.coords t)) (h : Held F) (y : S2048x256.Idx) :
    ∃ pc ∈ (atC m c t h0 h1 h).1, y ∈ pc.1.set :=
  View.cover_of_tiledL (atC m c t h0 h1 h).1 S2048x256.size (by sl_kernel_rfl) y

/-- The stores of the last point into output 1 cover it. -/
theorem coverC_x (c : Dev nD) (t : Fin cfg0.N) (h0 : ¬cond0_0 (grid0.coords t)) (h1 : cond0_1 (grid0.coords t)) (h : Held F) (y : S2048x128.Idx) :
    ∃ pc ∈ (atC m c t h0 h1 h).2.1, y ∈ pc.1.set :=
  View.cover_of_tiledL (atC m c t h0 h1 h).2.1 S2048x128.size (by sl_kernel_rfl) y

/-- The stores of the last point into output 2 cover it. -/
theorem coverC_l (c : Dev nD) (t : Fin cfg0.N) (h0 : ¬cond0_0 (grid0.coords t)) (h1 : cond0_1 (grid0.coords t)) (h : Held F) (y : S8x128.Idx) :
    ∃ pc ∈ (atC m c t h0 h1 h).2.2.1, y ∈ pc.1.set :=
  View.cover_of_tiledL (atC m c t h0 h1 h).2.2.1 S8x128.size (by sl_kernel_rfl) y

/-- The stores of the last point into output 3 cover it. -/
theorem coverC_p (c : Dev nD) (t : Fin cfg0.N) (h0 : ¬cond0_0 (grid0.coords t)) (h1 : cond0_1 (grid0.coords t)) (h : Held F) (y : S8x128.Idx) :
    ∃ pc ∈ (atC m c t h0 h1 h).2.2.2.1, y ∈ pc.1.set :=
  View.cover_of_tiledL (atC m c t h0 h1 h).2.2.2.1 S8x128.size (by sl_kernel_rfl) y

/-- The stores of the last point into scratch 8 cover it. -/
theorem coverC_s8 (c : Dev nD) (t : Fin cfg0.N) (h0 : ¬cond0_0 (grid0.coords t)) (h1 : cond0_1 (grid0.coords t)) (h : Held F) (y : S8x1024.Idx) :
    ∃ pc ∈ (atC m c t h0 h1 h).2.2.2.2.2.2.2.2.2.2.2.2.1, y ∈ pc.1.set :=
  View.cover_of_tiledL (atC m c t h0 h1 h).2.2.2.2.2.2.2.2.2.2.2.2.1 S8x1024.size (by sl_kernel_rfl) y

/-- The stores of the last point into scratch 9 cover it. -/
theorem coverC_s9 (c : Dev nD) (t : Fin cfg0.N) (h0 : ¬cond0_0 (grid0.coords t)) (h1 : cond0_1 (grid0.coords t)) (h : Held F) (y : S8x128.Idx) :
    ∃ pc ∈ (atC m c t h0 h1 h).2.2.2.2.2.2.2.2.2.2.2.2.2.1, y ∈ pc.1.set :=
  View.cover_of_tiledL (atC m c t h0 h1 h).2.2.2.2.2.2.2.2.2.2.2.2.2.1 S8x128.size (by sl_kernel_rfl) y

/-- What the buffers hold after the body at position `n`: the first point starts afresh, every later point works on
    what the point before left. -/
def held (c : Dev nD) : (n : ℕ) → (hn : n < cfg0.N) → Held F
  | 0, hn => leavesA m c ⟨0, hn⟩ ((hcond0_0 ⟨0, hn⟩).mpr (Nat.zero_mod 4)) (fun h => by
      have := (hcond0_1 ⟨0, hn⟩).mp h; simp at this)
  | n + 1, hn =>
    if h0 : (n + 1) % 4 = 0 then leavesA m c ⟨n + 1, hn⟩ ((hcond0_0 ⟨n + 1, hn⟩).mpr h0) (fun h => by
      have := (hcond0_1 ⟨n + 1, hn⟩).mp h; simp only at this; omega)
    else if h1 : (n + 1) % 4 = 3 then
      leavesC m c ⟨n + 1, hn⟩ (fun h => h0 ((hcond0_0 ⟨n + 1, hn⟩).mp h)) ((hcond0_1 ⟨n + 1, hn⟩).mpr h1)
        (held c n (Nat.lt_of_succ_lt hn))
    else
      leavesB m c ⟨n + 1, hn⟩ (fun h => h0 ((hcond0_0 ⟨n + 1, hn⟩).mp h)) (fun h => h1 ((hcond0_1 ⟨n + 1, hn⟩).mp h))
        (held c n (Nat.lt_of_succ_lt hn))

/-- At the first point. -/
theorem held_A (c : Dev nD) (t : Fin cfg0.N) (h0 : cond0_0 (grid0.coords t)) (h1 : ¬cond0_1 (grid0.coords t)) :
    held m c t.val t.isLt = leavesA m c t h0 h1 := by
  obtain ⟨n, hn⟩ := t
  cases n with
  | zero => rfl
  | succ n => exact dif_pos ((hcond0_0 ⟨n + 1, hn⟩).mp h0)

/-- At a middle point. -/
theorem held_B (c : Dev nD) (t : Fin cfg0.N) (h0 : ¬cond0_0 (grid0.coords t)) (h1 : ¬cond0_1 (grid0.coords t)) :
    held m c t.val t.isLt = leavesB m c t h0 h1 (held m c (t.val - 1) (lt_of_le_of_lt (Nat.sub_le _ _) t.isLt)) := by
  obtain ⟨n, hn⟩ := t
  cases n with
  | zero => exact absurd ((hcond0_0 ⟨0, hn⟩).mpr (Nat.zero_mod 4)) h0
  | succ n =>
    have e0 : ¬(n + 1) % 4 = 0 := fun h => h0 ((hcond0_0 ⟨n + 1, hn⟩).mpr h)
    have e1 : ¬(n + 1) % 4 = 3 := fun h => h1 ((hcond0_1 ⟨n + 1, hn⟩).mpr h)
    show held m c (n + 1) hn = leavesB m c ⟨n + 1, hn⟩ h0 h1 (held m c n (Nat.lt_of_succ_lt hn))
    rw [held, dif_neg e0, dif_neg e1]

/-- At the last point. -/
theorem held_C (c : Dev nD) (t : Fin cfg0.N) (h0 : ¬cond0_0 (grid0.coords t)) (h1 : cond0_1 (grid0.coords t)) :
    held m c t.val t.isLt = leavesC m c t h0 h1 (held m c (t.val - 1) (lt_of_le_of_lt (Nat.sub_le _ _) t.isLt)) := by
  obtain ⟨n, hn⟩ := t
  cases n with
  | zero => exact absurd ((hcond0_0 ⟨0, hn⟩).mpr (Nat.zero_mod 4)) h0
  | succ n =>
    have e0 : ¬(n + 1) % 4 = 0 := fun h => h0 ((hcond0_0 ⟨n + 1, hn⟩).mpr h)
    have e1 : (n + 1) % 4 = 3 := (hcond0_1 ⟨n + 1, hn⟩).mp h1
    show held m c (n + 1) hn = leavesC m c ⟨n + 1, hn⟩ h0 h1 (held m c n (Nat.lt_of_succ_lt hn))
    rw [held, dif_neg e0, dif_pos e1]

end Cert.KernelIdeal.Body

end
-- ==== Proof.Body.Launch.lean ====
/- The body at every grid point, the launch, and the arguments unchanged. -/
module

public import proofs.«01_k».proof.Proof.Body.Held
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratches at the contents `h` names, beside the generator register. -/
def scratch (c : Dev nD) (h : Held F) : sProp 𝕄 :=
  iprop(iprop(owns (c : Thread nD τ) scM0_0 fullShare h.s0 ∗ owns (c : Thread nD τ) scM0_1 fullShare h.s1 ∗ owns (c : Thread nD τ) scM0_2 fullShare h.s2 ∗ owns (c : Thread nD τ) scM0_3 fullShare h.s3 ∗ owns (c : Thread nD τ) scM0_4 fullShare h.s4 ∗ owns (c : Thread nD τ) scM0_5 fullShare h.s5 ∗ owns (c : Thread nD τ) scM0_6 fullShare h.s6 ∗ owns (c : Thread nD τ) scM0_7 fullShare h.s7 ∗ owns (c : Thread nD τ) scM0_8 fullShare h.s8 ∗ owns (c : Thread nD τ) scM0_9 fullShare h.s9) ∗ (∃ r, prngReg c r))

/-- The invariant before position `n`: before the first point the scratches hold anything, afterwards what the point
    before left. -/
def inv (c : Dev nD) : (n : ℕ) → n ≤ cfg0.N → sProp 𝕄
  | 0, _ => Pipeline.ΦA spec0 c
  | n + 1, hn => scratch c (held m c n hn)

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = scratch c (held m c (n - 1) (by omega)) := by
  cases n with
  | zero => exact absurd rfl hz
  | succ n => rfl

/-- The data of the pipeline on core `c`: an input's buffer keeps its block, the outputs' hold what `held` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (held m c t.val t.isLt).y
    | ⟨21, _⟩ => (held m c t.val t.isLt).x
    | ⟨22, _⟩ => (held m c t.val t.isLt).l
    | ⟨23, _⟩ => (held m c t.val t.isLt).p
    | ⟨_ + 24, h⟩ => absurd h (Nat.not_lt.2 (Nat.le_add_left _ _))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_y (c : Dev nD) (t : Fin cfg0.N) : (dats m 0 c).after 20 t = (held m c t.val t.isLt).y := by dsimp only [dats]
theorem after_x (c : Dev nD) (t : Fin cfg0.N) : (dats m 0 c).after 21 t = (held m c t.val t.isLt).x := by dsimp only [dats]
theorem after_l (c : Dev nD) (t : Fin cfg0.N) : (dats m 0 c).after 22 t = (held m c t.val t.isLt).l := by dsimp only [dats]
theorem after_p (c : Dev nD) (t : Fin cfg0.N) : (dats m 0 c).after 23 t = (held m c t.val t.isLt).p := by dsimp only [dats]

/-- An input is handed to the body at its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d

/-- and returned at it; an output used at every point is returned at what the point left. -/
theorem back_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after_0]
theorem back_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after_1]
theorem back_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after_2]
theorem back_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after_3]
theorem back_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after_4]
theorem back_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after_5]
theorem back_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after_6]
theorem back_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after_7]
theorem back_8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after_8]
theorem back_9 (c : Dev nD) (t : Fin cfg0.N) : (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after_9]
theorem back_10 (c : Dev nD) (t : Fin cfg0.N) : (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by
    unfold Dat.leavesExact; rw [liveAt0_10 t], after_10]
theorem back_11 (c : Dev nD) (t : Fin cfg0.N) : (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by
    unfold Dat.leavesExact; rw [liveAt0_11 t], after_11]
theorem back_12 (c : Dev nD) (t : Fin cfg0.N) : (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by
    unfold Dat.leavesExact; rw [liveAt0_12 t], after_12]
theorem back_13 (c : Dev nD) (t : Fin cfg0.N) : (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by
    unfold Dat.leavesExact; rw [liveAt0_13 t], after_13]
theorem back_14 (c : Dev nD) (t : Fin cfg0.N) : (dats m 0 c).leavesExact 14 t = owns (c : Thread nD τ) (ms0_14 t) fullShare (iblk m c 14 t) := by
  rw [show (dats m 0 c).leavesExact 14 t = owns (c : Thread nD τ) (ms0_14 t) fullShare ((dats m 0 c).after 14 t) from by
    unfold Dat.leavesExact; rw [liveAt0_14 t], after_14]
theorem back_15 (c : Dev nD) (t : Fin cfg0.N) : (dats m 0 c).leavesExact 15 t = owns (c : Thread nD τ) (ms0_15 t) fullShare (iblk m c 15 t) := by
  rw [show (dats m 0 c).leavesExact 15 t = owns (c : Thread nD τ) (ms0_15 t) fullShare ((dats m 0 c).after 15 t) from by
    unfold Dat.leavesExact; rw [liveAt0_15 t], after_15]
theorem back_16 (c : Dev nD) (t : Fin cfg0.N) : (dats m 0 c).leavesExact 16 t = owns (c : Thread nD τ) (ms0_16 t) fullShare (iblk m c 16 t) := by
  rw [show (dats m 0 c).leavesExact 16 t = owns (c : Thread nD τ) (ms0_16 t) fullShare ((dats m 0 c).after 16 t) from by
    unfold Dat.leavesExact; rw [liveAt0_16 t], after_16]
theorem back_17 (c : Dev nD) (t : Fin cfg0.N) : (dats m 0 c).leavesExact 17 t = owns (c : Thread nD τ) (ms0_17 t) fullShare (iblk m c 17 t) := by
  rw [show (dats m 0 c).leavesExact 17 t = owns (c : Thread nD τ) (ms0_17 t) fullShare ((dats m 0 c).after 17 t) from by
    unfold Dat.leavesExact; rw [liveAt0_17 t], after_17]
theorem back_18 (c : Dev nD) (t : Fin cfg0.N) : (dats m 0 c).leavesExact 18 t = owns (c : Thread nD τ) (ms0_18 t) fullShare (iblk m c 18 t) := by
  rw [show (dats m 0 c).leavesExact 18 t = owns (c : Thread nD τ) (ms0_18 t) fullShare ((dats m 0 c).after 18 t) from by
    unfold Dat.leavesExact; rw [liveAt0_18 t], after_18]
theorem back_19 (c : Dev nD) (t : Fin cfg0.N) : (dats m 0 c).leavesExact 19 t = owns (c : Thread nD τ) (ms0_19 t) fullShare (iblk m c 19 t) := by
  rw [show (dats m 0 c).leavesExact 19 t = owns (c : Thread nD τ) (ms0_19 t) fullShare ((dats m 0 c).after 19 t) from by
    unfold Dat.leavesExact; rw [liveAt0_19 t], after_19]
theorem back_y (c : Dev nD) (t : Fin cfg0.N) : (dats m 0 c).leavesExact 20 t = owns (c : Thread nD τ) (ms0_20 t) fullShare (held m c t.val t.isLt).y := by
  rw [show (dats m 0 c).leavesExact 20 t = owns (c : Thread nD τ) (ms0_20 t) fullShare ((dats m 0 c).after 20 t) from by
    unfold Dat.leavesExact; rw [liveAt0_20 t], after_y]
theorem back_x (c : Dev nD) (t : Fin cfg0.N) : (dats m 0 c).leavesExact 21 t = owns (c : Thread nD τ) (ms0_21 t) fullShare (held m c t.val t.isLt).x := by
  rw [show (dats m 0 c).leavesExact 21 t = owns (c : Thread nD τ) (ms0_21 t) fullShare ((dats m 0 c).after 21 t) from by
    unfold Dat.leavesExact; rw [liveAt0_21 t], after_x]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

set_option maxHeartbeats 2000000 in
/-- The body at the first point. -/
theorem sound_A (c : Dev nD) (t : Fin cfg0.N) (h0 : cond0_0 (grid0.coords t)) (h1 : ¬cond0_1 (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl]
  rw [show (dats m 0 c).Φ t.succ = scratch c (held m c t.val t.isLt) from rfl, inv_castSucc m c t]
  have hN : t.val < 4 := lt_of_lt_of_eq t.isLt (show cfg0.N = 4 from N_0)
  have hz0 := hcond0_0 t
  rw [back_0, back_1, back_2, back_3, back_4, back_5, back_6, back_7, back_8, back_9, back_10, back_11, back_12, back_13, back_14, back_15, back_16, back_17, back_18, back_19, back_y, back_x]
  rw [Dat.leavesExact_idle (dats m 0 c) 22 t (idleAt0_22_A t h0 h1) (noFlush0_22_A t h0 h1)]
  rw [Dat.leavesExact_idle (dats m 0 c) 23 t (idleAt0_23_A t h0 h1) (noFlush0_23_A t h0 h1)]
  rw [inv_zero m c _ _ (by have := hz0.mp h0; omega), PhiA0_eq, held_A m c t h0 h1]
  unfold scratch leavesA; dsimp only
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((atA m c t h0 h1).2.2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, H19, ⟨%e20, H20⟩, ⟨%e21, H21⟩, H22, H23, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · unfold owns; iexists _; isplitr
        swap; · iexact HS0
        ipureintro; exact View.read_writes_of_cover _ _ _ _ _ (coverA_s0 m c t h0 h1)
      isplitl [HS1]
      · unfold owns; iexists _; isplitr
        swap; · iexact HS1
        ipureintro; exact View.read_writes_of_cover _ _ _ _ _ (coverA_s1 m c t h0 h1)
      isplitl [HS2]
      · unfold owns; iexists _; isplitr
        swap; · iexact HS2
        ipureintro; exact View.read_writes_of_cover _ _ _ _ _ (coverA_s2 m c t h0 h1)
      isplitl [HS3]
      · unfold owns; iexists _; isplitr
        swap; · iexact HS3
        ipureintro; exact View.read_writes_of_cover _ _ _ _ _ (coverA_s3 m c t h0 h1)
      isplitl [HS4]
      · unfold owns; iexists _; isplitr
        swap; · iexact HS4
        ipureintro; exact View.read_writes_of_cover _ _ _ _ _ (coverA_s4 m c t h0 h1)
      isplitl [HS5]
      · unfold owns; iexists _; isplitr
        swap; · iexact HS5
        ipureintro; exact View.read_writes_of_cover _ _ _ _ _ (coverA_s5 m c t h0 h1)
      isplitl [HS6]
      · unfold owns; iexists _; isplitr
        swap; · iexact HS6
        ipureintro; exact View.read_writes_of_cover _ _ _ _ _ (coverA_s6 m c t h0 h1)
      isplitl [HS7]
      · unfold owns; iexists _; isplitr
        swap; · iexact HS7
        ipureintro; exact View.read_writes_of_cover _ _ _ _ _ (coverA_s7 m c t h0 h1)
      isplitl [HS8]
      · unfold owns; iexists _; isplitr
        swap; · iexact HS8
        ipureintro; exact View.read_writes_of_cover _ _ _ _ _ (coverA_s8 m c t h0 h1)
      unfold owns; iexists _; isplitr
      swap; · iexact HS9
      ipureintro; exact View.read_writes_of_cover _ _ _ _ _ (coverA_s9 m c t h0 h1)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (coverA_y m c t h0 h1)
  isplitl [H21]
  · unfold owns; iexists _; isplitr
    swap; · iexact H21
    ipureintro; exact View.read_writes_of_cover _ _ _ _ _ (coverA_x m c t h0 h1)
  isplitl [H22]
  · iexists _; iexact H22
  iexists _; iexact H23

set_option maxHeartbeats 2000000 in
/-- The body at a middle point. -/
theorem sound_B (c : Dev nD) (t : Fin cfg0.N) (h0 : ¬cond0_0 (grid0.coords t)) (h1 : ¬cond0_1 (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl]
  rw [show (dats m 0 c).Φ t.succ = scratch c (held m c t.val t.isLt) from rfl, inv_castSucc m c t]
  have hN : t.val < 4 := lt_of_lt_of_eq t.isLt (show cfg0.N = 4 from N_0)
  have hz0 := hcond0_0 t
  rw [back_0, back_1, back_2, back_3, back_4, back_5, back_6, back_7, back_8, back_9, back_10, back_11, back_12, back_13, back_14, back_15, back_16, back_17, back_18, back_19, back_y, back_x]
  rw [Dat.leavesExact_idle (dats m 0 c) 22 t (idleAt0_22_B t h0 h1) (noFlush0_22_B t h0 h1)]
  rw [Dat.leavesExact_idle (dats m 0 c) 23 t (idleAt0_23_B t h0 h1) (noFlush0_23_B t h0 h1)]
  rw [inv_pos m c _ _ (fun h => h0 (hz0.mpr (by rw [h]))), held_B m c t h0 h1]
  generalize held m c (t.val - 1) _ = h
  unfold scratch leavesB; dsimp only
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((atB m c t h0 h1 h).2.2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexact H22
  isplitl [H23]; · iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, H19, ⟨%e20, H20⟩, ⟨%e21, H21⟩, H22, H23, HS0, HS1, HS2, HS3, HS4, HS5, HS6, HS7, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · unfold owns; iexists _; isplitr
        swap; · iexact HS8
        ipureintro; exact View.read_writes_of_cover _ _ _ _ _ (coverB_s8 m c t h0 h1 h)
      unfold owns; iexists _; isplitr
      swap; · iexact HS9
      ipureintro; exact View.read_writes_of_cover _ _ _ _ _ (coverB_s9 m c t h0 h1 h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (coverB_y m c t h0 h1 h)
  isplitl [H21]
  · unfold owns; iexists _; isplitr
    swap; · iexact H21
    ipureintro; exact View.read_writes_of_cover _ _ _ _ _ (coverB_x m c t h0 h1 h)
  isplitl [H22]
  · iexists _; iexact H22
  iexists _; iexact H23

set_option maxHeartbeats 2000000 in
/-- The body at the last point. -/
theorem sound_C (c : Dev nD) (t : Fin cfg0.N) (h0 : ¬cond0_0 (grid0.coords t)) (h1 : cond0_1 (grid0.coords t)) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl]
  rw [show (dats m 0 c).Φ t.succ = scratch c (held m c t.val t.isLt) from rfl, inv_castSucc m c t]
  have hN : t.val < 4 := lt_of_lt_of_eq t.isLt (show cfg0.N = 4 from N_0)
  have hz0 := hcond0_0 t
  rw [back_0, back_1, back_2, back_3, back_4, back_5, back_6, back_7, back_8, back_9, back_10, back_11, back_12, back_13, back_14, back_15, back_16, back_17, back_18, back_19, back_y, back_x]
  rw [show (dats m 0 c).leavesExact 22 t = owns (c : Thread nD τ) (ms0_22 t) fullShare ((dats m 0 c).after 22 t) from by
    unfold Dat.leavesExact; rw [liveAt0_22_C t h0 h1], after_l]
  rw [show (dats m 0 c).leavesExact 23 t = owns (c : Thread nD τ) (ms0_23 t) fullShare ((dats m 0 c).after 23 t) from by
    unfold Dat.leavesExact; rw [liveAt0_23_C t h0 h1], after_p]
  rw [inv_pos m c _ _ (fun h => h0 (hz0.mpr (by rw [h]))), held_C m c t h0 h1]
  generalize held m c (t.val - 1) _ = h
  unfold scratch leavesC; dsimp only
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((atC m c t h0 h1 h).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, HS0, HS1, HS2, HS3, HS4, HS5, HS6, HS7, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · unfold owns; iexists _; isplitr
        swap; · iexact HS8
        ipureintro; exact View.read_writes_of_cover _ _ _ _ _ (coverC_s8 m c t h0 h1 h)
      unfold owns; iexists _; isplitr
      swap; · iexact HS9
      ipureintro; exact View.read_writes_of_cover _ _ _ _ _ (coverC_s9 m c t h0 h1 h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (coverC_y m c t h0 h1 h)
  isplitl [H21]
  · unfold owns; iexists _; isplitr
    swap; · iexact H21
    ipureintro; exact View.read_writes_of_cover _ _ _ _ _ (coverC_x m c t h0 h1 h)
  isplitl [H22]
  · unfold owns; iexists _; isplitr
    swap; · iexact H22
    ipureintro; exact View.read_writes_of_cover _ _ _ _ _ (coverC_l m c t h0 h1 h)
  unfold owns; iexists _; isplitr
  swap; · iexact H23
  ipureintro; exact View.read_writes_of_cover _ _ _ _ _ (coverC_p m c t h0 h1 h)

/-- The body at any point. -/
theorem sound (c : Dev nD) (t : Fin cfg0.N) :
    bodyPre m c t ⊢ wp frame (wpE (defs₀ (F := F)) Variants.none c none) Set.univ (bodyAt0 t) (fun _ => bodyPost m c t) := by
  by_cases h0 : cond0_0 (grid0.coords t)
  · exact sound_A m c t h0 fun h1 => by have := (hcond0_0 t).mp h0; have := (hcond0_1 t).mp h1; omega
  · by_cases h1 : cond0_1 (grid0.coords t)
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the contents of the scratches are forgotten. -/
theorem Phi_out (c : Dev nD) (t : Fin (cfg0.N + 1)) (ht : t.val ≠ 0) : (dats m 0 c).Φ t ⊢ Pipeline.ΦA spec0 c := by
  rw [show (dats m 0 c).Φ t = inv m c t.val (Nat.le_of_lt_succ t.isLt) from rfl, inv_pos m c _ _ ht, PhiA0_eq]
  unfold scratch
  iintro ⟨⟨HS0, HS1, HS2, HS3, HS4, HS5, HS6, HS7, HS8, HS9⟩, Hg⟩
  isplitl [HS0 HS1 HS2 HS3 HS4 HS5 HS6 HS7 HS8 HS9]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    isplitl [HS7]
    · iexists _; iexact HS7
    isplitl [HS8]
    · iexists _; iexact HS8
    iexists _; iexact HS9
  iexact Hg

/-- The same after the last point. -/
theorem hout (c : Dev nD) : (dats m 0 c).Φ (Fin.last cfg0.N) ⊢ Pipeline.ΦA spec0 c :=
  Phi_out m c _ (by rw [Fin.val_last]; have : cfg0.N = 4 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- The launch: the arrays of the pipeline end at what the grid points wrote back, every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every execution ends with the arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- Every execution ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Body

end
-- ==== Proof.Body.Printed.lean ====
/- The program as printed and the idealized one are one text: the frame of the one, at bits, is the frame of the other. -/
module

public import proofs.«01_k».proof.Defs
public import proofs.«01_k».proof.Proof.Gen.Kernel
public import proofs.«01_k».proof.Proof.Body.Launch

@[expose] public section

set_option maxRecDepth 16384

noncomputable section

namespace Cert.Printed

open Idealize.ShloMosaic Idealize.SL.Sem

/-- The frame of `Cert.Kernel` at bits. -/
def framePrinted [Cert.Kernel.Facts] (m : (ℓ : Loc Cert.Kernel.nD Cert.Kernel.τ Cert.Kernel.sig) → Buf (Elt Bits) ℓ) (g : Dev Cert.Kernel.nD → PrngReg) : Prop :=
  θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)) ∧ r.2.sem = fun _ => 0)

/-- The frame of `Cert.KernelIdeal` at bits. -/
def frameIdeal [Cert.KernelIdeal.Facts] (m : (ℓ : Loc Cert.KernelIdeal.nD Cert.KernelIdeal.τ Cert.KernelIdeal.sig) → Buf (Elt Bits) ℓ) (g : Dev Cert.KernelIdeal.nD → PrngReg) : Prop :=
  θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) ∧ r.2.sem = fun _ => 0)

/-- The program as printed and the idealized one are the same text, so that what the frame says of the one it says of the other. -/
theorem same (m : (ℓ : Loc Cert.Kernel.nD Cert.Kernel.τ Cert.Kernel.sig) → Buf (Elt Bits) ℓ) (g : Dev Cert.Kernel.nD → PrngReg) :
    (@framePrinted Cert.Kernel.Gen.facts m g) = (@frameIdeal Cert.KernelIdeal.Gen.facts m g) := by sl_kernel_rfl

/-- The frame of the program as printed. -/
theorem frame (m : (ℓ : Loc Cert.Kernel.nD Cert.Kernel.τ Cert.Kernel.sig) → Buf (Elt Bits) ℓ) (g : Dev Cert.Kernel.nD → PrngReg) :
    @framePrinted Cert.Kernel.Gen.facts m g :=
  (same m g).mpr (Cert.KernelIdeal.Body.frame (F := Bits) m g)

end Cert.Printed
end
-- ==== Proof.Ref.Win.lean ====
/- The reference's operations, read off its program in windows: what a window of operations is, and the windows. -/
module

public import proofs.«01_k».proof.Proof.Gen.ReferenceIdeal
public import Idealize.ShloMosaic.Lib.Claim
public import Idealize.ShloMosaic.PureOps.Ideal.Laws

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

/-- The reference's programs, at the exact values. -/
abbrev HProg : Type _ := Prog (TpuEff nD τ sig (Elt Ideal) (Pipeline.Sig Λ₀ (Fin 0) fun p => (pcfgs (F := Ideal) p).Adm) .tc) PUnit

/-- `p` starts with the operations `ops` and goes on as `q`. -/
def Cut (p : HProg) (ops : List (HloOp τ sig (Elt Ideal))) (q : HProg) : Prop :=
  ∀ ops', IsSeq q ops' → IsSeq p (ops ++ ops')

theorem Cut.nil (p : HProg) : Cut p [] p := fun _ h => h

theorem Cut.cons {op : HloOp τ sig (Elt Ideal)} {k q : HProg} {ops : List (HloOp τ sig (Elt Ideal))}
    (h : Cut k ops q) : Cut ((hlo rfl op fun _ => .ret (⟨⟩ : PUnit)) >>= fun _ => k) (op :: ops) q :=
  fun o h' => IsSeq.cons (h o h')

/-- A window: the first operations of `p`, and how `p` goes on. -/
structure Win (p : HProg) where
  ops : List (HloOp τ sig (Elt Ideal))
  rest : HProg
  cut : Cut p ops rest

/-- The encoder's input layer. -/
def wIn : Win (main (F := Ideal) 0) := by
  apply Win.mk
  iterate 10 (apply Cut.cons)
  apply Cut.nil

set_option maxHeartbeats 2000000 in
/-- The encoder's first residual layer. -/
def wE0 : Win wIn.rest := by
  apply Win.mk
  iterate 60 (apply Cut.cons)
  apply Cut.nil

set_option maxHeartbeats 2000000 in
/-- Its second. -/
def wE1 : Win wE0.rest := by
  apply Win.mk
  iterate 60 (apply Cut.cons)
  apply Cut.nil

set_option maxHeartbeats 2000000 in
/-- Its third. -/
def wE2 : Win wE1.rest := by
  apply Win.mk
  iterate 60 (apply Cut.cons)
  apply Cut.nil

set_option maxHeartbeats 2000000 in
/-- Its fourth. -/
def wE3 : Win wE2.rest := by
  apply Win.mk
  iterate 60 (apply Cut.cons)
  apply Cut.nil

/-- The encoder's output layer, its rows cut into groups of 64. -/
def wZ : Win wE3.rest := by
  apply Win.mk
  iterate 5 (apply Cut.cons)
  apply Cut.nil

/-- The squared distances of the groups to the code book's rows. -/
def wD : Win wZ.rest := by
  apply Win.mk
  iterate 17 (apply Cut.cons)
  apply Cut.nil

/-- The index of the nearest row, and its indicator. -/
def wI : Win wD.rest := by
  apply Win.mk
  iterate 11 (apply Cut.cons)
  apply Cut.nil

/-- The chosen rows, and the loss. -/
def wL : Win wI.rest := by
  apply Win.mk
  iterate 16 (apply Cut.cons)
  apply Cut.nil

/-- The quantised rows and the perplexity. -/
def wQ : Win wL.rest := by
  apply Win.mk
  iterate 17 (apply Cut.cons)
  apply Cut.nil

/-- The decoder's input layer. -/
def wX : Win wQ.rest := by
  apply Win.mk
  iterate 4 (apply Cut.cons)
  apply Cut.nil

set_option maxHeartbeats 2000000 in
/-- The decoder's first residual layer. -/
def wD0 : Win wX.rest := by
  apply Win.mk
  iterate 60 (apply Cut.cons)
  apply Cut.nil

set_option maxHeartbeats 2000000 in
/-- Its second. -/
def wD1 : Win wD0.rest := by
  apply Win.mk
  iterate 60 (apply Cut.cons)
  apply Cut.nil

set_option maxHeartbeats 2000000 in
/-- Its third. -/
def wD2 : Win wD1.rest := by
  apply Win.mk
  iterate 60 (apply Cut.cons)
  apply Cut.nil

set_option maxHeartbeats 2000000 in
/-- Its fourth. -/
def wD3 : Win wD2.rest := by
  apply Win.mk
  iterate 60 (apply Cut.cons)
  apply Cut.nil

/-- The decoder's output layer, scaled and shifted. -/
def wO : Win wD3.rest := by
  apply Win.mk
  iterate 10 (apply Cut.cons)
  apply Cut.nil

/-- The program ends after the last window. -/
theorem end_nil : IsSeq wO.rest [] := IsSeq.nil

end Cert.Ref
end
-- ==== Proof.Ref.Run.lean ====
/- The reference's run: it is its windows one after another, each of which writes buffers of its own. -/
module

public import proofs.«01_k».proof.Proof.Ref.Win

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

/-- A window writes the buffers of `W`, one by one, leaves no other changed, and can be run. -/
structure Good (ops : List (HloOp τ sig (Elt Ideal))) (W : List (Ref sig .tc)) : Prop where
  writes : ops.map HloOp.writes = W.map fun r => {Proc.devRef (τ := τ) .tc r}
  fresh : ops.Forall fun op => op.fresh = ∅
  bufs : ops.Forall fun op => op.bufs ⊆ tcRefs τ sig

/-- A buffer that a window does not write is left as it was. -/
theorem Good.keep {ops : List (HloOp τ sig (Elt Ideal))} {W : List (Ref sig .tc)} (h : Good ops W) (V : Valuation τ sig (Elt Ideal))
    (r : Ref sig .tc) (hr : r ∉ W) : after ops V (Proc.devRef .tc r) = V (Proc.devRef .tc r) :=
  after_of_writes_sub ops V (forall_writes_sub_of_map h.writes) hr

/-- The buffers that `wIn` writes. -/
def wIn_W : List (Ref sig .tc) :=
  [main_cst, main_v0, main_v1, main_cst_0, main_v2, main_v3, main_v4, main_v5, main_v6, main_v7]
theorem wIn_good : Good wIn.ops wIn_W where
  writes := rfl
  fresh := forall_fresh_of_map rfl
  bufs := by unfold wIn; simp

/-- The buffers that `wE0` writes. -/
def wE0_W : List (Ref sig .tc) :=
  [main_v8, main_v9, main_v10, main_v11, main_v12, main_v13, main_v14, main_v15, main_v16, main_v17, main_v18, main_v19, main_cst_1,
    main_v20, main_v21, main_cst_2, main_v22, main_v23, main_c, main_call0_cst, main_call0_v0, main_call0_v1, main_call0_cst_0,
    main_call0_v2, main_call0_v3, main_call0_v4, main_call0_v5, main_call0_v6, main_call0_v7, main_call0_cst_1, main_call0_v8,
    main_call0_cst_2, main_call0_v9, main_call0_v10, main_call0_v11, main_call0_v12, main_call0_cst_3, main_call0_v13, main_call0_cst_4,
    main_call0_call0_v0, main_call0_call0_v1, main_v24, main_v25, main_v26, main_cst_3, main_v27, main_v28, main_v29, main_v30, main_v31,
    main_v32, main_v33, main_v34, main_v35, main_v36, main_v37, main_call1_cst, main_call1_v0, main_v38, main_v39]
theorem wE0_good : Good wE0.ops wE0_W where
  writes := rfl
  fresh := forall_fresh_of_map rfl
  bufs := by unfold wE0; simp

/-- The buffers that `wE1` writes. -/
def wE1_W : List (Ref sig .tc) :=
  [main_v40, main_v41, main_v42, main_v43, main_v44, main_v45, main_v46, main_v47, main_v48, main_v49, main_v50, main_v51, main_cst_4,
    main_v52, main_v53, main_cst_5, main_v54, main_v55, main_c_6, main_call2_cst, main_call2_v0, main_call2_v1, main_call2_cst_0,
    main_call2_v2, main_call2_v3, main_call2_v4, main_call2_v5, main_call2_v6, main_call2_v7, main_call2_cst_1, main_call2_v8,
    main_call2_cst_2, main_call2_v9, main_call2_v10, main_call2_v11, main_call2_v12, main_call2_cst_3, main_call2_v13, main_call2_cst_4,
    main_call2_call0_v0, main_call2_call0_v1, main_v56, main_v57, main_v58, main_cst_7, main_v59, main_v60, main_v61, main_v62, main_v63,
    main_v64, main_v65, main_v66, main_v67, main_v68, main_v69, main_call3_cst, main_call3_v0, main_v70, main_v71]
theorem wE1_good : Good wE1.ops wE1_W where
  writes := rfl
  fresh := forall_fresh_of_map rfl
  bufs := by unfold wE1; simp

/-- The buffers that `wE2` writes. -/
def wE2_W : List (Ref sig .tc) :=
  [main_v72, main_v73, main_v74, main_v75, main_v76, main_v77, main_v78, main_v79, main_v80, main_v81, main_v82, main_v83, main_cst_8,
    main_v84, main_v85, main_cst_9, main_v86, main_v87, main_c_10, main_call4_cst, main_call4_v0, main_call4_v1, main_call4_cst_0,
    main_call4_v2, main_call4_v3, main_call4_v4, main_call4_v5, main_call4_v6, main_call4_v7, main_call4_cst_1, main_call4_v8,
    main_call4_cst_2, main_call4_v9, main_call4_v10, main_call4_v11, main_call4_v12, main_call4_cst_3, main_call4_v13, main_call4_cst_4,
    main_call4_call0_v0, main_call4_call0_v1, main_v88, main_v89, main_v90, main_cst_11, main_v91, main_v92, main_v93, main_v94,
    main_v95, main_v96, main_v97, main_v98, main_v99, main_v100, main_v101, main_call5_cst, main_call5_v0, main_v102, main_v103]
theorem wE2_good : Good wE2.ops wE2_W where
  writes := rfl
  fresh := forall_fresh_of_map rfl
  bufs := by unfold wE2; simp

/-- The buffers that `wE3` writes. -/
def wE3_W : List (Ref sig .tc) :=
  [main_v104, main_v105, main_v106, main_v107, main_v108, main_v109, main_v110, main_v111, main_v112, main_v113, main_v114, main_v115,
    main_cst_12, main_v116, main_v117, main_cst_13, main_v118, main_v119, main_c_14, main_call6_cst, main_call6_v0, main_call6_v1,
    main_call6_cst_0, main_call6_v2, main_call6_v3, main_call6_v4, main_call6_v5, main_call6_v6, main_call6_v7, main_call6_cst_1,
    main_call6_v8, main_call6_cst_2, main_call6_v9, main_call6_v10, main_call6_v11, main_call6_v12, main_call6_cst_3, main_call6_v13,
    main_call6_cst_4, main_call6_call0_v0, main_call6_call0_v1, main_v120, main_v121, main_v122, main_cst_15, main_v123, main_v124,
    main_v125, main_v126, main_v127, main_v128, main_v129, main_v130, main_v131, main_v132, main_v133, main_call7_cst, main_call7_v0,
    main_v134, main_v135]
theorem wE3_good : Good wE3.ops wE3_W where
  writes := rfl
  fresh := forall_fresh_of_map rfl
  bufs := by unfold wE3; simp

/-- The buffers that `wZ` writes. -/
def wZ_W : List (Ref sig .tc) :=
  [main_v136, main_v137, main_v138, main_v139, main_v140]
theorem wZ_good : Good wZ.ops wZ_W where
  writes := rfl
  fresh := forall_fresh_of_map rfl
  bufs := by unfold wZ; simp

/-- The buffers that `wD` writes. -/
def wD_W : List (Ref sig .tc) :=
  [main_v141, main_cst_16, main_v142, main_v143, main_v144, main_cst_17, main_v145, main_v146, main_v147, main_v148, main_v149,
    main_v150, main_v151, main_cst_18, main_v152, main_v153, main_v154]
theorem wD_good : Good wD.ops wD_W where
  writes := rfl
  fresh := forall_fresh_of_map rfl
  bufs := by unfold wD; simp

/-- The buffers that `wI` writes. -/
def wI_W : List (Ref sig .tc) :=
  [main_call8_v0, main_call8_cst, main_call8_c, main_call8_v1_0, main_v155, main_call9_v0, main_call9_v1, main_call9_v2, main_call9_v3,
    main_call9_v4, main_v156]
theorem wI_good : Good wI.ops wI_W where
  writes := rfl
  fresh := forall_fresh_of_map rfl
  bufs := by unfold wI; simp

/-- The buffers that `wL` writes. -/
def wL_W : List (Ref sig .tc) :=
  [main_v157, main_v158, main_v159, main_cst_19, main_v160, main_cst_20, main_v161, main_v162, main_v163, main_cst_21, main_v164,
    main_cst_22, main_v165, main_cst_23, main_v166, main_v167]
theorem wL_good : Good wL.ops wL_W where
  writes := rfl
  fresh := forall_fresh_of_map rfl
  bufs := by unfold wL; simp

/-- The buffers that `wQ` writes. -/
def wQ_W : List (Ref sig .tc) :=
  [main_v168, main_v169, main_cst_24, main_v170, main_cst_25, main_v171, main_v172, main_cst_26, main_v173, main_v174, main_v175,
    main_v176, main_cst_27, main_v177, main_v178, main_v179, main_v180]
theorem wQ_good : Good wQ.ops wQ_W where
  writes := rfl
  fresh := forall_fresh_of_map rfl
  bufs := by unfold wQ; simp

/-- The buffers that `wX` writes. -/
def wX_W : List (Ref sig .tc) :=
  [main_v181, main_v182, main_v183, main_v184]
theorem wX_good : Good wX.ops wX_W where
  writes := rfl
  fresh := forall_fresh_of_map rfl
  bufs := by unfold wX; simp

/-- The buffers that `wD0` writes. -/
def wD0_W : List (Ref sig .tc) :=
  [main_v185, main_v186, main_v187, main_v188, main_v189, main_v190, main_v191, main_v192, main_v193, main_v194, main_v195, main_v196,
    main_cst_28, main_v197, main_v198, main_cst_29, main_v199, main_v200, main_c_30, main_call10_cst, main_call10_v0, main_call10_v1,
    main_call10_cst_0, main_call10_v2, main_call10_v3, main_call10_v4, main_call10_v5, main_call10_v6, main_call10_v7, main_call10_cst_1,
    main_call10_v8, main_call10_cst_2, main_call10_v9, main_call10_v10, main_call10_v11, main_call10_v12, main_call10_cst_3,
    main_call10_v13, main_call10_cst_4, main_call10_call0_v0, main_call10_call0_v1, main_v201, main_v202, main_v203, main_cst_31,
    main_v204, main_v205, main_v206, main_v207, main_v208, main_v209, main_v210, main_v211, main_v212, main_v213, main_v214,
    main_call11_cst, main_call11_v0, main_v215, main_v216]
theorem wD0_good : Good wD0.ops wD0_W where
  writes := rfl
  fresh := forall_fresh_of_map rfl
  bufs := by unfold wD0; simp

/-- The buffers that `wD1` writes. -/
def wD1_W : List (Ref sig .tc) :=
  [main_v217, main_v218, main_v219, main_v220, main_v221, main_v222, main_v223, main_v224, main_v225, main_v226, main_v227, main_v228,
    main_cst_32, main_v229, main_v230, main_cst_33, main_v231, main_v232, main_c_34, main_call12_cst, main_call12_v0, main_call12_v1,
    main_call12_cst_0, main_call12_v2, main_call12_v3, main_call12_v4, main_call12_v5, main_call12_v6, main_call12_v7, main_call12_cst_1,
    main_call12_v8, main_call12_cst_2, main_call12_v9, main_call12_v10, main_call12_v11, main_call12_v12, main_call12_cst_3,
    main_call12_v13, main_call12_cst_4, main_call12_call0_v0, main_call12_call0_v1, main_v233, main_v234, main_v235, main_cst_35,
    main_v236, main_v237, main_v238, main_v239, main_v240, main_v241, main_v242, main_v243, main_v244, main_v245, main_v246,
    main_call13_cst, main_call13_v0, main_v247, main_v248]
theorem wD1_good : Good wD1.ops wD1_W where
  writes := rfl
  fresh := forall_fresh_of_map rfl
  bufs := by unfold wD1; simp

/-- The buffers that `wD2` writes. -/
def wD2_W : List (Ref sig .tc) :=
  [main_v249, main_v250, main_v251, main_v252, main_v253, main_v254, main_v255, main_v256, main_v257, main_v258, main_v259, main_v260,
    main_cst_36, main_v261, main_v262, main_cst_37, main_v263, main_v264, main_c_38, main_call14_cst, main_call14_v0, main_call14_v1,
    main_call14_cst_0, main_call14_v2, main_call14_v3, main_call14_v4, main_call14_v5, main_call14_v6, main_call14_v7, main_call14_cst_1,
    main_call14_v8, main_call14_cst_2, main_call14_v9, main_call14_v10, main_call14_v11, main_call14_v12, main_call14_cst_3,
    main_call14_v13, main_call14_cst_4, main_call14_call0_v0, main_call14_call0_v1, main_v265, main_v266, main_v267, main_cst_39,
    main_v268, main_v269, main_v270, main_v271, main_v272, main_v273, main_v274, main_v275, main_v276, main_v277, main_v278,
    main_call15_cst, main_call15_v0, main_v279, main_v280]
theorem wD2_good : Good wD2.ops wD2_W where
  writes := rfl
  fresh := forall_fresh_of_map rfl
  bufs := by unfold wD2; simp

/-- The buffers that `wD3` writes. -/
def wD3_W : List (Ref sig .tc) :=
  [main_v281, main_v282, main_v283, main_v284, main_v285, main_v286, main_v287, main_v288, main_v289, main_v290, main_v291, main_v292,
    main_cst_40, main_v293, main_v294, main_cst_41, main_v295, main_v296, main_c_42, main_call16_cst, main_call16_v0, main_call16_v1,
    main_call16_cst_0, main_call16_v2, main_call16_v3, main_call16_v4, main_call16_v5, main_call16_v6, main_call16_v7, main_call16_cst_1,
    main_call16_v8, main_call16_cst_2, main_call16_v9, main_call16_v10, main_call16_v11, main_call16_v12, main_call16_cst_3,
    main_call16_v13, main_call16_cst_4, main_call16_call0_v0, main_call16_call0_v1, main_v297, main_v298, main_v299, main_cst_43,
    main_v300, main_v301, main_v302, main_v303, main_v304, main_v305, main_v306, main_v307, main_v308, main_v309, main_v310,
    main_call17_cst, main_call17_v0, main_v311, main_v312]
theorem wD3_good : Good wD3.ops wD3_W where
  writes := rfl
  fresh := forall_fresh_of_map rfl
  bufs := by unfold wD3; simp

/-- The buffers that `wO` writes. -/
def wO_W : List (Ref sig .tc) :=
  [main_v313, main_v314, main_v315, main_v316, main_cst_44, main_v317, main_v318, main_cst_45, main_v319, main_v320]
theorem wO_good : Good wO.ops wO_W where
  writes := rfl
  fresh := forall_fresh_of_map rfl
  bufs := by unfold wO; simp

/-- All operations. -/
def ops : List (HloOp τ sig (Elt Ideal)) :=
  wIn.ops ++ (wE0.ops ++ (wE1.ops ++ (wE2.ops ++ (wE3.ops ++ (wZ.ops ++ (wD.ops ++ (wI.ops ++ (wL.ops ++ (wQ.ops ++ (wX.ops ++ (wD0.ops ++ (wD1.ops ++ (wD2.ops ++ (wD3.ops ++ (wO.ops ++ [])))))))))))))))

theorem main_seq (d : Dev nD) : IsSeq (main (F := Ideal) d) ops :=
  wIn.cut _ (wE0.cut _ (wE1.cut _ (wE2.cut _ (wE3.cut _ (wZ.cut _ (wD.cut _ (wI.cut _ (wL.cut _ (wQ.cut _ (wX.cut _ (wD0.cut _ (wD1.cut _ (wD2.cut _ (wD3.cut _ (wO.cut _ end_nil)))))))))))))))

theorem ops_forall (p : HloOp τ sig (Elt Ideal) → Prop) (h : ∀ o W, Good o W → o.Forall p) : ops.Forall p := by
  have app {a b : List (HloOp τ sig (Elt Ideal))} (ha : a.Forall p) (hb : b.Forall p) : (a ++ b).Forall p := by
    rw [List.forall_iff_forall_mem] at *
    exact fun x hx => (List.mem_append.1 hx).elim (ha x) (hb x)
  exact app (h _ _ wIn_good) (app (h _ _ wE0_good) (app (h _ _ wE1_good) (app (h _ _ wE2_good) (app (h _ _ wE3_good) (app (h _ _ wZ_good) (app (h _ _ wD_good) (app (h _ _ wI_good) (app (h _ _ wL_good) (app (h _ _ wQ_good) (app (h _ _ wX_good) (app (h _ _ wD0_good) (app (h _ _ wD1_good) (app (h _ _ wD2_good) (app (h _ _ wD3_good) (app (h _ _ wO_good) (trivial))))))))))))))))

/-- The reference runs, and leaves in every buffer what its operations one after another leave there. -/
theorem run (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b) = after ops (launchContents m d) (Proc.devRef .tc b) :=
  run_hlo defs main main_seq (by decide) (by decide) (ops_forall _ fun _ _ h => h.bufs)
    (List.forall_iff_forall_mem.1 (ops_forall _ fun _ _ h => h.fresh)) m ρ

end Cert.Ref
end
-- ==== Proof.Ref.Stages.lean ====
/- The buffers between the windows of the reference: each stage, what it leaves alone, and that the arguments stay. -/
module

public import proofs.«01_k».proof.Proof.Ref.Run

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

/-- A window's operations with the buffers that they write. -/
structure Window where
  ops : List (HloOp τ sig (Elt Ideal))
  W : List (Ref sig .tc)
  good : Good ops W

/-- What some windows leave of the contents `V`. -/
def through (V : Valuation τ sig (Elt Ideal)) (L : List Window) : Valuation τ sig (Elt Ideal) := L.foldl (fun V w => after w.ops V) V

/-- They leave alone what none of them writes. -/
theorem through_keep (L : List Window) (V : Valuation τ sig (Elt Ideal)) (r : Ref sig .tc) (h : ∀ w ∈ L, r ∉ w.W) :
    through V L (Proc.devRef .tc r) = V (Proc.devRef .tc r) := by
  induction L generalizing V with
  | nil => rfl
  | cons w L ih =>
    exact (ih (after w.ops V) fun w' hw => h w' (List.mem_cons_of_mem _ hw)).trans (w.good.keep V r (h w List.mem_cons_self))

/-- All windows. -/
def windows : List Window :=
  [ ⟨wIn.ops, wIn_W, wIn_good⟩,
    ⟨wE0.ops, wE0_W, wE0_good⟩,
    ⟨wE1.ops, wE1_W, wE1_good⟩,
    ⟨wE2.ops, wE2_W, wE2_good⟩,
    ⟨wE3.ops, wE3_W, wE3_good⟩,
    ⟨wZ.ops, wZ_W, wZ_good⟩,
    ⟨wD.ops, wD_W, wD_good⟩,
    ⟨wI.ops, wI_W, wI_good⟩,
    ⟨wL.ops, wL_W, wL_good⟩,
    ⟨wQ.ops, wQ_W, wQ_good⟩,
    ⟨wX.ops, wX_W, wX_good⟩,
    ⟨wD0.ops, wD0_W, wD0_good⟩,
    ⟨wD1.ops, wD1_W, wD1_good⟩,
    ⟨wD2.ops, wD2_W, wD2_good⟩,
    ⟨wD3.ops, wD3_W, wD3_good⟩,
    ⟨wO.ops, wO_W, wO_good⟩ ]

/-- The contents after the first `k` windows. -/
def stage (V : Valuation τ sig (Elt Ideal)) (k : ℕ) : Valuation τ sig (Elt Ideal) := through V (windows.take k)

theorem after_ops (V : Valuation τ sig (Elt Ideal)) : after ops V = stage V 16 := by
  unfold ops
  simp only [after_append]
  rfl

/-- The arguments. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17]

theorem args_kept : ∀ r ∈ args, ∀ W ∈ windows.map Window.W, r ∉ W := by decide +kernel

/-- Every stage holds the arguments as they were. -/
theorem stage_arg (V : Valuation τ sig (Elt Ideal)) (k : ℕ) (r : Ref sig .tc) (hr : r ∈ args) :
    stage V k (Proc.devRef .tc r) = V (Proc.devRef .tc r) :=
  through_keep _ V r fun w hw => args_kept r hr w.W (List.mem_map_of_mem (List.mem_of_mem_take hw))

/-- From one stage to a later one, what the windows between do not write stays. -/
theorem stage_keep (V : Valuation τ sig (Elt Ideal)) (i n : ℕ) (r : Ref sig .tc)
    (h : ∀ W ∈ ((windows.drop i).take n).map Window.W, r ∉ W) :
    stage V (i + n) (Proc.devRef .tc r) = stage V i (Proc.devRef .tc r) := by
  have e : stage V (i + n) = through (stage V i) ((windows.drop i).take n) := by
    unfold stage through
    rw [List.take_add, List.foldl_append]
  rw [e]
  exact through_keep _ _ r fun w hw => h w.W (List.mem_map_of_mem hw)

/-- Every execution of the reference ends, and leaves its arguments as they were. -/
theorem unchanged (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) := by
  refine (θ_run defs _ _).mono (fun r h c => ?_) (run m ρ)
  have k (b : Ref sig .tc) (hb : b ∈ args) : r.2.mem ((c.tc : Thread nD τ).loc b) = m ((c.tc : Thread nD τ).loc b) :=
    (h c b).trans ((congrFun (after_ops (launchContents m c)) _).trans (stage_arg (launchContents m c) 16 b hb))
  exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

end Cert.Ref
end
-- ==== Proof.Math.Up.lean ====
/- Arrays of reals inside arrays of extended reals, and each operation of the two programs on them. -/
module

public import Idealize.ShloMosaic.Lib.Pointwise
public import Idealize.ShloMosaic.Lib.IdealHost
public import Idealize.ShloMosaic.Lib.MatmulPlain
public import Idealize.ShloMosaic.Lib.ValueLayout
public import Idealize.ShloMosaic.Lib.ValueLayoutCasts

@[expose] public section

set_option maxRecDepth 16384

noncomputable section

namespace Cert.Up

open Idealize.ShloMosaic
open scoped BigOperators

/-- A sum of reals, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section Scalar
variable (x y : ℝ)

theorem coe_div (h : y ≠ 0) : Ideal.div (x : EReal) (y : EReal) = ((x / y : ℝ) : EReal) := by
  rw [Ideal.div, if_neg (by exact_mod_cast h), ← EReal.coe_inv, ← EReal.coe_mul, div_eq_mul_inv]

theorem coe_max : max (x : EReal) (y : EReal) = ((max x y : ℝ) : EReal) :=
  (EReal.coe_strictMono.monotone.map_max).symm

theorem coe_sqrt (h : 0 ≤ x) : Ideal.sqrt (x : EReal) = ((Real.sqrt x : ℝ) : EReal) := by
  show (if x < 0 then (⊥ : EReal) else (Real.sqrt x : EReal)) = _
  rw [if_neg (not_lt.mpr h)]

theorem coe_rsqrt (h : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr h.le), if_neg h.ne']

theorem coe_log (h : 0 < x) : Ideal.log (x : EReal) = ((Real.log x : ℝ) : EReal) := by
  show (if x ≤ 0 then (⊥ : EReal) else (Real.log x : EReal)) = _
  rw [if_neg (not_le.mpr h)]

theorem coe_exp : Ideal.exp (x : EReal) = ((Real.exp x : ℝ) : EReal) := rfl

end Scalar

/-! ### Arrays of one, two and three axes with real entries -/

/-- No axis: one number. -/
def R0 (x : ℝ) : (⟨0, ![]⟩ : Shape).Idx → EReal := fun _ => (x : EReal)
/-- One axis. -/
def R1 {n : ℕ} (f : Fin n → ℝ) : (⟨1, ![n]⟩ : Shape).Idx → EReal := fun i => (f (i 0) : EReal)
/-- Two axes: a matrix, given by its rows. -/
def R2 {n m : ℕ} (f : Fin n → Fin m → ℝ) : (⟨2, ![n, m]⟩ : Shape).Idx → EReal := fun i => (f (i 0) (i 1) : EReal)
/-- Three axes. -/
def R3 {n m k : ℕ} (f : Fin n → Fin m → Fin k → ℝ) : (⟨3, ![n, m, k]⟩ : Shape).Idx → EReal := fun i => (f (i 0) (i 1) (i 2) : EReal)

theorem R1_ix {n : ℕ} (f : Fin n → ℝ) (a : Fin n) : R1 f (ix1 a) = (f a : EReal) := rfl
theorem R2_ix {n m : ℕ} (f : Fin n → Fin m → ℝ) (a : Fin n) (b : Fin m) : R2 f (ix2 a b) = (f a b : EReal) := rfl
theorem R3_ix {n m k : ℕ} (f : Fin n → Fin m → Fin k → ℝ) (a : Fin n) (b : Fin m) (c : Fin k) : R3 f (ix3 a b c) = (f a b c : EReal) := rfl

/-- An array without infinities has real entries. -/
theorem exists_R1 {n : ℕ} {x : (⟨1, ![n]⟩ : Shape).Idx → EReal} (h : ∀ i, x i ≠ ⊤ ∧ x i ≠ ⊥) : ∃ f, x = R1 f :=
  ⟨fun a => (x (ix1 a)).toReal, funext fun i => by
    obtain ⟨a, rfl⟩ : ∃ a, i = ix1 a := ⟨i 0, eq_ix1 i⟩
    exact (EReal.coe_toReal (h _).1 (h _).2).symm⟩
theorem exists_R2 {n m : ℕ} {x : (⟨2, ![n, m]⟩ : Shape).Idx → EReal} (h : ∀ i, x i ≠ ⊤ ∧ x i ≠ ⊥) : ∃ f, x = R2 f :=
  ⟨fun a b => (x (ix2 a b)).toReal, funext fun i => by
    obtain ⟨a, b, rfl⟩ : ∃ a b, i = ix2 a b := ⟨i 0, i 1, eq_ix2 i⟩
    exact (EReal.coe_toReal (h _).1 (h _).2).symm⟩
theorem exists_R3 {n m k : ℕ} {x : (⟨3, ![n, m, k]⟩ : Shape).Idx → EReal} (h : ∀ i, x i ≠ ⊤ ∧ x i ≠ ⊥) : ∃ f, x = R3 f :=
  ⟨fun a b c => (x (ix3 a b c)).toReal, funext fun i => by
    obtain ⟨a, b, c, rfl⟩ : ∃ a b c, i = ix3 a b c := ⟨i 0, i 1, i 2, eq_ix3 i⟩
    exact (EReal.coe_toReal (h _).1 (h _).2).symm⟩

section Elementwise
variable {n m : ℕ} {φ : FTy} (f g : Fin n → Fin m → ℝ)

theorem addf_R2 : addf (F := Ideal) (φ := φ) (R2 f) (R2 g) = R2 fun r j => f r j + g r j := funext fun _ => (EReal.coe_add _ _).symm
theorem subf_R2 : subf (F := Ideal) (φ := φ) (R2 f) (R2 g) = R2 fun r j => f r j - g r j := funext fun _ => (EReal.coe_sub _ _).symm
theorem mulf_R2 : mulf (F := Ideal) (φ := φ) (R2 f) (R2 g) = R2 fun r j => f r j * g r j := funext fun _ => (EReal.coe_mul _ _).symm
theorem maximumf_R2 : maximumf (F := Ideal) (φ := φ) (R2 f) (R2 g) = R2 fun r j => max (f r j) (g r j) := funext fun _ => coe_max _ _
theorem divf_R2 (h : ∀ r j, g r j ≠ 0) : divf (F := Ideal) (φ := φ) (R2 f) (R2 g) = R2 fun r j => f r j / g r j :=
  funext fun _ => coe_div _ _ (h _ _)
theorem hostDivf_R2 (h : ∀ r j, g r j ≠ 0) : Host.divf (F := Ideal) (φ := φ) (R2 f) (R2 g) = R2 fun r j => f r j / g r j :=
  funext fun _ => coe_div _ _ (h _ _)
theorem sqrt_R2 (h : ∀ r j, 0 ≤ f r j) : Idealize.ShloMosaic.sqrt (F := Ideal) (φ := φ) (R2 f) = R2 fun r j => Real.sqrt (f r j) :=
  funext fun _ => coe_sqrt _ (h _ _)
theorem hostSqrt_R2 (h : ∀ r j, 0 ≤ f r j) : Host.sqrt (F := Ideal) (φ := φ) (R2 f) = R2 fun r j => Real.sqrt (f r j) :=
  funext fun _ => coe_sqrt _ (h _ _)
theorem rsqrt_R2 (h : ∀ r j, 0 < f r j) : Idealize.ShloMosaic.rsqrt (F := Ideal) (φ := φ) (R2 f) = R2 fun r j => (Real.sqrt (f r j))⁻¹ :=
  funext fun _ => coe_rsqrt _ (h _ _)
theorem log_R2 (h : ∀ r j, 0 < f r j) : Idealize.ShloMosaic.log (F := Ideal) (φ := φ) (R2 f) = R2 fun r j => Real.log (f r j) :=
  funext fun _ => coe_log _ (h _ _)
theorem truncf_R2 {ψ : FTy} (h : ψ.bits < φ.bits) : truncf (F := Ideal) (φ := φ) ψ (R2 f) h = R2 f := rfl
theorem truncf_R3 {k : ℕ} (f : Fin n → Fin m → Fin k → ℝ) {ψ : FTy} (h : ψ.bits < φ.bits) :
    truncf (F := Ideal) (φ := φ) ψ (R3 f) h = R3 f := rfl

end Elementwise

section Layout
variable {n m k : ℕ}

theorem broadcast_R2 (x : ℝ) : broadcast (⟨2, ![n, m]⟩ : Shape) (x : EReal) = R2 fun _ _ => x := rfl

/-- Two matrices agree if they do at every pair of indices. -/
theorem ext2 {α : Type} {x y : (⟨2, ![n, m]⟩ : Shape).Idx → α} (h : ∀ a b, x (ValueIdx.ix2 a b) = y (ValueIdx.ix2 a b)) : x = y :=
  funext fun i => by
    obtain ⟨a, b, rfl⟩ : ∃ a b, i = ValueIdx.ix2 a b := ⟨i 0, i 1, ValueIdx.eq_ix2 i⟩
    exact h a b
/-- Two vectors agree if they do at every index. -/
theorem ext1 {α : Type} {x y : (⟨1, ![n]⟩ : Shape).Idx → α} (h : ∀ a, x (ValueIdx.ix1 a) = y (ValueIdx.ix1 a)) : x = y :=
  funext fun i => by
    obtain ⟨a, rfl⟩ : ∃ a, i = ValueIdx.ix1 a := ⟨i 0, ValueIdx.eq_ix1 i⟩
    exact h a

/-- A row, repeated. -/
theorem broadcastTo_row (f : Fin 1 → Fin m → ℝ) (h : (⟨2, ![1, m]⟩ : Shape).Broadcasts ⟨2, ![n, m]⟩) :
    broadcastTo ⟨2, ![n, m]⟩ (R2 f) h = R2 fun _ j => f 0 j :=
  ext2 fun a b => ValueIdx.broadcastTo_1b_ab_apply _ h a b

/-- A column, repeated. -/
theorem broadcastTo_col (f : Fin n → Fin 1 → ℝ) (h : (⟨2, ![n, 1]⟩ : Shape).Broadcasts ⟨2, ![n, m]⟩) :
    broadcastTo ⟨2, ![n, m]⟩ (R2 f) h = R2 fun r _ => f r 0 :=
  ext2 fun a b => broadcastTo_apply _ h _ (ValueIdx.ix2 a 0) fun ax => by
    match ax with
    | ⟨0, _⟩ =>
      show a.val = if n = 1 then 0 else a.val
      split <;> omega
    | ⟨1, _⟩ => rfl

theorem shapeCast_same (f : Fin n → Fin m → ℝ) (h : (⟨2, ![n, m]⟩ : Shape).ShapeCasts ⟨2, ![n, m]⟩) :
    shapeCast ⟨2, ![n, m]⟩ (R2 f) h = R2 f :=
  ext2 fun _ _ => shapeCast_apply _ h _ _ rfl

theorem shapeCast_drop (f : Fin 1 → Fin m → Fin k → ℝ) (h : (⟨3, ![1, m, k]⟩ : Shape).ShapeCasts ⟨2, ![m, k]⟩) :
    shapeCast ⟨2, ![m, k]⟩ (R3 f) h = R2 (f 0) :=
  ext2 fun a b => ValueIdx.shapeCast_1ab_ab_apply _ h a b

theorem shapeCast_col (f : Fin n → ℝ) (h : (⟨1, ![n]⟩ : Shape).ShapeCasts ⟨2, ![n, 1]⟩) :
    shapeCast ⟨2, ![n, 1]⟩ (R1 f) h = R2 fun r _ => f r :=
  ext2 fun a b => ValueIdx.shapeCast_a_a1_apply _ h a b

theorem shapeCast_row (f : Fin m → ℝ) (h : (⟨1, ![m]⟩ : Shape).ShapeCasts ⟨2, ![1, m]⟩) :
    shapeCast ⟨2, ![1, m]⟩ (R1 f) h = R2 fun _ j => f j :=
  ext2 fun a b => ValueIdx.shapeCast_a_1a_apply _ h a b

theorem shapeCast_unrow (f : Fin 1 → Fin m → ℝ) (h : (⟨2, ![1, m]⟩ : Shape).ShapeCasts ⟨1, ![m]⟩) :
    shapeCast ⟨1, ![m]⟩ (R2 f) h = R1 (f 0) :=
  ext1 fun a => ValueIdx.shapeCast_1a_a_apply _ h a

theorem transpose_R2 (f : Fin n → Fin m → ℝ) (h : (⟨2, ![n, m]⟩ : Shape).Transposes [1, 0] ⟨2, ![m, n]⟩) :
    transpose ⟨2, ![m, n]⟩ [1, 0] (R2 f) h = R2 fun j i => f i j :=
  ext2 fun a b => ValueIdx.transpose_ix2_apply _ h a b

/-- Rows from `o` on. -/
theorem slice_rows (o : ℕ) (f : Fin n → Fin m → ℝ) (h : (⟨2, ![n, m]⟩ : Shape).Slices ![o, 0] ⟨2, ![k, m]⟩) (g : Fin k → Fin n)
    (hg : ∀ j, (g j).val = o + j.val) : extractStridedSlice ⟨2, ![k, m]⟩ ![o, 0] (R2 f) h = R2 fun r j => f (g r) j :=
  ext2 fun a b => ValueIdx.slice2_axis0_apply o _ h a b (g a) (hg a)

/-- Columns from `o` on. -/
theorem slice_cols (o : ℕ) (f : Fin n → Fin m → ℝ) (h : (⟨2, ![n, m]⟩ : Shape).Slices ![0, o] ⟨2, ![n, k]⟩) (g : Fin k → Fin m)
    (hg : ∀ j, (g j).val = o + j.val) : extractStridedSlice ⟨2, ![n, k]⟩ ![0, o] (R2 f) h = R2 fun r j => f r (g j) :=
  ext2 fun a b => ValueIdx.slice2_axis1_apply o _ h a b (g b) (hg b)

end Layout

section Sums
variable {n m k : ℕ} {φ φ₁ φ₂ : FTy}

/-- The sum over the second axis. -/
theorem sum1_R2 (f : Fin n → Fin m → ℝ) (acc : BitVec φ.bits) (h : Shape.Reduces ⟨2, ![n, m]⟩ [1] ⟨1, ![n]⟩)
    (hφ : FKind.Formats φ) (hacc : acc = FKind.add.neutral φ hφ) :
    multiReduction (F := Ideal) .add [1] ⟨1, ![n]⟩ (R2 f) acc h hφ hacc = R1 fun r => ∑ l : Fin m, f r l := by
  funext j
  pointwise
  exact coe_sum _ _

/-- The sum over the first axis. -/
theorem sum0_R2 (f : Fin n → Fin m → ℝ) (acc : BitVec φ.bits) (h : Shape.Reduces ⟨2, ![n, m]⟩ [0] ⟨1, ![m]⟩)
    (hφ : FKind.Formats φ) (hacc : acc = FKind.add.neutral φ hφ) :
    multiReduction (F := Ideal) .add [0] ⟨1, ![m]⟩ (R2 f) acc h hφ hacc = R1 fun j => ∑ r : Fin n, f r j := by
  funext j
  pointwise
  exact coe_sum _ _

/-- The matrix product. -/
theorem matmul_R2 (prec : Option ContractPrecision) (f : Fin n → Fin k → ℝ) (g : Fin k → Fin m → ℝ) :
    FloatOps.matmul (F := Ideal) (φ₁ := φ₁) (φ₂ := φ₂) (DotDims.plain n k m) prec (R2 f) (R2 g) (constant _ .f32 0x00000000#32)
      = R2 fun r j => ∑ i : Fin k, f r i * g i j := by
  funext j
  obtain ⟨r, c, rfl⟩ : ∃ r c, j = ValueIdx.ix2 r c := ⟨j 0, j 1, ValueIdx.eq_ix2 j⟩
  refine (Ideal.matmul_plain_apply prec _ _ _ r c).trans ?_
  show Ideal.ofBits .f32 0x00000000#32 + _ = _
  rw [Ideal.ofBits_zero_f32, zero_add]
  simp only [← ix2_eq_valueIdx, R2_ix, ← EReal.coe_mul, coe_sum]

end Sums

end Cert.Up
end
-- ==== Proof.Math.UpHost.lean ====
/- The host's operations on arrays of reals, and the constants of the two programs. -/
module

public import proofs.«01_k».proof.Proof.Math.Up
public import Idealize.ShloMosaic.Lib.StackMember
public import Idealize.ShloMosaic.Lib.KernelVsHost

@[expose] public section

set_option maxRecDepth 16384

noncomputable section

namespace Cert.Up

open Idealize.ShloMosaic
open scoped BigOperators

/-! ### The constants -/

theorem w_zero : Ideal.ofBits .f32 0x00000000#32 = ((0 : ℝ) : EReal) := Ideal.ofBits_zero_f32
theorem w_one : Ideal.ofBits .f32 0x3F800000#32 = ((1 : ℝ) : EReal) := Ideal.ofBits_one_f32
theorem w_two : Ideal.ofBits .f32 0x40000000#32 = ((2 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_quarter : Ideal.ofBits .f32 0x3E800000#32 = ((1 / 4 : ℝ) : EReal) := by
  simp [Ideal.ofBits, Ideal.ieee, -EReal.coe_mul]; norm_num
theorem w_rows : Ideal.ofBits .f32 0x47000000#32 = ((32768 : ℝ) : EReal) := by
  simp [Ideal.ofBits, Ideal.ieee, -EReal.coe_mul]; norm_num
theorem w_all : Ideal.ofBits .f32 0x4A000000#32 = ((2097152 : ℝ) : EReal) := by
  simp [Ideal.ofBits, Ideal.ieee, -EReal.coe_mul]; norm_num
theorem w_top : Ideal.ofBits .f32 0x7F800000#32 = ⊤ := by
  simp [Ideal.ofBits, Ideal.ieee]

/-- The stabiliser of the layer norms, about `1e-5`. -/
def eps : ℝ := 2748779 * (2 : ℝ) ^ (-38 : ℤ)
theorem eps_pos : 0 < eps := by unfold eps; positivity
theorem w_eps : Ideal.ofBits .f32 0x3727C5AC#32 = ((eps : ℝ) : EReal) := by
  simp [Ideal.ofBits, Ideal.ieee, -EReal.coe_mul, eps]; norm_num

/-- The stabiliser of the logarithm, about `1e-10`. -/
def tiny : ℝ := 14411519 * (2 : ℝ) ^ (-57 : ℤ)
theorem tiny_pos : 0 < tiny := by unfold tiny; positivity
theorem w_tiny : Ideal.ofBits .f32 0x2EDBE6FF#32 = ((tiny : ℝ) : EReal) := by
  simp [Ideal.ofBits, Ideal.ieee, -EReal.coe_mul, tiny]

/-! ### Numbers and vectors -/

section Elementwise
variable {n : ℕ} {φ : FTy} (x y : ℝ) (f g : Fin n → ℝ)

theorem addf_R0 : addf (F := Ideal) (φ := φ) (R0 x) (R0 y) = R0 (x + y) := funext fun _ => (EReal.coe_add _ _).symm
theorem subf_R0 : subf (F := Ideal) (φ := φ) (R0 x) (R0 y) = R0 (x - y) := funext fun _ => (EReal.coe_sub _ _).symm
theorem mulf_R0 : mulf (F := Ideal) (φ := φ) (R0 x) (R0 y) = R0 (x * y) := funext fun _ => (EReal.coe_mul _ _).symm
theorem hostDivf_R0 (h : y ≠ 0) : Host.divf (F := Ideal) (φ := φ) (R0 x) (R0 y) = R0 (x / y) := funext fun _ => coe_div _ _ h
theorem addf_R1 : addf (F := Ideal) (φ := φ) (R1 f) (R1 g) = R1 fun j => f j + g j := funext fun _ => (EReal.coe_add _ _).symm
theorem mulf_R1 : mulf (F := Ideal) (φ := φ) (R1 f) (R1 g) = R1 fun j => f j * g j := funext fun _ => (EReal.coe_mul _ _).symm
theorem hostDivf_R1 (h : ∀ j, g j ≠ 0) : Host.divf (F := Ideal) (φ := φ) (R1 f) (R1 g) = R1 fun j => f j / g j :=
  funext fun _ => coe_div _ _ (h _)
theorem hostLog_R1 (h : ∀ j, 0 < f j) : Host.log (F := Ideal) (φ := φ) (R1 f) = R1 fun j => Real.log (f j) :=
  funext fun _ => coe_log _ (h _)
theorem negf_R0 : negf (F := Ideal) (φ := φ) (R0 x) = R0 (-x) := funext fun _ => (EReal.coe_neg _).symm
theorem hostExp_R0 : Host.exp (F := Ideal) (φ := φ) (R0 x) = R0 (Real.exp x) := funext fun _ => coe_exp _

end Elementwise

section Layout
variable {n m k : ℕ}

theorem bcast_R0_R1 (x : ℝ) (h : (⟨0, ![]⟩ : Shape).BroadcastsInDim ⟨1, ![n]⟩ ![]) :
    broadcastInDim ⟨1, ![n]⟩ ![] h (R0 x) = R1 fun _ => x := rfl
theorem bcast_R0_R2 (x : ℝ) (h : (⟨0, ![]⟩ : Shape).BroadcastsInDim ⟨2, ![n, m]⟩ ![]) :
    broadcastInDim ⟨2, ![n, m]⟩ ![] h (R0 x) = R2 fun _ _ => x := rfl

/-- A vector as a column. -/
theorem bcast_col (f : Fin n → ℝ) (h : (⟨1, ![n]⟩ : Shape).BroadcastsInDim ⟨2, ![n, 1]⟩ ![0]) :
    broadcastInDim ⟨2, ![n, 1]⟩ ![0] h (R1 f) = R2 fun r _ => f r :=
  ext2 fun a b => broadcastInDim_apply _ h _ _ (ValueIdx.ix1 a) fun ax => by
    match ax with
    | ⟨0, _⟩ =>
      show a.val = if n = 1 then 0 else a.val
      split <;> omega

/-- A vector as a row. -/
theorem bcast_row (f : Fin n → ℝ) (h : (⟨1, ![n]⟩ : Shape).BroadcastsInDim ⟨2, ![1, n]⟩ ![1]) :
    broadcastInDim ⟨2, ![1, n]⟩ ![1] h (R1 f) = R2 fun _ j => f j :=
  ext2 fun a b => broadcastInDim_apply _ h _ _ (ValueIdx.ix1 b) fun ax => by
    match ax with
    | ⟨0, _⟩ =>
      show b.val = if n = 1 then 0 else b.val
      split <;> omega

/-- A column, repeated. -/
theorem bcast_cols {α : Type} (x : (⟨2, ![n, 1]⟩ : Shape).Idx → α) (h : (⟨2, ![n, 1]⟩ : Shape).BroadcastsInDim ⟨2, ![n, m]⟩ ![0, 1]) (a : Fin n) (b : Fin m) :
    broadcastInDim ⟨2, ![n, m]⟩ ![0, 1] h x (ValueIdx.ix2 a b) = x (ValueIdx.ix2 a 0) :=
  broadcastInDim_apply _ h _ _ _ fun ax => by
    match ax with
    | ⟨0, _⟩ =>
      show a.val = if n = 1 then 0 else a.val
      split <;> omega
    | ⟨1, _⟩ => rfl
theorem bcast_cols_R2 (f : Fin n → Fin 1 → ℝ) (h : (⟨2, ![n, 1]⟩ : Shape).BroadcastsInDim ⟨2, ![n, m]⟩ ![0, 1]) :
    broadcastInDim ⟨2, ![n, m]⟩ ![0, 1] h (R2 f) = R2 fun r _ => f r 0 := ext2 fun a b => bcast_cols _ h a b

/-- A row, repeated. -/
theorem bcast_rows_R2 (f : Fin 1 → Fin m → ℝ) (h : (⟨2, ![1, m]⟩ : Shape).BroadcastsInDim ⟨2, ![n, m]⟩ ![0, 1]) :
    broadcastInDim ⟨2, ![n, m]⟩ ![0, 1] h (R2 f) = R2 fun _ j => f 0 j :=
  ext2 fun a b => Idealize.ShloMosaic.broadcastInDim_oneRow_apply h _ a b

/-- One matrix of a stack. -/
theorem slice_stack (o : ℕ) (f : Fin n → Fin m → Fin k → ℝ) (h : (⟨3, ![n, m, k]⟩ : Shape).Slices ![o, 0, 0] ⟨3, ![1, m, k]⟩) (c : Fin n)
    (hc : c.val = o) : extractStridedSlice ⟨3, ![1, m, k]⟩ ![o, 0, 0] (R3 f) h = R3 fun _ => f c :=
  funext fun i => by
    obtain ⟨u, a, b, rfl⟩ : ∃ u a b, i = ValueIdx.ix3 u a b := ⟨i 0, i 1, i 2, ValueIdx.eq_ix3 i⟩
    refine extractStridedSlice_apply _ _ h _ (ValueIdx.ix3 c a b) fun ax => ?_
    match ax with
    | ⟨0, _⟩ => show c.val = o + u.val; omega
    | ⟨1, _⟩ => exact (Nat.zero_add _).symm
    | ⟨2, _⟩ => exact (Nat.zero_add _).symm

/-- One row of a matrix. -/
theorem slice_row (o : ℕ) (f : Fin n → Fin m → ℝ) (h : (⟨2, ![n, m]⟩ : Shape).Slices ![o, 0] ⟨2, ![1, m]⟩) (c : Fin n)
    (hc : c.val = o) : extractStridedSlice ⟨2, ![1, m]⟩ ![o, 0] (R2 f) h = R2 fun _ => f c :=
  slice_rows o f h (fun _ => c) fun j => by omega

end Layout

section Sums
variable {n m k : ℕ} {φ φ₁ φ₂ : FTy}

theorem hostSum1_R2 (f : Fin n → Fin m → ℝ) (v : ℝ) (h : Shape.ReducesTo ⟨2, ![n, m]⟩ [1] ⟨1, ![n]⟩) (hu : 0 < (⟨0, ![]⟩ : Shape).numel) :
    Host.reduceAdd (F := Ideal) (φ := φ) (R2 f) (R0 v) h hu = R1 fun r => v + ∑ l : Fin m, f r l := by
  funext j
  pointwise
  rw [show ∑ l : Fin m, R2 f (ix2 (j 0) l) = ((∑ l : Fin m, f (j 0) l : ℝ) : EReal) from coe_sum _ _]
  exact (EReal.coe_add _ _).symm

theorem hostSum0_R2 (f : Fin n → Fin m → ℝ) (v : ℝ) (h : Shape.ReducesTo ⟨2, ![n, m]⟩ [0] ⟨1, ![m]⟩) (hu : 0 < (⟨0, ![]⟩ : Shape).numel) :
    Host.reduceAdd (F := Ideal) (φ := φ) (R2 f) (R0 v) h hu = R1 fun j => v + ∑ r : Fin n, f r j := by
  funext j
  pointwise
  rw [show ∑ l : Fin n, R2 f (ix2 l (j 0)) = ((∑ l : Fin n, f l (j 0) : ℝ) : EReal) from coe_sum _ _]
  exact (EReal.coe_add _ _).symm

theorem hostSum_R1 (f : Fin n → ℝ) (v : ℝ) (h : Shape.ReducesTo ⟨1, ![n]⟩ [0] ⟨0, ![]⟩) (hu : 0 < (⟨0, ![]⟩ : Shape).numel) :
    Host.reduceAdd (F := Ideal) (φ := φ) (R1 f) (R0 v) h hu = R0 (v + ∑ l : Fin n, f l) := by
  funext j
  pointwise
  rw [show ∑ l : Fin n, R1 f (ix1 l) = ((∑ l : Fin n, f l : ℝ) : EReal) from coe_sum _ _]
  exact (EReal.coe_add _ _).symm

theorem hostSum_R2 (f : Fin n → Fin m → ℝ) (v : ℝ) (h : Shape.ReducesTo ⟨2, ![n, m]⟩ [0, 1] ⟨0, ![]⟩) (hu : 0 < (⟨0, ![]⟩ : Shape).numel) :
    Host.reduceAdd (F := Ideal) (φ := φ) (R2 f) (R0 v) h hu = R0 (v + ∑ r : Fin n, ∑ l : Fin m, f r l) := by
  funext j
  pointwise
  rw [show ∑ r : Fin n, ∑ l : Fin m, R2 f (ix2 r l) = ((∑ r : Fin n, ∑ l : Fin m, f r l : ℝ) : EReal) from
    (Finset.sum_congr rfl fun r _ => coe_sum _ _).trans (coe_sum _ _)]
  exact (EReal.coe_add _ _).symm

/-- The host's matrix product. -/
theorem dot_R2 (prec : Option ContractPrecision) (f : Fin n → Fin k → ℝ) (g : Fin k → Fin m → ℝ) :
    Host.dotGeneral (F := Ideal) (φ₁ := φ₁) (φ₂ := φ₂) (DotDims.plain n k m) prec (R2 f) (R2 g)
      = R2 fun r j => ∑ i : Fin k, f r i * g i j :=
  ext2 fun a b => by
    refine (StackMember.dotGeneral_plain_apply (φ₁ := φ₁) (φ₂ := φ₂) prec _ _ a b).trans ?_
    simp only [← ix2_eq_valueIdx, R2_ix, ← EReal.coe_mul, coe_sum]

end Sums

end Cert.Up
end
-- ==== Proof.Math.Spec.lean ====
/- The function that both programs compute, over the reals: two networks of residual layers with a vector quantiser between. -/
module

public import proofs.«01_k».proof.Proof.Math.UpHost

@[expose] public section

noncomputable section

namespace Cert.Spec

open scoped BigOperators

/-- A dense layer. -/
def lin {n m : ℕ} (W : Fin n → Fin m → ℝ) (b : Fin m → ℝ) (h : Fin n → ℝ) : Fin m → ℝ := fun j => (∑ i, h i * W i j) + b j

/-- The mean of a row of 512. -/
def mean (t : Fin 512 → ℝ) : ℝ := (∑ l, t l) / 512
/-- The mean squared deviation from the mean. -/
def var (t : Fin 512 → ℝ) : ℝ := (∑ l, (t l - mean t) * (t l - mean t)) / 512
/-- The residual layer after its dense part `t`: the row `h` plus the positive part of the normalised, scaled and shifted `t`. -/
def res (t g b h : Fin 512 → ℝ) : Fin 512 → ℝ :=
  fun j => h j + max ((t j - mean t) / Real.sqrt (var t + Cert.Up.eps) * g j + b j) 0
/-- A residual layer. -/
def layer (W : Fin 512 → Fin 512 → ℝ) (b g c h : Fin 512 → ℝ) : Fin 512 → ℝ := res (lin W b h) g c h

/-- The arrays of one network. -/
structure Net (a c : ℕ) where
  wi : Fin a → Fin 512 → ℝ
  bi : Fin 512 → ℝ
  wr : Fin 4 → Fin 512 → Fin 512 → ℝ
  br : Fin 4 → Fin 512 → ℝ
  gr : Fin 4 → Fin 512 → ℝ
  cr : Fin 4 → Fin 512 → ℝ
  wo : Fin 512 → Fin c → ℝ
  bo : Fin c → ℝ

namespace Net
variable {a c : ℕ} (N : Net a c)
/-- The residual layer `j` of the network. -/
def step (j : Fin 4) (h : Fin 512 → ℝ) : Fin 512 → ℝ := layer (N.wr j) (N.br j) (N.gr j) (N.cr j) h
/-- The row after the four residual layers. -/
def deep (x : Fin a → ℝ) : Fin 512 → ℝ := N.step 3 (N.step 2 (N.step 1 (N.step 0 (lin N.wi N.bi x))))
/-- The network, on one row. -/
def run (x : Fin a → ℝ) : Fin c → ℝ := lin N.wo N.bo (N.deep x)
end Net

/-- The squared distance of a group to a row of the code book, expanded. -/
def dist (cb : Fin 1024 → Fin 64 → ℝ) (z : Fin 64 → ℝ) (k : Fin 1024) : ℝ :=
  (∑ e, z e * z e) + (∑ e, cb k e * cb k e) - 2 * ∑ e, z e * cb k e

theorem exists_near (d : Fin 1024 → ℝ) : ∃ k, (∀ l, d k ≤ d l) ∧ ∀ l, l < k → d k < d l := by
  obtain ⟨k₀, hk₀⟩ := Finite.exists_min d
  have hne : (Finset.univ.filter fun k => ∀ l, d k ≤ d l).Nonempty := ⟨k₀, by simpa using hk₀⟩
  obtain ⟨k, hk, hmin⟩ := Finset.exists_min_image _ id hne
  have hk' : ∀ l, d k ≤ d l := (Finset.mem_filter.1 hk).2
  refine ⟨k, hk', fun l hl => lt_of_le_of_ne (hk' l) fun e => ?_⟩
  exact absurd (hmin l (Finset.mem_filter.2 ⟨Finset.mem_univ _, fun i => e ▸ hk' i⟩)) (not_le.2 hl)

/-- The first index at which `d` is least. -/
def first (d : Fin 1024 → ℝ) : Fin 1024 := (exists_near d).choose
theorem first_le (d : Fin 1024 → ℝ) (l : Fin 1024) : d (first d) ≤ d l := (exists_near d).choose_spec.1 l
theorem first_lt (d : Fin 1024 → ℝ) (l : Fin 1024) (h : l < first d) : d (first d) < d l := (exists_near d).choose_spec.2 l h
/-- It is the only such index. -/
theorem eq_first (d : Fin 1024 → ℝ) (k : Fin 1024) (h₁ : ∀ l, d k ≤ d l) (h₂ : ∀ l, l < k → d k < d l) : k = first d := by
  rcases lt_trichotomy k (first d) with h | h | h
  · exact absurd (first_lt d k h) (not_lt.2 (h₁ _))
  · exact h
  · exact absurd (h₂ _ h) (not_lt.2 (first_le d k))

/-- The index of the code book's row that is nearest to the group `z`. -/
def near (cb : Fin 1024 → Fin 64 → ℝ) (z : Fin 64 → ℝ) : Fin 1024 := first (dist cb z)

/-- Group `g` of a row of 256. -/
def grp (y : Fin 256 → ℝ) (g : Fin 4) : Fin 64 → ℝ := fun e => y ⟨64 * g.val + e.val, by omega⟩

/-- A row with every group replaced by the nearest row of the code book. -/
def quant (cb : Fin 1024 → Fin 64 → ℝ) (y : Fin 256 → ℝ) : Fin 256 → ℝ :=
  fun c => cb (near cb (grp y ⟨c.val / 64, by omega⟩)) ⟨c.val % 64, by omega⟩

/-- The squared distance that the quantiser moves a row's group. -/
def moved (cb : Fin 1024 → Fin 64 → ℝ) (z : Fin 64 → ℝ) : ℝ :=
  ∑ e, (cb (near cb z) e - z e) * (cb (near cb z) e - z e)

/-- `1` where `k` is the row chosen for `z`. -/
def chosen (cb : Fin 1024 → Fin 64 → ℝ) (z : Fin 64 → ℝ) (k : Fin 1024) : ℝ := if near cb z = k then 1 else 0

/-- The loss, of the sum of all squared distances. -/
def lossOf (s : ℝ) : ℝ := s / 2097152 + 1 / 4 * (s / 2097152)
/-- The perplexity, of the numbers of times that the rows are chosen. -/
def perpOf (c : Fin 1024 → ℝ) : ℝ := Real.exp (-∑ k, c k / 32768 * Real.log (c k / 32768 + Cert.Up.tiny))

/-! ### The four results -/

section Results
variable (X : Fin 8192 → Fin 128 → ℝ) (E : Net 128 256) (D : Net 256 128) (cb : Fin 1024 → Fin 64 → ℝ)

def yHat : Fin 8192 → Fin 256 → ℝ := fun r => quant cb (E.run (X r))
def xHat : Fin 8192 → Fin 128 → ℝ := fun r => D.run (yHat X E cb r)
def total : ℝ := ∑ r : Fin 8192, ∑ g : Fin 4, moved cb (grp (E.run (X r)) g)
def counts : Fin 1024 → ℝ := fun k => ∑ r : Fin 8192, ∑ g : Fin 4, chosen cb (grp (E.run (X r)) g) k
def loss : ℝ := lossOf (total X E cb)
def perp : ℝ := perpOf (counts X E cb)
end Results

/-! ### Facts -/

theorem var_nonneg (t : Fin 512 → ℝ) : 0 ≤ var t := div_nonneg (Finset.sum_nonneg fun _ _ => mul_self_nonneg _) (by norm_num)

/-- The mean square less the squared mean is the mean squared deviation. -/
theorem var_eq (t : Fin 512 → ℝ) : (∑ l, t l * t l) / 512 - mean t * mean t = var t := by
  have h : ∑ l, (t l - mean t) * (t l - mean t) = ∑ l, t l * t l - 2 * mean t * ∑ l, t l + 512 * (mean t * mean t) := by
    rw [Finset.mul_sum, ← Finset.sum_sub_distrib, show (512 : ℝ) * (mean t * mean t) = ∑ _l : Fin 512, mean t * mean t by simp,
      ← Finset.sum_add_distrib]
    exact Finset.sum_congr rfl fun _ _ => by ring
  have hs : ∑ l, t l = 512 * mean t := by unfold mean; ring
  unfold var
  rw [h, hs]
  ring

end Cert.Spec
end
-- ==== Proof.Ref.Layer.lean ====
/- The reference's dense and residual layers: the operations, as functions of the arrays they read, and what they compute over the reals. -/
module

public import proofs.«01_k».proof.Proof.Ref.Win
public import proofs.«01_k».proof.Proof.Math.Spec
public import Idealize.ShloMosaic.Lib.StableHlo.RunRead

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo
open Cert.Up Cert.Spec
open scoped BigOperators

/-! ### The scalar constants -/

theorem k_zero : constant (F := Ideal) S_ .f32 0x00000000#32 = R0 0 := funext fun _ => w_zero
theorem k_one : constant (F := Ideal) S_ .f32 0x3F800000#32 = R0 1 := funext fun _ => w_one
theorem k_two : constant (F := Ideal) S_ .f32 0x40000000#32 = R0 2 := funext fun _ => w_two
theorem k_512 : constant (F := Ideal) S_ .f32 0x44000000#32 = R0 512 := funext fun _ => w_512
theorem k_quarter : constant (F := Ideal) S_ .f32 0x3E800000#32 = R0 (1 / 4) := funext fun _ => w_quarter
theorem k_rows : constant (F := Ideal) S_ .f32 0x47000000#32 = R0 32768 := funext fun _ => w_rows
theorem k_all : constant (F := Ideal) S_ .f32 0x4A000000#32 = R0 2097152 := funext fun _ => w_all
theorem k_eps : constant (F := Ideal) S_ .f32 0x3727C5AC#32 = R0 eps := funext fun _ => w_eps
theorem k_tiny : constant (F := Ideal) S_ .f32 0x2EDBE6FF#32 = R0 tiny := funext fun _ => w_tiny
/-- The integer zero as a real. -/
theorem k_int : sitofp (F := Ideal) .f32 (constantI S_ 32 0#32) = R0 0 := by
  funext i
  show (((0#32 : BitVec 32).toInt : ℝ) : EReal) = _
  simp [R0]

/-- The divisor of a variance is not negative, so that the variance is kept. -/
theorem keep {s : Shape} {α : Type} (h : S_.BroadcastsInDim s ![]) (x y : ℝ) (hxy : y < x) (a b : s.Idx → α) :
    select (broadcastInDim s ![] h (cmpf (F := Ideal) (φ := .f32) .ogt (R0 x) (R0 y))) a b = a := by
  funext i
  show (if BitVec.ofBool (decide ((y : EReal) < (x : EReal))) = 1#1 then a i else b i) = a i
  rw [if_pos]
  simp [hxy]

/-! ### A residual layer -/

/-- The dense part. -/
def rT (h : FVec Ideal S8192x512 .f32) (W : FVec Ideal S1x512x512 .f32) (b : FVec Ideal S1x512 .f32) : FVec Ideal S8192x512 .f32 :=
  addf (Host.dotGeneral dot_S8192x512_S512x512_S8192x512_1_0_0_1_n_n none h (shapeCast S512x512 W shapeCasts_S1x512x512_S512x512))
    (broadcastInDim S8192x512 ![0, 1] bcast_S1x512_S8192x512_0_1
      (broadcastInDim S1x512 ![1] bcast_S512_S1x512_1 (shapeCast S512 b shapeCasts_S1x512_S512)))

/-- The mean of each row. -/
def rMean (t : FVec Ideal S8192x512 .f32) : FVec Ideal S8192x1 .f32 :=
  Host.divf (broadcastInDim S8192x1 ![0] bcast_S8192_S8192x1_0
      (Host.reduceAdd t (constant S_ .f32 0x00000000#32) reducesTo_S8192x512_S8192_d1 h_S_))
    (broadcastInDim S8192x1 ![] bcast_S_S8192x1 (constant S_ .f32 0x44000000#32))

/-- Each row less its mean. -/
def rDev (t : FVec Ideal S8192x512 .f32) : FVec Ideal S8192x512 .f32 :=
  subf t (broadcastInDim S8192x512 ![0, 1] bcast_S8192x1_S8192x512_0_1 (rMean t))

/-- The divisor of the variance. -/
def rN : FVec Ideal S_ .f32 := subf (constant S_ .f32 0x44000000#32) (sitofp .f32 (constantI S_ 32 0#32))

/-- The variance of each row. -/
def rVar (t : FVec Ideal S8192x512 .f32) : FVec Ideal S8192x1 .f32 :=
  select (broadcastInDim S8192x1 ![] bcast_S_S8192x1 (cmpf .ogt rN (constant S_ .f32 0x00000000#32)))
    (Host.divf (broadcastInDim S8192x1 ![0] bcast_S8192_S8192x1_0
        (Host.reduceAdd (mulf (rDev t) (rDev t)) (constant S_ .f32 0x00000000#32) reducesTo_S8192x512_S8192_d1 h_S_))
      (broadcastInDim S8192x1 ![] bcast_S_S8192x1 rN))
    (broadcastInDim S8192x1 ![] bcast_S_S8192x1 (id (constant S_ .f32 0x7FC00000#32)))

/-- A row of parameters, for every row. -/
def rRow (g : FVec Ideal S1x512 .f32) : FVec Ideal S8192x512 .f32 :=
  broadcastInDim S8192x512 ![0, 1] bcast_S1x512_S8192x512_0_1
    (broadcastInDim S1x512 ![1] bcast_S512_S1x512_1 (shapeCast S512 g shapeCasts_S1x512_S512))

/-- The residual layer after its dense part. -/
def rRes (t h : FVec Ideal S8192x512 .f32) (g c : FVec Ideal S1x512 .f32) : FVec Ideal S8192x512 .f32 :=
  addf h (maximumf
    (addf (mulf (Host.divf (rDev t) (broadcastInDim S8192x512 ![0, 1] bcast_S8192x1_S8192x512_0_1
        (Host.sqrt (addf (rVar t) (broadcastInDim S8192x1 ![] bcast_S_S8192x1 (constant S_ .f32 0x3727C5AC#32)))))) (rRow g)) (rRow c))
    (broadcastInDim S8192x512 ![] bcast_S_S8192x512 (constant S_ .f32 0x00000000#32)))

/-- The residual layer. -/
def rLayer (h : FVec Ideal S8192x512 .f32) (W : FVec Ideal S1x512x512 .f32) (b g c : FVec Ideal S1x512 .f32) : FVec Ideal S8192x512 .f32 :=
  rRes (rT h W b) h g c

theorem dot_res (f : Fin 8192 → Fin 512 → ℝ) (g : Fin 512 → Fin 512 → ℝ) :
    Host.dotGeneral (F := Ideal) (φ₁ := .f32) (φ₂ := .f32) dot_S8192x512_S512x512_S8192x512_1_0_0_1_n_n none (R2 f) (R2 g)
      = R2 fun r j => ∑ i, f r i * g i j := dot_R2 none f g

theorem rRow_R2 (g : Fin 512 → ℝ) : rRow (R2 fun _ => g) = R2 fun _ j => g j := by
  unfold rRow
  rw [shapeCast_unrow, bcast_row, bcast_rows_R2]

theorem rT_R2 (h : Fin 8192 → Fin 512 → ℝ) (W : Fin 512 → Fin 512 → ℝ) (b : Fin 512 → ℝ) :
    rT (R2 h) (R3 fun _ => W) (R2 fun _ => b) = R2 fun r => lin W b (h r) := by
  show addf (Host.dotGeneral _ _ _ _) (rRow _) = _
  rw [shapeCast_drop, dot_res, rRow_R2, addf_R2]
  rfl

theorem rMean_R2 (t : Fin 8192 → Fin 512 → ℝ) : rMean (R2 t) = R2 fun r _ => mean (t r) := by
  unfold rMean
  rw [k_zero, k_512, hostSum1_R2, bcast_col, bcast_R0_R2, hostDivf_R2 _ _ fun _ _ => by norm_num]
  simp only [zero_add]
  rfl

theorem rDev_R2 (t : Fin 8192 → Fin 512 → ℝ) : rDev (R2 t) = R2 fun r j => t r j - mean (t r) := by
  unfold rDev
  rw [rMean_R2, bcast_cols_R2, subf_R2]

theorem rVar_R2 (t : Fin 8192 → Fin 512 → ℝ) : rVar (R2 t) = R2 fun r _ => var (t r) := by
  unfold rVar rN
  rw [k_zero, k_512, k_int, subf_R0, keep _ _ _ (by norm_num), rDev_R2, mulf_R2, hostSum1_R2, bcast_col, bcast_R0_R2,
    hostDivf_R2 _ _ fun _ _ => by norm_num]
  simp only [zero_add, sub_zero]
  rfl

theorem rRes_R2 (t h : Fin 8192 → Fin 512 → ℝ) (g c : Fin 512 → ℝ) :
    rRes (R2 t) (R2 h) (R2 fun _ => g) (R2 fun _ => c) = R2 fun r => res (t r) g c (h r) := by
  have hv (r : Fin 8192) : 0 < var (t r) + eps := add_pos_of_nonneg_of_pos (var_nonneg _) eps_pos
  unfold rRes
  rw [k_zero, k_eps, rDev_R2, rVar_R2, rRow_R2, rRow_R2, bcast_R0_R2, bcast_R0_R2, addf_R2, hostSqrt_R2 _ fun r _ => (hv r).le,
    bcast_cols_R2, hostDivf_R2 _ _ fun r _ => (Real.sqrt_pos.2 (hv r)).ne', mulf_R2, addf_R2, maximumf_R2, addf_R2]
  rfl

/-- A residual layer of arrays of reals. -/
theorem rLayer_R2 (h : Fin 8192 → Fin 512 → ℝ) (W : Fin 512 → Fin 512 → ℝ) (b g c : Fin 512 → ℝ) :
    rLayer (R2 h) (R3 fun _ => W) (R2 fun _ => b) (R2 fun _ => g) (R2 fun _ => c) = R2 fun r => layer W b g c (h r) := by
  unfold rLayer
  rw [rT_R2, rRes_R2]
  rfl

end Cert.Ref
end
-- ==== Proof.Ref.Ops.lean ====
/- The reference's operations between its residual layers, as functions of the arrays they read. -/
module

public import proofs.«01_k».proof.Proof.Ref.Layer

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

/-- The encoder's input layer. -/
def rIn (x : FVec Ideal S8192x128 .f32) (W : FVec Ideal S128x512 .f32) (b : FVec Ideal S512 .f32) : FVec Ideal S8192x512 .f32 :=
  addf (Host.dotGeneral dot_S8192x128_S128x512_S8192x512_1_0_0_1_n_n none
      (Host.divf (subf x (broadcastInDim S8192x128 ![] bcast_S_S8192x128 (constant S_ .f32 0x00000000#32)))
        (broadcastInDim S8192x128 ![] bcast_S_S8192x128 (constant S_ .f32 0x3F800000#32))) W)
    (broadcastInDim S8192x512 ![0, 1] bcast_S1x512_S8192x512_0_1 (broadcastInDim S1x512 ![1] bcast_S512_S1x512_1 b))

/-- The encoder's output layer, in groups. -/
def rZ (h : FVec Ideal S8192x512 .f32) (W : FVec Ideal S512x256 .f32) (b : FVec Ideal S256 .f32) : FVec Ideal S32768x64 .f32 :=
  shapeCast S32768x64 (addf (Host.dotGeneral dot_S8192x512_S512x256_S8192x256_1_0_0_1_n_n none h W)
    (broadcastInDim S8192x256 ![0, 1] bcast_S1x256_S8192x256_0_1 (broadcastInDim S1x256 ![1] bcast_S256_S1x256_1 b))) shapeCasts_S8192x256_S32768x64

/-- The squared distances. -/
def rDist (z : FVec Ideal S32768x64 .f32) (cb : FVec Ideal S1024x64 .f32) : FVec Ideal S32768x1024 .f32 :=
  subf (addf
      (broadcastInDim S32768x1024 ![0, 1] bcast_S32768x1_S32768x1024_0_1 (broadcastInDim S32768x1 ![0] bcast_S32768_S32768x1_0
        (Host.reduceAdd (mulf z z) (constant S_ .f32 0x00000000#32) reducesTo_S32768x64_S32768_d1 h_S_)))
      (broadcastInDim S32768x1024 ![0, 1] bcast_S1x1024_S32768x1024_0_1 (broadcastInDim S1x1024 ![1] bcast_S1024_S1x1024_1
        (Host.reduceAdd (mulf cb cb) (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none z (transpose S64x1024 [1, 0] cb transposes_S1024x64_S64x1024_1_0)))

/-- The index of the least distance, marked in its row. -/
def rHot (d : FVec Ideal S32768x1024 .f32) : FVec Ideal S32768x1024 .f32 :=
  uitofp .f32 (cmpi .eq
    (broadcastInDim S32768x1024 ![0, 1] bcast_S32768x1_S32768x1024_0_1 (broadcastInDim S32768x1 ![0] bcast_S32768_S32768x1_0
      (fun j => (Host.argReduce reducer_argmin_f32_i32 d (iotaInDim S32768x1024 32 1) (constant S_ .f32 0x7F800000#32) (constantI S_ 32 0#32)
        reducesTo_S32768x1024_S32768_d1 h_S_ j).2)))
    (broadcastInDim S32768x1024 ![0, 1] bcast_S1x1024_S32768x1024_0_1 (iotaInDim S1x1024 32 1)))

/-- The chosen rows. -/
def rPick (o : FVec Ideal S32768x1024 .f32) (cb : FVec Ideal S1024x64 .f32) : FVec Ideal S32768x64 .f32 :=
  Host.dotGeneral dot_S32768x1024_S1024x64_S32768x64_1_0_0_1_n_n none o cb

/-- The mean squared distance between the chosen rows and the groups. -/
def rMove (q z : FVec Ideal S32768x64 .f32) : FVec Ideal S_ .f32 :=
  Host.divf (Host.reduceAdd (mulf (subf q z) (subf q z)) (constant S_ .f32 0x00000000#32) reducesTo_S32768x64_S_d0_1 h_S_)
    (constant S_ .f32 0x4A000000#32)

/-- The loss. -/
def rLoss (q z : FVec Ideal S32768x64 .f32) : FVec Ideal S_ .f32 :=
  addf (rMove q z) (mulf (constant S_ .f32 0x3E800000#32) (rMove q z))

/-- The share of the groups that choose each row. -/
def rShare (o : FVec Ideal S32768x1024 .f32) : FVec Ideal S1024 .f32 :=
  Host.divf (Host.reduceAdd o (constant S_ .f32 0x00000000#32) reducesTo_S32768x1024_S1024_d0 h_S_)
    (broadcastInDim S1024 ![] bcast_S_S1024 (constant S_ .f32 0x47000000#32))

/-- The perplexity. -/
def rPerp (o : FVec Ideal S32768x1024 .f32) : FVec Ideal S_ .f32 :=
  Host.exp (Host.negf (Host.reduceAdd
    (mulf (rShare o) (Host.log (addf (rShare o) (broadcastInDim S1024 ![] bcast_S_S1024 (constant S_ .f32 0x2EDBE6FF#32)))))
    (constant S_ .f32 0x00000000#32) reducesTo_S1024_S_d0 h_S_))

/-- The quantised rows. -/
def rY (q z : FVec Ideal S32768x64 .f32) : FVec Ideal S8192x256 .f32 := shapeCast S8192x256 (addf z (subf q z)) shapeCasts_S32768x64_S8192x256

/-- The decoder's input layer. -/
def rX (y : FVec Ideal S8192x256 .f32) (W : FVec Ideal S256x512 .f32) (b : FVec Ideal S512 .f32) : FVec Ideal S8192x512 .f32 :=
  addf (Host.dotGeneral dot_S8192x256_S256x512_S8192x512_1_0_0_1_n_n none y W)
    (broadcastInDim S8192x512 ![0, 1] bcast_S1x512_S8192x512_0_1 (broadcastInDim S1x512 ![1] bcast_S512_S1x512_1 b))

/-- The decoder's output layer. -/
def rO (h : FVec Ideal S8192x512 .f32) (W : FVec Ideal S512x128 .f32) (b : FVec Ideal S128 .f32) : FVec Ideal S8192x128 .f32 :=
  addf (mulf (broadcastInDim S8192x128 ![] bcast_S_S8192x128 (constant S_ .f32 0x3F800000#32))
      (addf (Host.dotGeneral dot_S8192x512_S512x128_S8192x128_1_0_0_1_n_n none h W)
        (broadcastInDim S8192x128 ![0, 1] bcast_S1x128_S8192x128_0_1 (broadcastInDim S1x128 ![1] bcast_S128_S1x128_1 b))))
    (broadcastInDim S8192x128 ![] bcast_S_S8192x128 (constant S_ .f32 0x00000000#32))

/-- The residual layer `j`, of the network's stacked arrays. -/
def rStep (j : Fin 4) (h : FVec Ideal S8192x512 .f32) (W : FVec Ideal S4x512x512 .f32) (b g c : FVec Ideal S4x512 .f32) : FVec Ideal S8192x512 .f32 :=
  match j with
  | 0 => rLayer h (extractStridedSlice S1x512x512 ![0, 0, 0] W slices_S4x512x512_S1x512x512_0_0_0) (extractStridedSlice S1x512 ![0, 0] b slices_S4x512_S1x512_0_0)
      (extractStridedSlice S1x512 ![0, 0] g slices_S4x512_S1x512_0_0) (extractStridedSlice S1x512 ![0, 0] c slices_S4x512_S1x512_0_0)
  | 1 => rLayer h (extractStridedSlice S1x512x512 ![1, 0, 0] W slices_S4x512x512_S1x512x512_1_0_0) (extractStridedSlice S1x512 ![1, 0] b slices_S4x512_S1x512_1_0)
      (extractStridedSlice S1x512 ![1, 0] g slices_S4x512_S1x512_1_0) (extractStridedSlice S1x512 ![1, 0] c slices_S4x512_S1x512_1_0)
  | 2 => rLayer h (extractStridedSlice S1x512x512 ![2, 0, 0] W slices_S4x512x512_S1x512x512_2_0_0) (extractStridedSlice S1x512 ![2, 0] b slices_S4x512_S1x512_2_0)
      (extractStridedSlice S1x512 ![2, 0] g slices_S4x512_S1x512_2_0) (extractStridedSlice S1x512 ![2, 0] c slices_S4x512_S1x512_2_0)
  | 3 => rLayer h (extractStridedSlice S1x512x512 ![3, 0, 0] W slices_S4x512x512_S1x512x512_3_0_0) (extractStridedSlice S1x512 ![3, 0] b slices_S4x512_S1x512_3_0)
      (extractStridedSlice S1x512 ![3, 0] g slices_S4x512_S1x512_3_0) (extractStridedSlice S1x512 ![3, 0] c slices_S4x512_S1x512_3_0)

end Cert.Ref
end
-- ==== Proof.Ref.Read.lean ====
/- What each window of the reference's operations leaves in the buffer that the next windows read. -/
module

public import proofs.«01_k».proof.Proof.Ref.Ops

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable (V : Valuation τ sig (Elt Ideal))

/-! ### What the windows leave -/

set_option maxHeartbeats 2000000 in
/-- The encoder's input layer. -/
theorem read_In : after wIn.ops V (main_v7 : DevRef τ sig) = rIn (V main_arg0) (V main_arg1) (V main_arg2) := by
  unfold wIn
  after_reads_simp
  rfl

set_option maxHeartbeats 2000000 in
/-- The encoder's residual layer 0. -/
theorem read_E0 : after wE0.ops V (main_v39 : DevRef τ sig) = rStep 0 (V main_v7) (V main_arg3) (V main_arg4) (V main_arg5) (V main_arg6) := by
  unfold wE0
  after_reads_simp
  simp only [TRef.toBuf, TRef.ofBuf, cast_eq]
  rfl

set_option maxHeartbeats 2000000 in
/-- The encoder's residual layer 1. -/
theorem read_E1 : after wE1.ops V (main_v71 : DevRef τ sig) = rStep 1 (V main_v39) (V main_arg3) (V main_arg4) (V main_arg5) (V main_arg6) := by
  unfold wE1
  after_reads_simp
  simp only [TRef.toBuf, TRef.ofBuf, cast_eq]
  rfl

set_option maxHeartbeats 2000000 in
/-- The encoder's residual layer 2. -/
theorem read_E2 : after wE2.ops V (main_v103 : DevRef τ sig) = rStep 2 (V main_v71) (V main_arg3) (V main_arg4) (V main_arg5) (V main_arg6) := by
  unfold wE2
  after_reads_simp
  simp only [TRef.toBuf, TRef.ofBuf, cast_eq]
  rfl

set_option maxHeartbeats 2000000 in
/-- The encoder's residual layer 3. -/
theorem read_E3 : after wE3.ops V (main_v135 : DevRef τ sig) = rStep 3 (V main_v103) (V main_arg3) (V main_arg4) (V main_arg5) (V main_arg6) := by
  unfold wE3
  after_reads_simp
  simp only [TRef.toBuf, TRef.ofBuf, cast_eq]
  rfl

set_option maxHeartbeats 2000000 in
/-- The groups. -/
theorem read_Z : after wZ.ops V (main_v140 : DevRef τ sig) = rZ (V main_v135) (V main_arg7) (V main_arg8) := by
  unfold wZ
  after_reads_simp
  rfl

set_option maxHeartbeats 2000000 in
/-- The distances. -/
theorem read_D : after wD.ops V (main_v154 : DevRef τ sig) = rDist (V main_v140) (V main_arg17) := by
  unfold wD
  after_reads_simp
  rfl

set_option maxHeartbeats 2000000 in
/-- The chosen rows. -/
theorem read_L_pick : after wL.ops V (main_v157 : DevRef τ sig) = rPick (V main_v156) (V main_arg17) := by
  unfold wL
  after_reads_simp
  rfl

set_option maxHeartbeats 2000000 in
/-- The loss. -/
theorem read_L_loss : after wL.ops V (main_v167 : DevRef τ sig) = rLoss (rPick (V main_v156) (V main_arg17)) (V main_v140) := by
  unfold wL
  after_reads_simp
  rfl

set_option maxHeartbeats 2000000 in
/-- The perplexity. -/
theorem read_Q_perp : after wQ.ops V (main_v179 : DevRef τ sig) = rPerp (V main_v156) := by
  unfold wQ
  after_reads_simp
  rfl

set_option maxHeartbeats 2000000 in
/-- The quantised rows. -/
theorem read_Q_y : after wQ.ops V (main_v180 : DevRef τ sig) = rY (V main_v157) (V main_v140) := by
  unfold wQ
  after_reads_simp
  rfl

set_option maxHeartbeats 2000000 in
/-- The decoder's input layer. -/
theorem read_X : after wX.ops V (main_v184 : DevRef τ sig) = rX (V main_v180) (V main_arg9) (V main_arg10) := by
  unfold wX
  after_reads_simp
  rfl

set_option maxHeartbeats 2000000 in
/-- The decoder's residual layer 0. -/
theorem read_D0 : after wD0.ops V (main_v216 : DevRef τ sig) = rStep 0 (V main_v184) (V main_arg11) (V main_arg12) (V main_arg13) (V main_arg14) := by
  unfold wD0
  after_reads_simp
  simp only [TRef.toBuf, TRef.ofBuf, cast_eq]
  rfl

set_option maxHeartbeats 2000000 in
/-- The decoder's residual layer 1. -/
theorem read_D1 : after wD1.ops V (main_v248 : DevRef τ sig) = rStep 1 (V main_v216) (V main_arg11) (V main_arg12) (V main_arg13) (V main_arg14) := by
  unfold wD1
  after_reads_simp
  simp only [TRef.toBuf, TRef.ofBuf, cast_eq]
  rfl

set_option maxHeartbeats 2000000 in
/-- The decoder's residual layer 2. -/
theorem read_D2 : after wD2.ops V (main_v280 : DevRef τ sig) = rStep 2 (V main_v248) (V main_arg11) (V main_arg12) (V main_arg13) (V main_arg14) := by
  unfold wD2
  after_reads_simp
  simp only [TRef.toBuf, TRef.ofBuf, cast_eq]
  rfl

set_option maxHeartbeats 2000000 in
/-- The decoder's residual layer 3. -/
theorem read_D3 : after wD3.ops V (main_v312 : DevRef τ sig) = rStep 3 (V main_v280) (V main_arg11) (V main_arg12) (V main_arg13) (V main_arg14) := by
  unfold wD3
  after_reads_simp
  simp only [TRef.toBuf, TRef.ofBuf, cast_eq]
  rfl

set_option maxHeartbeats 2000000 in
/-- The decoder's output layer. -/
theorem read_O : after wO.ops V (main_v320 : DevRef τ sig) = rO (V main_v312) (V main_arg15) (V main_arg16) := by
  unfold wO
  after_reads_simp
  rfl

end Cert.Ref
end
-- ==== Proof.Ref.ReadI.lean ====
/- What the window of the least distance leaves. -/
module

public import proofs.«01_k».proof.Proof.Ref.Ops

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable (V : Valuation τ sig (Elt Ideal))

set_option maxHeartbeats 2000000 in
/-- The marks. -/
theorem read_I : after wI.ops V (main_v156 : DevRef τ sig) = rHot (V main_v154) := by
  unfold wI
  after_reads_simp
  simp only [TRef.ofBuf_toBuf]
  generalize V (Proc.tc.devRef main_v154) = d
  have h₁ (a b c) : (TRef.of (T := ⟨S32768x1024, .f32⟩) main_v154 a b c).ofBuf (Val := Elt Ideal) d = d := rfl
  have h₂ (v) (a b c) : (TRef.of (T := ⟨S32768x1024, .f32⟩) main_v156 a b c).toBuf (Val := Elt Ideal) v = v := rfl
  rw [h₁, h₂]
  unfold rHot
  rfl

end Cert.Ref
end
-- ==== Proof.Ref.Real.lean ====
/- What the reference's operations compute over the reals. -/
module

public import proofs.«01_k».proof.Proof.Ref.Ops

@[expose] public section

set_option maxRecDepth 16384

noncomputable section

namespace Cert.Ref

open Cert.ReferenceIdeal Cert.ReferenceIdeal.Gen Idealize.ShloMosaic
open Cert.Up Cert.Spec
open scoped BigOperators

theorem hostNegf_R0 (x : ℝ) : Host.negf (F := Ideal) (φ := .f32) (R0 x) = R0 (-x) := funext fun _ => (EReal.coe_neg _).symm

/-! ### The dense layers -/

theorem dot_in (f : Fin 8192 → Fin 128 → ℝ) (g : Fin 128 → Fin 512 → ℝ) :
    Host.dotGeneral (F := Ideal) (φ₁ := .f32) (φ₂ := .f32) dot_S8192x128_S128x512_S8192x512_1_0_0_1_n_n none (R2 f) (R2 g)
      = R2 fun r j => ∑ i, f r i * g i j := dot_R2 none f g
theorem dot_z (f : Fin 8192 → Fin 512 → ℝ) (g : Fin 512 → Fin 256 → ℝ) :
    Host.dotGeneral (F := Ideal) (φ₁ := .f32) (φ₂ := .f32) dot_S8192x512_S512x256_S8192x256_1_0_0_1_n_n none (R2 f) (R2 g)
      = R2 fun r j => ∑ i, f r i * g i j := dot_R2 none f g
theorem dot_x (f : Fin 8192 → Fin 256 → ℝ) (g : Fin 256 → Fin 512 → ℝ) :
    Host.dotGeneral (F := Ideal) (φ₁ := .f32) (φ₂ := .f32) dot_S8192x256_S256x512_S8192x512_1_0_0_1_n_n none (R2 f) (R2 g)
      = R2 fun r j => ∑ i, f r i * g i j := dot_R2 none f g
theorem dot_o (f : Fin 8192 → Fin 512 → ℝ) (g : Fin 512 → Fin 128 → ℝ) :
    Host.dotGeneral (F := Ideal) (φ₁ := .f32) (φ₂ := .f32) dot_S8192x512_S512x128_S8192x128_1_0_0_1_n_n none (R2 f) (R2 g)
      = R2 fun r j => ∑ i, f r i * g i j := dot_R2 none f g
theorem dot_dist (f : Fin 32768 → Fin 64 → ℝ) (g : Fin 64 → Fin 1024 → ℝ) :
    Host.dotGeneral (F := Ideal) (φ₁ := .f32) (φ₂ := .f32) dot_S32768x64_S64x1024_S32768x1024_1_0_0_1_n_n none (R2 f) (R2 g)
      = R2 fun r j => ∑ i, f r i * g i j := dot_R2 none f g
theorem dot_pick (f : Fin 32768 → Fin 1024 → ℝ) (g : Fin 1024 → Fin 64 → ℝ) :
    Host.dotGeneral (F := Ideal) (φ₁ := .f32) (φ₂ := .f32) dot_S32768x1024_S1024x64_S32768x64_1_0_0_1_n_n none (R2 f) (R2 g)
      = R2 fun r j => ∑ i, f r i * g i j := dot_R2 none f g

theorem rIn_R2 (x : Fin 8192 → Fin 128 → ℝ) (W : Fin 128 → Fin 512 → ℝ) (b : Fin 512 → ℝ) :
    rIn (R2 x) (R2 W) (R1 b) = R2 fun r => lin W b (x r) := by
  unfold rIn
  rw [k_zero, k_one, bcast_R0_R2, bcast_R0_R2, subf_R2, hostDivf_R2 _ _ fun _ _ => one_ne_zero, bcast_row, bcast_rows_R2, dot_in, addf_R2]
  simp only [sub_zero, div_one]
  rfl

theorem rX_R2 (y : Fin 8192 → Fin 256 → ℝ) (W : Fin 256 → Fin 512 → ℝ) (b : Fin 512 → ℝ) :
    rX (R2 y) (R2 W) (R1 b) = R2 fun r => lin W b (y r) := by
  unfold rX
  rw [bcast_row, bcast_rows_R2, dot_x, addf_R2]
  rfl

theorem rO_R2 (h : Fin 8192 → Fin 512 → ℝ) (W : Fin 512 → Fin 128 → ℝ) (b : Fin 128 → ℝ) :
    rO (R2 h) (R2 W) (R1 b) = R2 fun r => lin W b (h r) := by
  unfold rO
  rw [k_zero, k_one, bcast_R0_R2, bcast_R0_R2, bcast_row, bcast_rows_R2, dot_o, addf_R2, mulf_R2, addf_R2]
  simp only [one_mul, add_zero]
  rfl

/-- Row `q` of the groups. -/
def rowGrp (y : Fin 8192 → Fin 256 → ℝ) (q : Fin 32768) : Fin 64 → ℝ := grp (y ⟨q.val / 4, by omega⟩) ⟨q.val % 4, by omega⟩

/-- The rows cut into groups. -/
theorem cast_groups (y : Fin 8192 → Fin 256 → ℝ) :
    shapeCast S32768x64 (R2 y) shapeCasts_S8192x256_S32768x64 = R2 (rowGrp y) :=
  ext2 fun q e => by
    have hq := q.isLt
    have he := e.isLt
    refine (shapeCast_apply _ _ _ (ValueIdx.ix2 (⟨q.val / 4, by omega⟩ : Fin 8192) (⟨64 * (q.val % 4) + e.val, by omega⟩ : Fin 256)) ?_).trans rfl
    rw [Shape.rowMajor_val_two, Shape.rowMajor_val_two]
    show q.val / 4 * 256 + (64 * (q.val % 4) + e.val) = q.val * 64 + e.val
    omega

/-- The groups put together again. -/
theorem cast_rows (z : Fin 32768 → Fin 64 → ℝ) :
    shapeCast S8192x256 (R2 z) shapeCasts_S32768x64_S8192x256
      = R2 fun r c => z ⟨4 * r.val + c.val / 64, by omega⟩ ⟨c.val % 64, by omega⟩ :=
  ext2 fun r c => by
    have hr := r.isLt
    have hc := c.isLt
    refine (shapeCast_apply _ _ _ (ValueIdx.ix2 (⟨4 * r.val + c.val / 64, by omega⟩ : Fin 32768) (⟨c.val % 64, by omega⟩ : Fin 64)) ?_).trans rfl
    rw [Shape.rowMajor_val_two, Shape.rowMajor_val_two]
    show (4 * r.val + c.val / 64) * 64 + c.val % 64 = r.val * 256 + c.val
    omega

theorem rZ_R2 (h : Fin 8192 → Fin 512 → ℝ) (W : Fin 512 → Fin 256 → ℝ) (b : Fin 256 → ℝ) :
    rZ (R2 h) (R2 W) (R1 b) = R2 (rowGrp fun r => lin W b (h r)) := by
  unfold rZ
  rw [bcast_row, bcast_rows_R2, dot_z, addf_R2, cast_groups]
  rfl

/-! ### The quantiser -/

theorem rDist_R2 (z : Fin 32768 → Fin 64 → ℝ) (cb : Fin 1024 → Fin 64 → ℝ) : rDist (R2 z) (R2 cb) = R2 fun q => dist cb (z q) := by
  unfold rDist
  rw [k_zero, k_two, mulf_R2, mulf_R2, hostSum1_R2, hostSum1_R2, bcast_col, bcast_row, bcast_cols_R2, bcast_rows_R2, addf_R2, bcast_R0_R2,
    transpose_R2, dot_dist, mulf_R2, subf_R2]
  simp only [zero_add]
  rfl

/-- A sum against an indicator. -/
theorem sum_hot (k : Fin 1024) (f : Fin 1024 → ℝ) : ∑ i, (if k = i then (1 : ℝ) else 0) * f i = f k := by
  simp only [ite_mul, one_mul, zero_mul]
  rw [Finset.sum_ite_eq, if_pos (Finset.mem_univ _)]

theorem rPick_R2 (z : Fin 32768 → Fin 64 → ℝ) (cb : Fin 1024 → Fin 64 → ℝ) :
    rPick (R2 fun q => chosen cb (z q)) (R2 cb) = R2 fun q => cb (near cb (z q)) := by
  unfold rPick
  rw [dot_pick]
  congr 1
  funext q e
  exact sum_hot (near cb (z q)) fun i => cb i e

/-- The sum over the groups of all rows. -/
theorem sum_groups (y : Fin 8192 → Fin 256 → ℝ) (F : (Fin 64 → ℝ) → ℝ) : ∑ q, F (rowGrp y q) = ∑ r : Fin 8192, ∑ g : Fin 4, F (grp (y r) g) := by
  rw [← Fintype.sum_prod_type' fun (r : Fin 8192) (g : Fin 4) => F (grp (y r) g)]
  refine (Fintype.sum_equiv (finProdFinEquiv (m := 8192) (n := 4)) _ _ fun x => ?_).symm
  obtain ⟨r, g⟩ := x
  have hg := g.isLt
  unfold rowGrp
  congr 2
  · congr 1
    refine Fin.ext ?_
    show r.val = (g.val + 4 * r.val) / 4
    omega
  · refine Fin.ext ?_
    show g.val = (g.val + 4 * r.val) % 4
    omega

theorem rMove_R2 (y : Fin 8192 → Fin 256 → ℝ) (cb : Fin 1024 → Fin 64 → ℝ) :
    rMove (R2 fun q => cb (near cb (rowGrp y q))) (R2 (rowGrp y)) = R0 ((∑ r : Fin 8192, ∑ g : Fin 4, moved cb (grp (y r) g)) / 2097152) := by
  unfold rMove
  rw [k_zero, k_all, subf_R2, mulf_R2, hostSum_R2, hostDivf_R0 _ _ (by norm_num), zero_add]
  exact congrArg (fun s => R0 (s / 2097152)) (sum_groups y (moved cb))

theorem rLoss_R2 (y : Fin 8192 → Fin 256 → ℝ) (cb : Fin 1024 → Fin 64 → ℝ) :
    rLoss (R2 fun q => cb (near cb (rowGrp y q))) (R2 (rowGrp y)) = R0 (lossOf (∑ r : Fin 8192, ∑ g : Fin 4, moved cb (grp (y r) g))) := by
  unfold rLoss
  rw [rMove_R2, k_quarter, mulf_R0, addf_R0]
  rfl

theorem rShare_R2 (y : Fin 8192 → Fin 256 → ℝ) (cb : Fin 1024 → Fin 64 → ℝ) :
    rShare (R2 fun q => chosen cb (rowGrp y q)) = R1 fun k => (∑ r : Fin 8192, ∑ g : Fin 4, chosen cb (grp (y r) g) k) / 32768 := by
  unfold rShare
  rw [k_zero, k_rows, hostSum0_R2, bcast_R0_R1, hostDivf_R1 _ _ fun _ => by norm_num]
  simp only [zero_add]
  exact congrArg R1 (funext fun k => congrArg (· / 32768) (sum_groups y fun z => chosen cb z k))

theorem chosen_nonneg (cb : Fin 1024 → Fin 64 → ℝ) (z : Fin 64 → ℝ) (k : Fin 1024) : 0 ≤ chosen cb z k := by
  unfold chosen
  split <;> norm_num

theorem rPerp_R2 (y : Fin 8192 → Fin 256 → ℝ) (cb : Fin 1024 → Fin 64 → ℝ) :
    rPerp (R2 fun q => chosen cb (rowGrp y q)) = R0 (perpOf fun k => ∑ r : Fin 8192, ∑ g : Fin 4, chosen cb (grp (y r) g) k) := by
  unfold rPerp
  rw [rShare_R2, k_zero, k_tiny, bcast_R0_R1, addf_R1, hostLog_R1 _ fun k => ?_, mulf_R1, hostSum_R1, hostNegf_R0, hostExp_R0, zero_add]
  · rfl
  · exact add_pos_of_nonneg_of_pos (div_nonneg (Finset.sum_nonneg fun _ _ => Finset.sum_nonneg fun _ _ => chosen_nonneg _ _ _) (by norm_num)) tiny_pos

theorem rY_R2 (y : Fin 8192 → Fin 256 → ℝ) (cb : Fin 1024 → Fin 64 → ℝ) :
    rY (R2 fun q => cb (near cb (rowGrp y q))) (R2 (rowGrp y)) = R2 fun r => quant cb (y r) := by
  unfold rY
  rw [subf_R2, addf_R2]
  simp only [add_sub_cancel]
  rw [cast_rows]
  congr 1
  funext r c
  have hr := r.isLt
  have hc := c.isLt
  unfold quant rowGrp
  have h₁ : (⟨(4 * r.val + c.val / 64) / 4, by omega⟩ : Fin 8192) = r := Fin.ext (by show (4 * r.val + c.val / 64) / 4 = r.val; omega)
  have h₂ : (⟨(4 * r.val + c.val / 64) % 4, by omega⟩ : Fin 4) = ⟨c.val / 64, by omega⟩ :=
    Fin.ext (by show (4 * r.val + c.val / 64) % 4 = c.val / 64; omega)
  simp only [h₁, h₂]

/-! ### The residual layers -/

theorem rStep_R2 {a c : ℕ} (N : Net a c) (j : Fin 4) (h : Fin 8192 → Fin 512 → ℝ) :
    rStep j (R2 h) (R3 N.wr) (R2 N.br) (R2 N.gr) (R2 N.cr) = R2 fun r => N.step j (h r) := by
  match j with
  | 0 => unfold rStep; rw [slice_stack 0 _ _ 0 rfl, slice_row 0 _ _ 0 rfl, slice_row 0 _ _ 0 rfl, slice_row 0 _ _ 0 rfl, rLayer_R2]; rfl
  | 1 => unfold rStep; rw [slice_stack 1 _ _ 1 rfl, slice_row 1 _ _ 1 rfl, slice_row 1 _ _ 1 rfl, slice_row 1 _ _ 1 rfl, rLayer_R2]; rfl
  | 2 => unfold rStep; rw [slice_stack 2 _ _ 2 rfl, slice_row 2 _ _ 2 rfl, slice_row 2 _ _ 2 rfl, slice_row 2 _ _ 2 rfl, rLayer_R2]; rfl
  | 3 => unfold rStep; rw [slice_stack 3 _ _ 3 rfl, slice_row 3 _ _ 3 rfl, slice_row 3 _ _ 3 rfl, slice_row 3 _ _ 3 rfl, rLayer_R2]; rfl

end Cert.Ref
end
-- ==== Proof.Ref.Least.lean ====
/- The reference's search for the least distance: its fold over a row keeps the first index of the least value. -/
module

public import proofs.«01_k».proof.Proof.Ref.Ops

@[expose] public section

set_option maxRecDepth 16384

noncomputable section

namespace Cert.Ref

open Cert.ReferenceIdeal Cert.ReferenceIdeal.Gen Idealize.ShloMosaic
open Cert.Up Cert.Spec

/-- Pairs of a value and an index, by value and then by index. -/
def key (p : EReal × BitVec 32) : EReal ×ₗ ℤ := toLex (p.1, p.2.toInt)

theorem key_lt (p q : EReal × BitVec 32) : key p < key q ↔ p.1 < q.1 ∨ p.1 = q.1 ∧ p.2.toInt < q.2.toInt := Prod.Lex.toLex_lt_toLex

/-- The reducer keeps the lesser pair. -/
theorem reducer_eq (p q : EReal × BitVec 32) : key (reducer_argmin_f32_i32 (F := Ideal) p q) ≤ key p ∧ key (reducer_argmin_f32_i32 (F := Ideal) p q) ≤ key q
    ∧ (reducer_argmin_f32_i32 (F := Ideal) p q = p ∨ reducer_argmin_f32_i32 (F := Ideal) p q = q) := by
  have e : reducer_argmin_f32_i32 (F := Ideal) p q = if key p < key q then p else q := by
    have hlt : FloatOps.cmpf (F := Ideal) (φ := .f32) .olt p.1 q.1 = BitVec.ofBool (decide (p.1 < q.1)) := rfl
    have hne : FloatOps.cmpf (F := Ideal) (φ := .f32) .une p.1 p.1 = BitVec.ofBool (decide (p.1 ≠ p.1)) := rfl
    have heq : FloatOps.cmpf (F := Ideal) (φ := .f32) .oeq p.1 q.1 = BitVec.ofBool (decide (p.1 = q.1)) := rfl
    have hs : IntOp.cmpi .slt p.2 q.2 = BitVec.ofBool (decide (p.2.toInt < q.2.toInt)) := rfl
    obtain ⟨a, i⟩ := p
    obtain ⟨b, k⟩ := q
    unfold reducer_argmin_f32_i32
    simp only [] at hlt hne heq hs ⊢
    rw [hlt, hne, heq, hs]
    simp only [key_lt]
    rcases lt_trichotomy a b with h | h | h
    · simp [h, h.ne, IntOp.ori, IntOp.andi, Scalar.select]
    · subst h
      by_cases hi : i.toInt < k.toInt <;> simp [hi, IntOp.ori, IntOp.andi, Scalar.select]
    · simp [h.not_gt, h.ne', IntOp.ori, IntOp.andi, Scalar.select]
  rw [e]
  by_cases h : key p < key q
  · rw [if_pos h]; exact ⟨le_rfl, h.le, .inl rfl⟩
  · rw [if_neg h]; exact ⟨not_lt.1 h, le_rfl, .inr rfl⟩

/-- Its fold keeps the least pair of all. -/
theorem fold_least (L : List (EReal × BitVec 32)) (p : EReal × BitVec 32) :
    L.foldl (reducer_argmin_f32_i32 (F := Ideal)) p ∈ p :: L ∧ ∀ q ∈ p :: L, key (L.foldl (reducer_argmin_f32_i32 (F := Ideal)) p) ≤ key q := by
  induction L generalizing p with
  | nil => exact ⟨List.mem_cons_self, fun q hq => by rw [List.mem_singleton.1 hq]; exact le_rfl⟩
  | cons a L ih =>
    obtain ⟨h₁, h₂, h₃⟩ := reducer_eq p a
    obtain ⟨hm, hl⟩ := ih (reducer_argmin_f32_i32 (F := Ideal) p a)
    refine ⟨?_, fun q hq => ?_⟩
    · rcases List.mem_cons.1 hm with h | h
      · rw [List.foldl_cons, h]
        rcases h₃ with h₃ | h₃ <;> rw [h₃] <;> simp
      · exact List.mem_cons_of_mem _ (List.mem_cons_of_mem _ h)
    · have h0 := hl _ List.mem_cons_self
      rcases List.mem_cons.1 hq with rfl | hq
      · exact h0.trans h₁
      rcases List.mem_cons.1 hq with rfl | hq
      · exact h0.trans h₂
      · exact hl q (List.mem_cons_of_mem _ hq)

/-- A row's pairs of a distance and its index. -/
theorem mem_fiber (d : Fin 32768 → Fin 1024 → ℝ) (q : Fin 32768) (p : EReal × BitVec 32) :
    p ∈ Host.argReduceFiber (R2 d) (iotaInDim S32768x1024 32 1) reducesTo_S32768x1024_S32768_d1 (ix1 q : S32768.Idx)
      ↔ ∃ k : Fin 1024, p = ((d q k : EReal), BitVec.ofNat 32 k.val) := by
  have hd (i : S32768x1024.Idx) : reducesTo_S32768x1024_S32768_d1.drop i = (ix1 q : S32768.Idx) ↔ i 0 = q := by
    constructor
    · intro h
      have := Shape.ReducesTo.drop_apply_val reducesTo_S32768x1024_S32768_d1 i 0
      rw [h] at this
      exact Fin.ext this.symm
    · intro h
      funext b
      obtain rfl : b = 0 := Subsingleton.elim _ _
      refine Fin.ext ((Shape.ReducesTo.drop_apply_val reducesTo_S32768x1024_S32768_d1 i 0).trans ?_)
      exact congrArg Fin.val h
  unfold Host.argReduceFiber
  simp only [List.mem_map, List.mem_filter, List.mem_finRange, true_and, decide_eq_true_eq]
  constructor
  · rintro ⟨n, hn, rfl⟩
    have h0 := (hd _).1 hn
    exact ⟨S32768x1024.rowMajor.symm n 1, by rw [← h0]; rfl⟩
  · rintro ⟨k, rfl⟩
    refine ⟨S32768x1024.rowMajor (ix2 q k), ?_⟩
    rw [Equiv.symm_apply_apply]
    exact ⟨(hd _).2 rfl, rfl⟩

/-- The index found in row `q` is that of the first least distance. -/
theorem least (d : Fin 32768 → Fin 1024 → ℝ) (q : Fin 32768) :
    (Host.argReduce (reducer_argmin_f32_i32 (F := Ideal)) (R2 d) (iotaInDim S32768x1024 32 1) (constant S_ .f32 0x7F800000#32) (constantI S_ 32 0#32)
      reducesTo_S32768x1024_S32768_d1 h_S_ (ix1 q : S32768.Idx)).2 = BitVec.ofNat 32 (first (d q)).val := by
  rw [Ideal.argReduce_eq_reduce2, Host.reduce2_eq_foldl_fiber]
  have hi : ((constant (F := Ideal) S_ .f32 0x7F800000#32) (Shape.Idx.first h_S_), constantI S_ 32 0#32 (Shape.Idx.first h_S_)) = ((⊤ : EReal), 0#32) :=
    Prod.ext w_top rfl
  rw [hi]
  obtain ⟨hm, hl⟩ := fold_least (Host.argReduceFiber (R2 d) (iotaInDim S32768x1024 32 1) reducesTo_S32768x1024_S32768_d1 (ix1 q : S32768.Idx)) ((⊤ : EReal), 0#32)
  generalize List.foldl _ _ _ = r at hm hl ⊢
  have hv (l : Fin 1024) : (BitVec.ofNat 32 l.val).toInt = (l.val : ℤ) := by
    rw [BitVec.toInt_eq_toNat_of_lt] <;> simp <;> omega
  have hall (l : Fin 1024) : key r ≤ key ((d q l : EReal), BitVec.ofNat 32 l.val) :=
    hl _ (List.mem_cons_of_mem _ ((mem_fiber d q _).2 ⟨l, rfl⟩))
  rcases List.mem_cons.1 hm with rfl | hm
  · exact absurd ((key_lt _ _).2 (.inl (EReal.coe_lt_top (d q 0)))) (not_lt.2 (hall 0))
  obtain ⟨k, rfl⟩ := (mem_fiber d q r).1 hm
  have hk : k = first (d q) := by
    refine eq_first _ _ (fun l => ?_) fun l hlk => ?_
    · by_contra hc
      exact absurd ((key_lt _ _).2 (.inl (EReal.coe_lt_coe_iff.2 (not_le.1 hc)))) (not_lt.2 (hall l))
    · by_contra hc
      refine absurd ((key_lt _ _).2 ?_) (not_lt.2 (hall l))
      rcases (not_lt.1 hc).lt_or_eq with h | h
      · exact .inl (EReal.coe_lt_coe_iff.2 h)
      · exact .inr ⟨congrArg (fun x : ℝ => (x : EReal)) h, by show (BitVec.ofNat 32 l.val).toInt < (BitVec.ofNat 32 k.val).toInt; rw [hv, hv]; exact_mod_cast hlk⟩
  rw [hk]

theorem cmpi_eq (a b : BitVec 32) : IntOp.cmpi .eq a b = if a = b then 1#1 else 0#1 := by
  show BitVec.ofBool (a == b) = _
  by_cases h : a = b
  · rw [if_pos h, h, beq_self_eq_true]; rfl
  · rw [if_neg h, beq_eq_false_iff_ne.2 h]; rfl

/-- The indicator of the nearest row. -/
theorem rHot_R2 (d : Fin 32768 → Fin 1024 → ℝ) : rHot (R2 d) = R2 fun q k => if first (d q) = k then 1 else 0 := by
  refine ext2 fun q k => ?_
  unfold rHot
  have hl' : uitofp (F := Ideal) .f32 (cmpi .eq
    (broadcastInDim S32768x1024 ![0, 1] bcast_S32768x1_S32768x1024_0_1 (broadcastInDim S32768x1 ![0] bcast_S32768_S32768x1_0
      (fun j => (Host.argReduce (reducer_argmin_f32_i32 (F := Ideal)) (R2 d) (iotaInDim S32768x1024 32 1) (constant S_ .f32 0x7F800000#32) (constantI S_ 32 0#32)
        reducesTo_S32768x1024_S32768_d1 h_S_ j).2)))
    (broadcastInDim S32768x1024 ![0, 1] bcast_S1x1024_S32768x1024_0_1 (iotaInDim S1x1024 32 1))) (ValueIdx.ix2 q k)
      = (((if BitVec.ofNat 32 (first (d q)).val = BitVec.ofNat 32 k.val then 1#1 else 0#1 : BitVec 1).toNat : ℝ) : EReal) := by
    rw [← least d q]
    have h₁ (f : S32768.Idx → BitVec 32) : broadcastInDim S32768x1024 ![0, 1] bcast_S32768x1_S32768x1024_0_1
        (broadcastInDim S32768x1 ![0] bcast_S32768_S32768x1_0 f) (ValueIdx.ix2 q k) = f (ix1 q) :=
      (bcast_cols _ _ q k).trans (broadcastInDim_apply _ _ _ _ (ValueIdx.ix1 q) fun ax => by
        match ax with
        | ⟨0, _⟩ => rfl)
    have h₂ : broadcastInDim S32768x1024 ![0, 1] bcast_S1x1024_S32768x1024_0_1 (iotaInDim S1x1024 32 1) (ValueIdx.ix2 q k) = BitVec.ofNat 32 k.val :=
      Idealize.ShloMosaic.broadcastInDim_oneRow_apply _ _ q k
    show (((IntOp.cmpi .eq _ _ : BitVec 1).toNat : ℝ) : EReal) = _
    rw [h₁, h₂]
    rw [cmpi_eq]
  rw [hl']
  show _ = (((if first (d q) = k then (1 : ℝ) else 0) : ℝ) : EReal)
  have hb : BitVec.ofNat 32 (first (d q)).val = BitVec.ofNat 32 k.val ↔ first (d q) = k := by
    constructor
    · intro h
      have h' := congrArg BitVec.toNat h
      simp only [BitVec.toNat_ofNat] at h'
      exact Fin.ext (by omega)
    · rintro rfl; rfl
  by_cases h : first (d q) = k
  · rw [if_pos h, if_pos (hb.2 h)]; simp
  · rw [if_neg h, if_neg (mt hb.1 h)]; simp

end Cert.Ref
end
-- ==== Proof.Ref.Value.lean ====
/- What the reference leaves in its four results, of arguments that hold real numbers. -/
module

public import proofs.«01_k».proof.Proof.Ref.Stages
public import proofs.«01_k».proof.Proof.Ref.Read
public import proofs.«01_k».proof.Proof.Ref.ReadI
public import proofs.«01_k».proof.Proof.Ref.Real
public import proofs.«01_k».proof.Proof.Ref.Least

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo
open Cert.Up Cert.Spec

/-- The arguments hold these real arrays. -/
structure Fed (V : Valuation τ sig (Elt Ideal)) (X : Fin 8192 → Fin 128 → ℝ) (E : Net 128 256) (D : Net 256 128) (cb : Fin 1024 → Fin 64 → ℝ) : Prop where
  h0 : V (main_arg0 : DevRef τ sig) = R2 X
  h1 : V (main_arg1 : DevRef τ sig) = R2 E.wi
  h2 : V (main_arg2 : DevRef τ sig) = R1 E.bi
  h3 : V (main_arg3 : DevRef τ sig) = R3 E.wr
  h4 : V (main_arg4 : DevRef τ sig) = R2 E.br
  h5 : V (main_arg5 : DevRef τ sig) = R2 E.gr
  h6 : V (main_arg6 : DevRef τ sig) = R2 E.cr
  h7 : V (main_arg7 : DevRef τ sig) = R2 E.wo
  h8 : V (main_arg8 : DevRef τ sig) = R1 E.bo
  h9 : V (main_arg9 : DevRef τ sig) = R2 D.wi
  h10 : V (main_arg10 : DevRef τ sig) = R1 D.bi
  h11 : V (main_arg11 : DevRef τ sig) = R3 D.wr
  h12 : V (main_arg12 : DevRef τ sig) = R2 D.br
  h13 : V (main_arg13 : DevRef τ sig) = R2 D.gr
  h14 : V (main_arg14 : DevRef τ sig) = R2 D.cr
  h15 : V (main_arg15 : DevRef τ sig) = R2 D.wo
  h16 : V (main_arg16 : DevRef τ sig) = R1 D.bo
  h17 : V (main_arg17 : DevRef τ sig) = R2 cb

variable {V : Valuation τ sig (Elt Ideal)} {X : Fin 8192 → Fin 128 → ℝ} {E : Net 128 256} {D : Net 256 128} {cb : Fin 1024 → Fin 64 → ℝ}

theorem Fed.arg {r : Ref sig .tc} {x : (Proc.devRef (τ := τ) .tc r).ty.Contents (Elt Ideal)} (h : V (Proc.devRef .tc r) = x) (k : ℕ) (hr : r ∈ args) :
    stage V k (Proc.devRef .tc r) = x := (stage_arg V k r hr).trans h

variable (h : Fed V X E D cb)
include h

/-! ### The encoder -/

theorem at_in : stage V 1 (main_v7 : DevRef τ sig) = R2 fun r => lin E.wi E.bi (X r) := by
  refine (read_In (stage V 0)).trans ?_
  rw [Fed.arg h.h0 0 (by decide), Fed.arg h.h1 0 (by decide), Fed.arg h.h2 0 (by decide), rIn_R2]
theorem at_e0 : stage V 2 (main_v39 : DevRef τ sig) = R2 fun r => E.step 0 (lin E.wi E.bi (X r)) := by
  refine (read_E0 (stage V 1)).trans ?_
  rw [at_in h, Fed.arg h.h3 1 (by decide), Fed.arg h.h4 1 (by decide), Fed.arg h.h5 1 (by decide), Fed.arg h.h6 1 (by decide), rStep_R2]
theorem at_e1 : stage V 3 (main_v71 : DevRef τ sig) = R2 fun r => E.step 1 (E.step 0 (lin E.wi E.bi (X r))) := by
  refine (read_E1 (stage V 2)).trans ?_
  rw [at_e0 h, Fed.arg h.h3 2 (by decide), Fed.arg h.h4 2 (by decide), Fed.arg h.h5 2 (by decide), Fed.arg h.h6 2 (by decide), rStep_R2]
theorem at_e2 : stage V 4 (main_v103 : DevRef τ sig) = R2 fun r => E.step 2 (E.step 1 (E.step 0 (lin E.wi E.bi (X r)))) := by
  refine (read_E2 (stage V 3)).trans ?_
  rw [at_e1 h, Fed.arg h.h3 3 (by decide), Fed.arg h.h4 3 (by decide), Fed.arg h.h5 3 (by decide), Fed.arg h.h6 3 (by decide), rStep_R2]
theorem at_e3 : stage V 5 (main_v135 : DevRef τ sig) = R2 fun r => E.deep (X r) := by
  refine (read_E3 (stage V 4)).trans ?_
  rw [at_e2 h, Fed.arg h.h3 4 (by decide), Fed.arg h.h4 4 (by decide), Fed.arg h.h5 4 (by decide), Fed.arg h.h6 4 (by decide), rStep_R2]
  rfl
theorem at_z : stage V 6 (main_v140 : DevRef τ sig) = R2 (rowGrp fun r => E.run (X r)) := by
  refine (read_Z (stage V 5)).trans ?_
  rw [at_e3 h, Fed.arg h.h7 5 (by decide), Fed.arg h.h8 5 (by decide), rZ_R2]
  rfl

/-! ### The quantiser -/

theorem at_d : stage V 7 (main_v154 : DevRef τ sig) = R2 fun q => dist cb (rowGrp (fun r => E.run (X r)) q) := by
  refine (read_D (stage V 6)).trans ?_
  rw [at_z h, Fed.arg h.h17 6 (by decide), rDist_R2]
theorem at_i : stage V 8 (main_v156 : DevRef τ sig) = R2 fun q => chosen cb (rowGrp (fun r => E.run (X r)) q) := by
  refine (read_I (stage V 7)).trans ?_
  rw [at_d h, rHot_R2]
  rfl
theorem at_z_later : stage V 8 (main_v140 : DevRef τ sig) = R2 (rowGrp fun r => E.run (X r)) :=
  (stage_keep V 6 2 main_v140 (by decide +kernel)).trans (at_z h)
theorem at_pick : stage V 9 (main_v157 : DevRef τ sig) = R2 fun q => cb (near cb (rowGrp (fun r => E.run (X r)) q)) := by
  refine (read_L_pick (stage V 8)).trans ?_
  rw [at_i h, Fed.arg h.h17 8 (by decide), rPick_R2]
theorem at_loss : stage V 9 (main_v167 : DevRef τ sig) = R0 (loss X E cb) := by
  refine (read_L_loss (stage V 8)).trans ?_
  rw [at_i h, at_z_later h, Fed.arg h.h17 8 (by decide), rPick_R2, rLoss_R2]
  rfl
theorem at_perp : stage V 10 (main_v179 : DevRef τ sig) = R0 (perp X E cb) := by
  refine (read_Q_perp (stage V 9)).trans ?_
  rw [(stage_keep V 8 1 main_v156 (by decide +kernel)).trans (at_i h), rPerp_R2]
  rfl
theorem at_y : stage V 10 (main_v180 : DevRef τ sig) = R2 (yHat X E cb) := by
  refine (read_Q_y (stage V 9)).trans ?_
  rw [at_pick h, (stage_keep V 6 3 main_v140 (by decide +kernel)).trans (at_z h), rY_R2]
  rfl

/-! ### The decoder -/

theorem at_x : stage V 11 (main_v184 : DevRef τ sig) = R2 fun r => lin D.wi D.bi (yHat X E cb r) := by
  refine (read_X (stage V 10)).trans ?_
  rw [at_y h, Fed.arg h.h9 10 (by decide), Fed.arg h.h10 10 (by decide), rX_R2]
theorem at_d0 : stage V 12 (main_v216 : DevRef τ sig) = R2 fun r => D.step 0 (lin D.wi D.bi (yHat X E cb r)) := by
  refine (read_D0 (stage V 11)).trans ?_
  rw [at_x h, Fed.arg h.h11 11 (by decide), Fed.arg h.h12 11 (by decide), Fed.arg h.h13 11 (by decide), Fed.arg h.h14 11 (by decide), rStep_R2]
theorem at_d1 : stage V 13 (main_v248 : DevRef τ sig) = R2 fun r => D.step 1 (D.step 0 (lin D.wi D.bi (yHat X E cb r))) := by
  refine (read_D1 (stage V 12)).trans ?_
  rw [at_d0 h, Fed.arg h.h11 12 (by decide), Fed.arg h.h12 12 (by decide), Fed.arg h.h13 12 (by decide), Fed.arg h.h14 12 (by decide), rStep_R2]
theorem at_d2 : stage V 14 (main_v280 : DevRef τ sig) = R2 fun r => D.step 2 (D.step 1 (D.step 0 (lin D.wi D.bi (yHat X E cb r)))) := by
  refine (read_D2 (stage V 13)).trans ?_
  rw [at_d1 h, Fed.arg h.h11 13 (by decide), Fed.arg h.h12 13 (by decide), Fed.arg h.h13 13 (by decide), Fed.arg h.h14 13 (by decide), rStep_R2]
theorem at_d3 : stage V 15 (main_v312 : DevRef τ sig) = R2 fun r => D.deep (yHat X E cb r) := by
  refine (read_D3 (stage V 14)).trans ?_
  rw [at_d2 h, Fed.arg h.h11 14 (by decide), Fed.arg h.h12 14 (by decide), Fed.arg h.h13 14 (by decide), Fed.arg h.h14 14 (by decide), rStep_R2]
  rfl

/-! ### The results -/

theorem end_x : after ops V (main_v320 : DevRef τ sig) = R2 (xHat X E D cb) := by
  refine (congrFun (after_ops V) _).trans ((read_O (stage V 15)).trans ?_)
  rw [at_d3 h, Fed.arg h.h15 15 (by decide), Fed.arg h.h16 15 (by decide), rO_R2]
  rfl
theorem end_loss : after ops V (main_v167 : DevRef τ sig) = R0 (loss X E cb) :=
  (congrFun (after_ops V) _).trans ((stage_keep V 9 7 main_v167 (by decide +kernel)).trans (at_loss h))
theorem end_perp : after ops V (main_v179 : DevRef τ sig) = R0 (perp X E cb) :=
  (congrFun (after_ops V) _).trans ((stage_keep V 10 6 main_v179 (by decide +kernel)).trans (at_perp h))
theorem end_y : after ops V (main_v180 : DevRef τ sig) = R2 (yHat X E cb) :=
  (congrFun (after_ops V) _).trans ((stage_keep V 10 6 main_v180 (by decide +kernel)).trans (at_y h))

end Cert.Ref
end
-- ==== Proof.Math.Finite.lean ====
/- The precondition: arguments whose entries are finite are arrays of reals. -/
module

public import proofs.«01_k».proof.Pre_finite
public import proofs.«01_k».proof.Proof.Math.UpHost
public import Idealize.ShloMosaic.Lib.ReduceAll

@[expose] public section

set_option maxRecDepth 16384

noncomputable section

namespace Cert.Up

open Idealize.ShloMosaic

/-- All entries of `x` are below the top in absolute value: the test that the precondition makes of an argument. -/
def small {S : Shape} {ax : List (Fin S.rank)} (hb : (⟨0, ![]⟩ : Shape).BroadcastsInDim S ![]) (hr : S.ReducesTo ax ⟨0, ![]⟩)
    (hu : 0 < (⟨0, ![]⟩ : Shape).numel) (x : FVec Ideal S .f32) : IVec ⟨0, ![]⟩ 1 :=
  Host.reduce IntOp.andi (cmpf .olt (Host.absf x) (broadcastInDim S ![] hb (constant ⟨0, ![]⟩ .f32 0x7F800000#32))) (constantI ⟨0, ![]⟩ 1 1#1) hr hu

theorem finite_of_small {S : Shape} {ax : List (Fin S.rank)} {hb : (⟨0, ![]⟩ : Shape).BroadcastsInDim S ![]} {hr : S.ReducesTo ax ⟨0, ![]⟩}
    {hu : 0 < (⟨0, ![]⟩ : Shape).numel} {x : FVec Ideal S .f32} {j : (⟨0, ![]⟩ : Shape).Idx} (h : small hb hr hu x j = 1#1) (i : S.Idx) :
    (x i : EReal) ≠ ⊤ ∧ (x i : EReal) ≠ ⊥ := by
  have : Subsingleton (⟨0, ![]⟩ : Shape).Idx := ⟨fun a b => funext fun k => k.elim0⟩
  have e := Host.reduce_andi_all _ _ hr hu j h i
  have e' : (max (x i : EReal) (-(x i : EReal))) < Ideal.ofBits .f32 0x7F800000#32 := by
    by_contra hn
    have : cmpf (F := Ideal) .olt (Host.absf x) (broadcastInDim S ![] hb (constant ⟨0, ![]⟩ .f32 0x7F800000#32)) i = 0#1 := by
      have hd : decide (max (x i : EReal) (-(x i : EReal)) < Ideal.ofBits .f32 0x7F800000#32) = false := decide_eq_false hn
      exact congrArg BitVec.ofBool hd
    rw [this] at e
    exact absurd e (by decide)
  rw [w_top] at e'
  constructor
  · rintro he
    simp [he] at e'
  · rintro he
    simp [he] at e'

theorem and_one {a b : IVec ⟨0, ![]⟩ 1} {j : (⟨0, ![]⟩ : Shape).Idx} (h : andi a b j = 1#1) : a j = 1#1 ∧ b j = 1#1 := by
  have h' : IntOp.andi (a j) (b j) = 1#1 := h
  revert h'
  generalize a j = p
  generalize b j = q
  revert p q
  decide

section
variable [Cert.Pre_finite.Facts]
open Cert.Pre_finite Cert.Pre_finite.Facts

/-- The precondition, test by test. -/
theorem tests (a0 : FVec Ideal S8192x128 .f32) (a1 : FVec Ideal S128x512 .f32) (a2 : FVec Ideal S512 .f32) (a3 : FVec Ideal S4x512x512 .f32)
    (a4 a5 a6 : FVec Ideal S4x512 .f32) (a7 : FVec Ideal S512x256 .f32) (a8 : FVec Ideal S256 .f32)
    (a9 : FVec Ideal S256x512 .f32) (a10 : FVec Ideal S512 .f32) (a11 : FVec Ideal S4x512x512 .f32)
    (a12 a13 a14 : FVec Ideal S4x512 .f32) (a15 : FVec Ideal S512x128 .f32) (a16 : FVec Ideal S128 .f32) (a17 : FVec Ideal S1024x64 .f32) :
    Cert.Pre_finite.fn (F := Ideal) a0 a1 a2 a3 a4 a5 a6 a7 a8 a9 a10 a11 a12 a13 a14 a15 a16 a17
      = andi (andi (andi (andi (andi (andi (andi (andi (andi (andi (andi (andi (andi (andi (andi (andi (andi
        (small bcast_S_S8192x128 reducesTo_S8192x128_S_d0_1 h_S_ a0)
        (small bcast_S_S128x512 reducesTo_S128x512_S_d0_1 h_S_ a1))
        (small bcast_S_S512 reducesTo_S512_S_d0 h_S_ a2))
        (small bcast_S_S4x512x512 reducesTo_S4x512x512_S_d0_1_2 h_S_ a3))
        (small bcast_S_S4x512 reducesTo_S4x512_S_d0_1 h_S_ a4))
        (small bcast_S_S4x512 reducesTo_S4x512_S_d0_1 h_S_ a5))
        (small bcast_S_S4x512 reducesTo_S4x512_S_d0_1 h_S_ a6))
        (small bcast_S_S512x256 reducesTo_S512x256_S_d0_1 h_S_ a7))
        (small bcast_S_S256 reducesTo_S256_S_d0 h_S_ a8))
        (small bcast_S_S256x512 reducesTo_S256x512_S_d0_1 h_S_ a9))
        (small bcast_S_S512 reducesTo_S512_S_d0 h_S_ a10))
        (small bcast_S_S4x512x512 reducesTo_S4x512x512_S_d0_1_2 h_S_ a11))
        (small bcast_S_S4x512 reducesTo_S4x512_S_d0_1 h_S_ a12))
        (small bcast_S_S4x512 reducesTo_S4x512_S_d0_1 h_S_ a13))
        (small bcast_S_S4x512 reducesTo_S4x512_S_d0_1 h_S_ a14))
        (small bcast_S_S512x128 reducesTo_S512x128_S_d0_1 h_S_ a15))
        (small bcast_S_S128 reducesTo_S128_S_d0 h_S_ a16))
        (small bcast_S_S1024x64 reducesTo_S1024x64_S_d0_1 h_S_ a17) := rfl
end

end Cert.Up
end
-- ==== Proof.Kern.Base.lean ====
/- The kernel's operations on a tile of 2048 rows, over the reals. -/
module

public import proofs.«01_k».proof.Proof.Gen.KernelIdeal
public import proofs.«01_k».proof.Proof.Gen.KernelIdeal.Skeleton
public import proofs.«01_k».proof.Proof.Math.Spec

@[expose] public section

set_option maxRecDepth 16384

noncomputable section

namespace Cert.Kern

open Cert.KernelIdeal Cert.KernelIdeal.Gen Idealize.ShloMosaic
open Cert.Up Cert.Spec
open scoped BigOperators

/-! ### Constants -/

section Constants
variable {n m : ℕ}
theorem b_zero : broadcast (⟨2, ![n, m]⟩ : Shape) (Scalar.ofBits (F := Ideal) .f32 0x00000000#32) = R2 fun _ _ => 0 := funext fun _ => w_zero
theorem b_512 : broadcast (⟨2, ![n, m]⟩ : Shape) (Scalar.ofBits (F := Ideal) .f32 0x44000000#32) = R2 fun _ _ => 512 := funext fun _ => w_512
theorem b_eps : broadcast (⟨2, ![n, m]⟩ : Shape) (Scalar.ofBits (F := Ideal) .f32 0x3727C5AC#32) = R2 fun _ _ => eps := funext fun _ => w_eps
theorem b_rows : broadcast (⟨2, ![n, m]⟩ : Shape) (Scalar.ofBits (F := Ideal) .f32 0x47000000#32) = R2 fun _ _ => 32768 := funext fun _ => w_rows
theorem b_tiny : broadcast (⟨2, ![n, m]⟩ : Shape) (Scalar.ofBits (F := Ideal) .f32 0x2EDBE6FF#32) = R2 fun _ _ => tiny := funext fun _ => w_tiny
end Constants

/-! ### Matrix products -/

theorem mm_in (f : Fin 2048 → Fin 128 → ℝ) (g : Fin 128 → Fin 512 → ℝ) :
    matmul (F := Ideal) (φ₁ := .bf16) (φ₂ := .bf16) dot_S2048x128_S128x512_S2048x512_1_0_0_1_n_n none (R2 f) (R2 g) (constant S2048x512 .f32 0x00000000#32)
      = R2 fun r j => ∑ i, f r i * g i j := matmul_R2 none f g
theorem mm_h (f : Fin 2048 → Fin 512 → ℝ) (g : Fin 512 → Fin 512 → ℝ) :
    matmul (F := Ideal) (φ₁ := .bf16) (φ₂ := .bf16) dot_S2048x512_S512x512_S2048x512_1_0_0_1_n_n none (R2 f) (R2 g) (constant S2048x512 .f32 0x00000000#32)
      = R2 fun r j => ∑ i, f r i * g i j := matmul_R2 none f g
theorem mm_z (f : Fin 2048 → Fin 512 → ℝ) (g : Fin 512 → Fin 256 → ℝ) :
    matmul (F := Ideal) (φ₁ := .bf16) (φ₂ := .bf16) dot_S2048x512_S512x256_S2048x256_1_0_0_1_n_n none (R2 f) (R2 g) (constant S2048x256 .f32 0x00000000#32)
      = R2 fun r j => ∑ i, f r i * g i j := matmul_R2 none f g
theorem mm_y (f : Fin 2048 → Fin 256 → ℝ) (g : Fin 256 → Fin 512 → ℝ) :
    matmul (F := Ideal) (φ₁ := .bf16) (φ₂ := .bf16) dot_S2048x256_S256x512_S2048x512_1_0_0_1_n_n none (R2 f) (R2 g) (constant S2048x512 .f32 0x00000000#32)
      = R2 fun r j => ∑ i, f r i * g i j := matmul_R2 none f g
theorem mm_x (f : Fin 2048 → Fin 512 → ℝ) (g : Fin 512 → Fin 128 → ℝ) :
    matmul (F := Ideal) (φ₁ := .bf16) (φ₂ := .bf16) dot_S2048x512_S512x128_S2048x128_1_0_0_1_n_n none (R2 f) (R2 g) (constant S2048x128 .f32 0x00000000#32)
      = R2 fun r j => ∑ i, f r i * g i j := matmul_R2 none f g
theorem mm_d (f : Fin 2048 → Fin 64 → ℝ) (g : Fin 64 → Fin 1024 → ℝ) :
    matmul (F := Ideal) (φ₁ := .bf16) (φ₂ := .bf16) dot_S2048x64_S64x1024_S2048x1024_1_0_0_1_n_n none (R2 f) (R2 g) (constant S2048x1024 .f32 0x00000000#32)
      = R2 fun r j => ∑ i, f r i * g i j := matmul_R2 none f g
theorem mm_p (f : Fin 2048 → Fin 1024 → ℝ) (g : Fin 1024 → Fin 64 → ℝ) :
    matmul (F := Ideal) (φ₁ := .bf16) (φ₂ := .bf16) dot_S2048x1024_S1024x64_S2048x64_1_0_0_1_n_n none (R2 f) (R2 g) (constant S2048x64 .f32 0x00000000#32)
      = R2 fun r j => ∑ i, f r i * g i j := matmul_R2 none f g

end Cert.Kern
end
-- ==== Proof.Kern.Ops.lean ====
/- The kernel's layers and its quantiser, written with its own operations, and their values over the reals. -/
module

public import proofs.«01_k».proof.Proof.Kern.Base

@[expose] public section

set_option maxRecDepth 16384

noncomputable section

namespace Cert.Kern

open Cert.KernelIdeal Cert.KernelIdeal.Gen Idealize.ShloMosaic
open Cert.Up Cert.Spec
open scoped BigOperators

section Defs
variable {F : FTy → Type} [FloatOps F]

/-- A column repeated along the rows. -/
def across (v : FVec F S2048x1 .f32) : FVec F S2048x512 .f32 := broadcastTo S2048x512 v broadcasts_S2048x1_S2048x512
/-- A row repeated along the columns. -/
def along (v : FVec F S1x512 .f32) : FVec F S2048x512 .f32 := broadcastTo S2048x512 v broadcasts_S1x512_S2048x512
/-- A number everywhere. -/
def col (w : BitVec 32) : FVec F S2048x1 .f32 := broadcast S2048x1 (Scalar.ofBits .f32 w)

/-- The dense part of a residual layer. -/
def mid (h : FVec F S2048x512 .f32) (W : FVec F S1x512x512 .bf16) (b : FVec F S1x512 .f32) : FVec F S2048x512 .f32 :=
  addf (matmul dot_S2048x512_S512x512_S2048x512_1_0_0_1_n_n none (truncf .bf16 h bitsLt_bf16_f32) (shapeCast S512x512 W shapeCasts_S1x512x512_S512x512)
    (constant S2048x512 .f32 0x00000000#32)) (along b)
/-- The sums of the rows. -/
def sums (t : FVec F S2048x512 .f32) : FVec F S2048x1 .f32 :=
  shapeCast S2048x1 (multiReduction .add [1] S2048 t 0x00000000#32 reduces_S2048x512_S2048 (.inl rfl) rfl) shapeCasts_S2048_S2048x1
/-- The means of the rows. -/
def means (t : FVec F S2048x512 .f32) : FVec F S2048x1 .f32 := divf (sums t) (col 0x44000000#32)
/-- The deviations from the means. -/
def devs (t : FVec F S2048x512 .f32) : FVec F S2048x512 .f32 := subf t (across (means t))
/-- The variances of the rows, of the deviations. -/
def vars (t : FVec F S2048x512 .f32) : FVec F S2048x1 .f32 := divf (sums (mulf (devs t) (devs t))) (col 0x44000000#32)
/-- The variances of the rows, of the squares. -/
def vars' (t : FVec F S2048x512 .f32) : FVec F S2048x1 .f32 := subf (divf (sums (mulf t t)) (col 0x44000000#32)) (mulf (means t) (means t))
/-- A scaling and a shift of every column. -/
def affine (t : FVec F S2048x512 .f32) (g c : FVec F S1x512 .f32) : FVec F S2048x512 .f32 := addf (mulf t (along g)) (along c)
/-- The encoder's normalisation. -/
def norm (t : FVec F S2048x512 .f32) (g c : FVec F S1x512 .f32) : FVec F S2048x512 .f32 :=
  affine (divf (devs t) (across (sqrt (addf (vars t) (col 0x3727C5AC#32))))) g c
/-- The decoder's normalisation. -/
def norm' (t : FVec F S2048x512 .f32) (g c : FVec F S1x512 .f32) : FVec F S2048x512 .f32 :=
  affine (mulf (devs t) (across (rsqrt (addf (vars' t) (col 0x3727C5AC#32))))) g c
/-- The addition of the positive part. -/
def join (h n : FVec F S2048x512 .f32) : FVec F S2048x512 .f32 := addf h (maximumf n (broadcast S2048x512 (Scalar.ofBits .f32 0x00000000#32)))

/-- The encoder's residual layer. -/
def step (h : FVec F S2048x512 .f32) (W : FVec F S1x512x512 .bf16) (b g c : FVec F S1x512 .f32) : FVec F S2048x512 .f32 := join h (norm (mid h W b) g c)
/-- The decoder's residual layer. -/
def step' (h : FVec F S2048x512 .f32) (W : FVec F S1x512x512 .bf16) (b g c : FVec F S1x512 .f32) : FVec F S2048x512 .f32 := join h (norm' (mid h W b) g c)

/-- The encoder's first layer. -/
def encIn (x : FVec F S2048x128 .f32) (w : FVec F S128x512 .bf16) (b : FVec F S1x512 .f32) : FVec F S2048x512 .f32 :=
  addf (matmul dot_S2048x128_S128x512_S2048x512_1_0_0_1_n_n none (truncf .bf16 x bitsLt_bf16_f32) w (constant S2048x512 .f32 0x00000000#32))
    (along (shapeCast S1x512 b shapeCasts_S1x512_S1x512))
/-- The encoder's last layer. -/
def encOut (h : FVec F S2048x512 .f32) (w : FVec F S512x256 .bf16) (b : FVec F S1x256 .f32) : FVec F S2048x256 .f32 :=
  addf (matmul dot_S2048x512_S512x256_S2048x256_1_0_0_1_n_n none (truncf .bf16 h bitsLt_bf16_f32) w (constant S2048x256 .f32 0x00000000#32))
    (broadcastTo S2048x256 (shapeCast S1x256 b shapeCasts_S1x256_S1x256) broadcasts_S1x256_S2048x256)
/-- The decoder's first layer. -/
def decIn (y : FVec F S2048x256 .f32) (w : FVec F S256x512 .bf16) (b : FVec F S1x512 .f32) : FVec F S2048x512 .f32 :=
  addf (matmul dot_S2048x256_S256x512_S2048x512_1_0_0_1_n_n none (truncf .bf16 y bitsLt_bf16_f32) w (constant S2048x512 .f32 0x00000000#32))
    (along (shapeCast S1x512 b shapeCasts_S1x512_S1x512))
/-- The decoder's last layer. -/
def decOut (h : FVec F S2048x512 .f32) (w : FVec F S512x128 .bf16) (b : FVec F S1x128 .f32) : FVec F S2048x128 .f32 :=
  addf (matmul dot_S2048x512_S512x128_S2048x128_1_0_0_1_n_n none (truncf .bf16 h bitsLt_bf16_f32) w (constant S2048x128 .f32 0x00000000#32))
    (broadcastTo S2048x128 (shapeCast S1x128 b shapeCasts_S1x128_S1x128) broadcasts_S1x128_S2048x128)

/-- A column repeated along the code book. -/
def wide {α : Type} (v : S2048x1.Idx → α) : S2048x1024.Idx → α := broadcastTo S2048x1024 v broadcasts_S2048x1_S2048x1024
/-- The squared distances of the groups to the code book. -/
def dists (z : FVec F S2048x64 .f32) (n : FVec F S1x1024 .f32) (w : FVec F S64x1024 .bf16) : FVec F S2048x1024 .f32 :=
  subf (addf (wide (shapeCast S2048x1 (multiReduction .add [1] S2048 (mulf z z) 0x00000000#32 reduces_S2048x64_S2048 (.inl rfl) rfl) shapeCasts_S2048_S2048x1))
      (broadcastTo S2048x1024 n broadcasts_S1x1024_S2048x1024))
    (matmul dot_S2048x64_S64x1024_S2048x1024_1_0_0_1_n_n none (truncf .bf16 z bitsLt_bf16_f32) w (constant S2048x1024 .f32 0x00000000#32))
/-- The column numbers. -/
def cols : IVec S2048x1024 32 := iota .tc S2048x1024 32 [1] iota_S2048x1024_d1_w32
/-- Where a row's least distance lies. -/
def least (d : FVec F S2048x1024 .f32) : IVec S2048x1024 1 :=
  cmpf .oeq d (wide (shapeCast S2048x1 (multiReduction .minimumf [1] S2048 d 0x7F800000#32 reduces_S2048x1024_S2048 (.inl rfl) rfl) shapeCasts_S2048_S2048x1))
/-- The column numbers of the marks, and a large number elsewhere. -/
def marks (l : IVec S2048x1024 1) : IVec S2048x1024 32 := select l cols (broadcast S2048x1024 1024#32)
/-- The indicators of a row's first mark. -/
def hot (l : IVec S2048x1024 1) : FVec F S2048x1024 .f32 :=
  sitofp .f32 (extui 32 (cmpi .eq cols (wide (shapeCast S2048x1
    (multiReductionI .minsi [1] S2048 (marks l) 2147483647#32 reduces_S2048x1024_S2048 rfl) shapeCasts_S2048_S2048x1))) natLt_1_32)
/-- The rows of the code book at the indicators. -/
def rows (o : FVec F S2048x1024 .f32) (c : FVec F S1024x64 .bf16) : FVec F S2048x64 .f32 :=
  matmul dot_S2048x1024_S1024x64_S2048x64_1_0_0_1_n_n none (truncf .bf16 o bitsLt_bf16_f32) c (constant S2048x64 .f32 0x00000000#32)
/-- The sums of the columns. -/
def tally (o : FVec F S2048x1024 .f32) : FVec F S1x1024 .f32 :=
  shapeCast S1x1024 (multiReduction .add [0] S1024 o 0x00000000#32 reduces_S2048x1024_S1024 (.inl rfl) rfl) shapeCasts_S1024_S1x1024
/-- The sum of the squared differences. -/
def gap (p z : FVec F S2048x64 .f32) : F .f32 :=
  extractAt ![0, 0, 0] (shapeCast S1x1x1 (multiReduction .add [1, 2] S1 (shapeCast S1x2048x64 (mulf (subf p z) (subf p z)) shapeCasts_S2048x64_S1x2048x64)
    0x00000000#32 reduces_S1x2048x64_S1 (.inl rfl) rfl) shapeCasts_S1_S1x1x1) inpos_S1x1x1_p0_0_0
/-- The four groups of the rows. -/
def part0 (y : FVec F S2048x256 .f32) : FVec F S2048x64 .f32 := extractStridedSlice S2048x64 ![0, 0] y slices_S2048x256_o0_0_S2048x64
@[inherit_doc part0] def part1 (y : FVec F S2048x256 .f32) : FVec F S2048x64 .f32 := extractStridedSlice S2048x64 ![0, 64] y slices_S2048x256_o0_64_S2048x64
@[inherit_doc part0] def part2 (y : FVec F S2048x256 .f32) : FVec F S2048x64 .f32 := extractStridedSlice S2048x64 ![0, 128] y slices_S2048x256_o0_128_S2048x64
@[inherit_doc part0] def part3 (y : FVec F S2048x256 .f32) : FVec F S2048x64 .f32 := extractStridedSlice S2048x64 ![0, 192] y slices_S2048x256_o0_192_S2048x64
/-- The indicators of a group's nearest row. -/
def pick (z : FVec F S2048x64 .f32) (n : FVec F S1x1024 .f32) (w : FVec F S64x1024 .bf16) : FVec F S2048x1024 .f32 :=
  hot (least (dists z (shapeCast S1x1024 n shapeCasts_S1x1024_S1x1024) w))

end Defs

/-! ### Over the reals -/

theorem along_R (f : Fin 1 → Fin 512 → ℝ) : along (F := Ideal) (R2 f) = R2 fun _ j => f 0 j := broadcastTo_row f _
theorem across_R (f : Fin 2048 → Fin 1 → ℝ) : across (F := Ideal) (R2 f) = R2 fun r _ => f r 0 := broadcastTo_col f _
theorem col_512 : col (F := Ideal) 0x44000000#32 = R2 fun _ _ => 512 := b_512
theorem col_eps : col (F := Ideal) 0x3727C5AC#32 = R2 fun _ _ => eps := b_eps

section Layer
variable (h t : Fin 2048 → Fin 512 → ℝ) (W : Fin 512 → Fin 512 → ℝ) (b g c : Fin 512 → ℝ)

theorem mid_R : mid (F := Ideal) (R2 h) (R3 fun _ : Fin 1 => W) (R2 fun _ : Fin 1 => b) = R2 fun r => lin W b (h r) := by
  unfold mid
  rw [truncf_R2, shapeCast_drop, mm_h, along_R, addf_R2]
  rfl
theorem sums_R : sums (F := Ideal) (R2 t) = R2 fun r _ => ∑ l, t r l :=
  (congrArg (fun v => shapeCast S2048x1 v shapeCasts_S2048_S2048x1) (sum1_R2 t _ _ _ _)).trans (shapeCast_col _ _)
theorem means_R : means (F := Ideal) (R2 t) = R2 fun r _ => mean (t r) := by
  unfold means
  rw [sums_R, col_512, divf_R2 _ _ fun _ _ => by norm_num]
  rfl
theorem devs_R : devs (F := Ideal) (R2 t) = R2 fun r j => t r j - mean (t r) := by
  unfold devs
  rw [means_R, across_R, subf_R2]
theorem vars_R : vars (F := Ideal) (R2 t) = R2 fun r _ => var (t r) := by
  unfold vars
  rw [devs_R, mulf_R2, sums_R, col_512, divf_R2 _ _ fun _ _ => by norm_num]
  rfl
theorem vars'_R : vars' (F := Ideal) (R2 t) = R2 fun r _ => var (t r) := by
  unfold vars'
  rw [means_R, mulf_R2, mulf_R2, sums_R, col_512, divf_R2 _ _ fun _ _ => by norm_num, subf_R2]
  exact congrArg R2 (funext fun r => funext fun _ => var_eq (t r))
theorem affine_R : affine (F := Ideal) (R2 t) (R2 fun _ : Fin 1 => g) (R2 fun _ : Fin 1 => c) = R2 fun r j => t r j * g j + c j := by
  unfold affine
  rw [along_R, along_R, mulf_R2, addf_R2]

theorem spread (t : Fin 512 → ℝ) : 0 < var t + eps := add_pos_of_nonneg_of_pos (var_nonneg _) eps_pos

theorem norm_R : norm (F := Ideal) (R2 t) (R2 fun _ : Fin 1 => g) (R2 fun _ : Fin 1 => c)
    = R2 fun r j => (t r j - mean (t r)) / Real.sqrt (var (t r) + eps) * g j + c j := by
  unfold norm
  rw [devs_R, vars_R, col_eps, addf_R2, sqrt_R2 _ fun r _ => (spread (t r)).le, across_R, divf_R2 _ _ fun r _ => (Real.sqrt_pos.2 (spread (t r))).ne', affine_R]
theorem norm'_R : norm' (F := Ideal) (R2 t) (R2 fun _ : Fin 1 => g) (R2 fun _ : Fin 1 => c)
    = R2 fun r j => (t r j - mean (t r)) / Real.sqrt (var (t r) + eps) * g j + c j := by
  unfold norm'
  rw [devs_R, vars'_R, col_eps, addf_R2, rsqrt_R2 _ fun r _ => spread (t r), across_R, mulf_R2, affine_R]
  rfl
theorem join_R : join (F := Ideal) (R2 h) (R2 t) = R2 fun r j => h r j + max (t r j) 0 := by
  unfold join
  rw [b_zero, maximumf_R2, addf_R2]
theorem step_R : step (F := Ideal) (R2 h) (R3 fun _ : Fin 1 => W) (R2 fun _ : Fin 1 => b) (R2 fun _ : Fin 1 => g) (R2 fun _ : Fin 1 => c)
    = R2 fun r => layer W b g c (h r) := by
  unfold step
  rw [mid_R, norm_R, join_R]
  rfl
theorem step'_R : step' (F := Ideal) (R2 h) (R3 fun _ : Fin 1 => W) (R2 fun _ : Fin 1 => b) (R2 fun _ : Fin 1 => g) (R2 fun _ : Fin 1 => c)
    = R2 fun r => layer W b g c (h r) := by
  unfold step'
  rw [mid_R, norm'_R, join_R]
  rfl
end Layer

theorem encIn_R (x : Fin 2048 → Fin 128 → ℝ) (w : Fin 128 → Fin 512 → ℝ) (b : Fin 512 → ℝ) :
    encIn (F := Ideal) (R2 x) (R2 w) (R2 fun _ : Fin 1 => b) = R2 fun r => lin w b (x r) := by
  unfold encIn
  rw [truncf_R2, mm_in, shapeCast_same, along_R, addf_R2]
  rfl
theorem encOut_R (h : Fin 2048 → Fin 512 → ℝ) (w : Fin 512 → Fin 256 → ℝ) (b : Fin 256 → ℝ) :
    encOut (F := Ideal) (R2 h) (R2 w) (R2 fun _ : Fin 1 => b) = R2 fun r => lin w b (h r) := by
  unfold encOut
  rw [truncf_R2, mm_z, shapeCast_same, broadcastTo_row, addf_R2]
  rfl
theorem decIn_R (y : Fin 2048 → Fin 256 → ℝ) (w : Fin 256 → Fin 512 → ℝ) (b : Fin 512 → ℝ) :
    decIn (F := Ideal) (R2 y) (R2 w) (R2 fun _ : Fin 1 => b) = R2 fun r => lin w b (y r) := by
  unfold decIn
  rw [truncf_R2, mm_y, shapeCast_same, along_R, addf_R2]
  rfl
theorem decOut_R (h : Fin 2048 → Fin 512 → ℝ) (w : Fin 512 → Fin 128 → ℝ) (b : Fin 128 → ℝ) :
    decOut (F := Ideal) (R2 h) (R2 w) (R2 fun _ : Fin 1 => b) = R2 fun r => lin w b (h r) := by
  unfold decOut
  rw [truncf_R2, mm_x, shapeCast_same, broadcastTo_row, addf_R2]
  rfl

end Cert.Kern
end
-- ==== Proof.Kern.Quant.lean ====
/- The kernel's quantiser over the reals: the first row of least distance, its indicator, and the sums that follow. -/
module

public import proofs.«01_k».proof.Proof.Kern.Ops

@[expose] public section

set_option maxRecDepth 16384

noncomputable section

namespace Cert.Kern

open Cert.KernelIdeal Cert.KernelIdeal.Gen Idealize.ShloMosaic
open Cert.Up Cert.Spec
open scoped BigOperators

/-! ### Least values and least words -/

/-- The minimum of a row is its value at the first least place. -/
theorem fold_min (d : Fin 1024 → ℝ) : Finset.univ.fold (min : EReal → EReal → EReal) ⊤ (fun l => (d l : EReal)) = (d (first d) : EReal) := by
  refine le_antisymm ((Finset.fold_min_le (b := (⊤ : EReal)) (f := fun l => (d l : EReal)) _).2 (.inr ⟨first d, Finset.mem_univ _, le_rfl⟩)) ((Finset.le_fold_min (b := (⊤ : EReal)) (f := fun l => (d l : EReal)) _).2 ⟨le_top, fun l _ => ?_⟩)
  exact EReal.coe_le_coe_iff.2 (first_le d l)

theorem minsi_le (a b : BitVec 32) : (IntOp.minsi a b).toInt ≤ a.toInt ∧ (IntOp.minsi a b).toInt ≤ b.toInt ∧ (IntOp.minsi a b = a ∨ IntOp.minsi a b = b) := by
  unfold IntOp.minsi
  by_cases h : a.slt b = true
  · rw [if_pos h]
    rw [BitVec.slt_iff_toInt_lt] at h
    exact ⟨le_rfl, h.le, .inl rfl⟩
  · rw [if_neg h]
    rw [BitVec.slt_iff_toInt_lt, not_lt] at h
    exact ⟨h, le_rfl, .inr rfl⟩

/-- A fold of the lesser word is a least word of all. -/
theorem fold_minsi {ι : Type} [DecidableEq ι] (S : Finset ι) (a : BitVec 32) (f : ι → BitVec 32) :
    (∀ i ∈ S, (S.fold IntOp.minsi a f).toInt ≤ (f i).toInt) ∧ (S.fold IntOp.minsi a f = a ∨ ∃ i ∈ S, S.fold IntOp.minsi a f = f i) := by
  induction S using Finset.induction_on with
  | empty => exact ⟨fun i hi => absurd hi (Finset.notMem_empty i), .inl (Finset.fold_empty (op := IntOp.minsi (w := 32)))⟩
  | insert x S hx ih =>
    rw [Finset.fold_insert (op := IntOp.minsi (w := 32)) hx]
    obtain ⟨h₁, h₂, h₃⟩ := minsi_le (f x) (S.fold IntOp.minsi a f)
    refine ⟨fun i hi => ?_, ?_⟩
    · rcases Finset.mem_insert.1 hi with rfl | hi
      · exact h₁
      · exact h₂.trans (ih.1 i hi)
    · rcases h₃ with h₃ | h₃
      · exact .inr ⟨x, Finset.mem_insert_self _ _, h₃⟩
      · rw [h₃]
        rcases ih.2 with h | ⟨i, hi, h⟩
        · exact .inl h
        · exact .inr ⟨i, Finset.mem_insert_of_mem hi, h⟩

theorem toInt_small (l : ℕ) (h : l ≤ 1024) : (BitVec.ofNat 32 l).toInt = (l : ℤ) := by
  rw [BitVec.toInt_eq_toNat_of_lt] <;> simp <;> omega

/-- The least column number among the places of least value is the first. -/
theorem fold_first (d : Fin 1024 → ℝ) :
    Finset.univ.fold IntOp.minsi 2147483647#32 (fun l : Fin 1024 => if d l = d (first d) then BitVec.ofNat 32 l.val else 1024#32)
      = BitVec.ofNat 32 (first d).val := by
  obtain ⟨h₁, h₂⟩ := fold_minsi Finset.univ 2147483647#32 (fun l : Fin 1024 => if d l = d (first d) then BitVec.ofNat 32 l.val else 1024#32)
  generalize Finset.fold IntOp.minsi (2147483647#32) (fun l : Fin 1024 => if d l = d (first d) then BitVec.ofNat 32 l.val else 1024#32) Finset.univ = r at h₁ h₂ ⊢
  have h := h₁ (first d) (Finset.mem_univ _)
  rw [if_pos rfl, toInt_small _ (first d).isLt.le] at h
  have hf := (first d).isLt
  rcases h₂ with rfl | ⟨k, -, rfl⟩
  · exact absurd h (by rw [show (2147483647#32 : BitVec 32).toInt = 2147483647 from rfl]; omega)
  by_cases hk : d k = d (first d)
  · rw [if_pos hk] at h ⊢
    rw [toInt_small _ k.isLt.le] at h
    have : k = first d := by
      rcases lt_or_ge k (first d) with hl | hl
      · exact absurd (first_lt d k hl) (by rw [hk]; exact lt_irrefl _)
      · exact le_antisymm (Fin.le_def.2 (by omega)) hl
    rw [this]
  · rw [if_neg hk, show (1024#32 : BitVec 32).toInt = 1024 from rfl] at h
    omega

theorem cmpi_eq (a b : BitVec 32) : IntOp.cmpi .eq a b = if a = b then 1#1 else 0#1 := by
  show BitVec.ofBool (a == b) = _
  by_cases h : a = b
  · rw [if_pos h, h, beq_self_eq_true]; rfl
  · rw [if_neg h, beq_eq_false_iff_ne.2 h]; rfl

/-! ### The operations -/

theorem wide_apply {α : Type} (v : S2048x1.Idx → α) (r : Fin 2048) (k : Fin 1024) : wide v (ValueIdx.ix2 r k) = v (ValueIdx.ix2 r 0) :=
  broadcastTo_apply _ _ _ (ValueIdx.ix2 r 0) fun ax => by
    match ax with
    | ⟨0, _⟩ => rfl
    | ⟨1, _⟩ => rfl

theorem wide_col {α : Type} (v : S2048.Idx → α) (r : Fin 2048) (k : Fin 1024) :
    wide (shapeCast S2048x1 v shapeCasts_S2048_S2048x1) (ValueIdx.ix2 r k) = v (ValueIdx.ix1 r) :=
  (wide_apply _ r k).trans (ValueIdx.shapeCast_a_a1_apply _ _ r 0)

theorem dists_R (z : Fin 2048 → Fin 64 → ℝ) (cb : Fin 1024 → Fin 64 → ℝ) :
    dists (F := Ideal) (R2 z) (R2 fun (_ : Fin 1) k => ∑ e, cb k e * cb k e) (R2 fun e k => 2 * cb k e) = R2 fun r => dist cb (z r) := by
  have h : wide (shapeCast S2048x1 (multiReduction (F := Ideal) (φ := .f32) .add [1] S2048 (mulf (F := Ideal) (φ := .f32) (R2 z) (R2 z)) 0x00000000#32
      reduces_S2048x64_S2048 (.inl rfl) rfl) shapeCasts_S2048_S2048x1) = R2 fun r _ => ∑ e, z r e * z r e := by
    refine ext2 fun r k => (wide_col _ r k).trans ?_
    rw [mulf_R2]
    exact congrFun (sum1_R2 _ _ _ _ _) _
  unfold dists
  rw [h, broadcastTo_row, addf_R2, truncf_R2, mm_d, subf_R2]
  refine congrArg R2 (funext fun r => funext fun k => ?_)
  show _ - ∑ e, z r e * (2 * cb k e) = _ - 2 * ∑ e, z r e * cb k e
  rw [Finset.mul_sum]
  exact congrArg _ (Finset.sum_congr rfl fun _ _ => by ring)

/-- The minimum over the second axis. -/
theorem min_R (d : Fin 2048 → Fin 1024 → ℝ) (acc : BitVec 32) (h : Shape.Reduces S2048x1024 [1] S2048)
    (hφ : FKind.Formats .f32) (hacc : acc = FKind.minimumf.neutral .f32 hφ) (r : Fin 2048) :
    multiReduction (F := Ideal) (φ := .f32) .minimumf [1] S2048 (R2 d) acc h hφ hacc (ValueIdx.ix1 r)
      = Finset.univ.fold (min : EReal → EReal → EReal) (Ideal.ofBits .f32 acc) (fun l : Fin 1024 => (d r l : EReal)) := by
  rw [multiReduction_minimumf_eq_reduceFold]
  pointwise
  rfl

/-- The least word over the second axis. -/
theorem minI_eq (v : IVec S2048x1024 32) (acc : BitVec 32) (h : Shape.Reduces S2048x1024 [1] S2048) (hacc : acc = IKind.minsi.neutral) (r : Fin 2048) :
    multiReductionI .minsi [1] S2048 v acc h hacc (ValueIdx.ix1 r) = Finset.univ.fold IntOp.minsi acc (fun l : Fin 1024 => v (ValueIdx.ix2 r l)) := by
  rw [multiReductionI_eq_reduceFold]
  pointwise
  rfl

theorem least_R (d : Fin 2048 → Fin 1024 → ℝ) (r : Fin 2048) (k : Fin 1024) :
    least (F := Ideal) (R2 d) (ValueIdx.ix2 r k) = BitVec.ofBool (decide (d r k = d r (first (d r)))) := by
  have h : wide (shapeCast S2048x1 (multiReduction (F := Ideal) (φ := .f32) .minimumf [1] S2048 (R2 d) 0x7F800000#32
      reduces_S2048x1024_S2048 (.inl rfl) rfl) shapeCasts_S2048_S2048x1) (ValueIdx.ix2 r k) = (d r (first (d r)) : EReal) :=
    (wide_col _ r k).trans <| (min_R d _ _ _ _ r).trans <|
      (congrArg (fun a => Finset.univ.fold (min : EReal → EReal → EReal) a (fun l => (d r l : EReal))) w_top).trans (fold_min (d r))
  have e (x y : S2048x1024.Idx → EReal) (i : S2048x1024.Idx) : cmpf (F := Ideal) (φ := .f32) .oeq x y i = BitVec.ofBool (decide (x i = y i)) := rfl
  unfold least
  refine (e _ _ _).trans ?_
  rw [h]
  exact congrArg BitVec.ofBool (decide_eq_decide.2 EReal.coe_eq_coe_iff)

theorem cols_apply (r : Fin 2048) (k : Fin 1024) : cols (ValueIdx.ix2 r k) = BitVec.ofNat 32 k.val := by
  unfold cols
  pointwise

theorem marks_R (d : Fin 2048 → Fin 1024 → ℝ) (r : Fin 2048) (k : Fin 1024) :
    marks (least (F := Ideal) (R2 d)) (ValueIdx.ix2 r k) = if d r k = d r (first (d r)) then BitVec.ofNat 32 k.val else 1024#32 := by
  have e (l : IVec S2048x1024 1) (x y : IVec S2048x1024 32) (i : S2048x1024.Idx) : select l x y i = Scalar.select (l i) (x i) (y i) := rfl
  unfold marks
  refine (e _ _ _ _).trans ?_
  rw [least_R, cols_apply]
  by_cases h : d r k = d r (first (d r))
  · rw [if_pos h, decide_eq_true h]; rfl
  · rw [if_neg h, decide_eq_false h]; rfl

theorem hot_R (d : Fin 2048 → Fin 1024 → ℝ) : hot (F := Ideal) (least (F := Ideal) (R2 d)) = R2 fun r k => if first (d r) = k then 1 else 0 := by
  refine ext2 fun r k => ?_
  have h : wide (shapeCast S2048x1 (multiReductionI .minsi [1] S2048 (marks (least (F := Ideal) (R2 d))) 2147483647#32 reduces_S2048x1024_S2048 rfl)
      shapeCasts_S2048_S2048x1) (ValueIdx.ix2 r k) = BitVec.ofNat 32 (first (d r)).val :=
    (wide_col _ r k).trans <| (minI_eq _ _ _ _ r).trans <|
      (congrArg (fun f => Finset.univ.fold IntOp.minsi 2147483647#32 f) (funext fun l => marks_R d r l)).trans (fold_first (d r))
  have e (x y : IVec S2048x1024 32) (i : S2048x1024.Idx) : sitofp (F := Ideal) .f32 (extui 32 (cmpi .eq x y) natLt_1_32) i
      = ((((IntOp.cmpi .eq (x i) (y i) : BitVec 1).setWidth 32).toInt : ℝ) : EReal) := rfl
  unfold hot
  refine (e _ _ _).trans ?_
  rw [h, cols_apply, cmpi_eq]
  show _ = (((if first (d r) = k then (1 : ℝ) else 0) : ℝ) : EReal)
  have hb : BitVec.ofNat 32 k.val = BitVec.ofNat 32 (first (d r)).val ↔ first (d r) = k := by
    constructor
    · intro h
      have h' := congrArg BitVec.toNat h
      simp only [BitVec.toNat_ofNat] at h'
      exact Fin.ext (by omega)
    · rintro rfl; rfl
  by_cases h : first (d r) = k
  · rw [if_pos h, if_pos (hb.2 h)]; simp
  · rw [if_neg h, if_neg (mt hb.1 h)]; simp

section Pick
variable (z : Fin 2048 → Fin 64 → ℝ) (cb : Fin 1024 → Fin 64 → ℝ)

theorem pick_R : pick (F := Ideal) (R2 z) (R2 fun (_ : Fin 1) k => ∑ e, cb k e * cb k e) (R2 fun e k => 2 * cb k e) = R2 fun r => chosen cb (z r) := by
  unfold pick
  rw [shapeCast_same, dists_R, hot_R]
  rfl

theorem rows_R : rows (F := Ideal) (R2 fun r => chosen cb (z r)) (R2 cb) = R2 fun r => cb (near cb (z r)) := by
  unfold rows
  rw [truncf_R2, mm_p]
  refine congrArg R2 (funext fun r => funext fun e => ?_)
  show ∑ i, (if near cb (z r) = i then (1 : ℝ) else 0) * cb i e = _
  simp only [ite_mul, one_mul, zero_mul]
  rw [Finset.sum_ite_eq, if_pos (Finset.mem_univ _)]

theorem tally_R (o : Fin 2048 → Fin 1024 → ℝ) : tally (F := Ideal) (R2 o) = R2 fun _ k => ∑ r, o r k :=
  (congrArg (fun v => shapeCast S1x1024 v shapeCasts_S1024_S1x1024) (sum0_R2 o _ _ _ _)).trans (shapeCast_row _ _)

theorem gap_R (p : Fin 2048 → Fin 64 → ℝ) : gap (F := Ideal) (R2 p) (R2 z) = ((∑ r, ∑ e, (p r e - z r e) * (p r e - z r e) : ℝ) : EReal) := by
  unfold gap
  rw [subf_R2, mulf_R2]
  rw [extractAt_eq]
  refine (shapeCast_apply _ _ _ (ix1 (0 : Fin 1)) rfl).trans ?_
  pointwise
  show ∑ r : Fin 2048, ∑ e : Fin 64, (((p r e - z r e) * (p r e - z r e) : ℝ) : EReal) = _
  simp only [coe_sum]
end Pick

section Parts
variable (y : Fin 2048 → Fin 256 → ℝ)
theorem part0_R : part0 (F := Ideal) (R2 y) = R2 fun r => grp (y r) 0 := slice_cols 0 y _ (fun e => ⟨64 * 0 + e.val, by omega⟩) fun e => by simp
theorem part1_R : part1 (F := Ideal) (R2 y) = R2 fun r => grp (y r) 1 := slice_cols 64 y _ (fun e => ⟨64 * 1 + e.val, by omega⟩) fun e => by simp
theorem part2_R : part2 (F := Ideal) (R2 y) = R2 fun r => grp (y r) 2 := slice_cols 128 y _ (fun e => ⟨64 * 2 + e.val, by omega⟩) fun e => by simp
theorem part3_R : part3 (F := Ideal) (R2 y) = R2 fun r => grp (y r) 3 := slice_cols 192 y _ (fun e => ⟨64 * 3 + e.val, by omega⟩) fun e => by simp
end Parts

end Cert.Kern
end
-- ==== Proof.Kern.Tile.lean ====
/- What one grid point computes of its tile, from the blocks it reads: the kernel's own values, and the same as layers and a quantiser. -/
module

public import proofs.«01_k».proof.Proof.Kern.Quant

@[expose] public section

set_option maxRecDepth 16384

noncomputable section

namespace Cert.Kern

open Cert.KernelIdeal Cert.KernelIdeal.Gen Idealize.ShloMosaic
open Cert.Up Cert.Spec
open scoped BigOperators

/-- Row `j` of a stack of four rows. -/
def row {α : Type} (j : Fin 4) (x : S4x512.Idx → α) : S1x512.Idx → α := fun y => x (ix2 j (y 1))
/-- Matrix `j` of a stack of four matrices. -/
def sheet {α : Type} (j : Fin 4) (x : S4x512x512.Idx → α) : S1x512x512.Idx → α := fun y => x (ix3 j (y 1) (y 2))

section Values
variable {F : FTy → Type} [FloatOps F]

/-! ### The encoder -/

section Enc
variable (x : FVec F S2048x128 .f32) (wi : FVec F S128x512 .bf16) (bi : FVec F S1x512 .f32) (wr : FVec F S4x512x512 .bf16)
  (br gr cr : FVec F S4x512 .f32) (wo : FVec F S512x256 .bf16) (bo : FVec F S1x256 .f32)

/-- The rows after the first residual layer. -/
def e1 : FVec F S2048x512 .f32 :=
  k0_pay21 (k0_pay15 x wi bi) (row 0 gr) (row 0 cr) (k0_pay18 x wi bi (sheet 0 wr) (row 0 br)) (k0_pay19 x wi bi (sheet 0 wr) (row 0 br)) k0_pay20
/-- The normalised dense part of the second. -/
def e2 : FVec F S2048x512 .f32 :=
  k0_pay22 (k0_pay15 x wi bi) (row 0 gr) (row 0 cr) (k0_pay18 x wi bi (sheet 0 wr) (row 0 br)) (k0_pay19 x wi bi (sheet 0 wr) (row 0 br)) k0_pay20
    (sheet 1 wr) (row 1 br) (row 1 gr) (row 1 cr)
/-- The rows after the third. -/
def e3 : FVec F S2048x512 .f32 := k0_pay24 (e1 x wi bi wr br gr cr) (e2 x wi bi wr br gr cr) k0_pay23 (sheet 2 wr) (row 2 br) (row 2 gr) (row 2 cr)
/-- The product of the fourth. -/
def e4 : FVec F S2048x512 .f32 := k0_pay25 (e1 x wi bi wr br gr cr) (e2 x wi bi wr br gr cr) k0_pay23 (sheet 2 wr) (row 2 br) (row 2 gr) (row 2 cr) (sheet 3 wr)
/-- The encoded rows. -/
def enc : FVec F S2048x256 .f32 := k0_pay26 (e3 x wi bi wr br gr cr) (e4 x wi bi wr br gr cr) (row 3 br) (row 3 gr) (row 3 cr) wo bo

theorem enc_eq : enc x wi bi wr br gr cr wo bo
    = encOut (step (step (step (step (encIn x wi bi) (sheet 0 wr) (row 0 br) (row 0 gr) (row 0 cr)) (sheet 1 wr) (row 1 br) (row 1 gr) (row 1 cr))
        (sheet 2 wr) (row 2 br) (row 2 gr) (row 2 cr)) (sheet 3 wr) (row 3 br) (row 3 gr) (row 3 cr)) wo bo := rfl
end Enc

/-! ### The quantiser -/

section Quantiser
variable (z : FVec F S2048x256 .f32) (n : FVec F S1x1024 .f32) (c : FVec F S1024x64 .bf16) (w : FVec F S64x1024 .bf16)

/-- The chosen rows of the four groups. -/
def p0 : FVec F S2048x64 .f32 := k0_pay30 z (k0_pay27 n) cols w c
@[inherit_doc p0] def p1 : FVec F S2048x64 .f32 := k0_pay37 (k0_pay27 n) cols (k0_pay34 z) w (k0_pay35 z) (constant S2048x1024 .f32 0x00000000#32) c
@[inherit_doc p0] def p2 : FVec F S2048x64 .f32 := k0_pay44 cols (k0_pay41 z (k0_pay27 n) w) k0_pay42 c
/-- The indicators of the last group. -/
def o3 : FVec F S2048x1024 .bf16 := k0_pay49 z (k0_pay27 n) cols w
/-- The quantised rows. -/
def yt : FVec F S2048x256 .f32 := k0_pay51 (p0 z n c w) (p1 z n c w) (p2 z n c w) (o3 z n w) c
/-- The counts, added to `a`. -/
def ct (a : FVec F S8x1024 .f32) : FVec F S8x1024 .f32 :=
  k0_pay52 (k0_pay45 cols (k0_pay38 (k0_pay27 n) cols (k0_pay31 z (k0_pay27 n) cols (Scalar.ofBits .f32 0x00000000#32) w) (k0_pay34 z) w (k0_pay35 z)
      (constant S2048x1024 .f32 0x00000000#32)) (k0_pay41 z (k0_pay27 n) w) k0_pay42)
    (k0_pay48 z (k0_pay27 n) cols w) a
/-- The squared distances, added to `a`. -/
def st (a : FVec F S8x128 .f32) : FVec F S8x128 .f32 :=
  k0_pay53 (k0_pay46 cols (k0_pay39 (k0_pay27 n) cols (k0_pay32 z (k0_pay27 n) cols w c) (k0_pay33 z) (k0_pay34 z) w (k0_pay35 z)
      (constant S2048x1024 .f32 0x00000000#32) c) (k0_pay40 z) (k0_pay41 z (k0_pay27 n) w) k0_pay42 c)
    (k0_pay47 z) (o3 z n w) c a

theorem yt_eq : yt z n c w = concatenate S2048x256 1 [⟨S2048x64, rows (pick (part0 z) n w) c⟩, ⟨S2048x64, rows (pick (part1 z) n w) c⟩,
    ⟨S2048x64, rows (pick (part2 z) n w) c⟩, ⟨S2048x64, rows (pick (part3 z) n w) c⟩] concatenates_S2048x64_S2048x64_S2048x64_S2048x64_S2048x256_d1 := rfl

theorem ct_eq (a : FVec F S8x1024 .f32) : ct z n w a
    = shapeCast S8x1024 (addf a (broadcastTo S8x1024 (shapeCast S1x1024 (addf (addf (addf (addf (broadcast S1x1024 (Scalar.ofBits .f32 0x00000000#32))
        (tally (pick (part0 z) n w))) (tally (pick (part1 z) n w))) (tally (pick (part2 z) n w))) (tally (pick (part3 z) n w)))
          shapeCasts_S1x1024_S1x1024) broadcasts_S1x1024_S8x1024)) shapeCasts_S8x1024_S8x1024 := rfl

theorem st_eq (a : FVec F S8x128 .f32) : st z n c w a
    = shapeCast S8x128 (addf a (broadcastTo S8x128 (shapeCast S1x1 (broadcast S1x1 (Scalar.addf (Scalar.addf (Scalar.addf (Scalar.addf
        (Scalar.ofBits .f32 0x00000000#32) (gap (rows (pick (part0 z) n w) c) (part0 z))) (gap (rows (pick (part1 z) n w) c) (part1 z)))
          (gap (rows (pick (part2 z) n w) c) (part2 z))) (gap (rows (pick (part3 z) n w) c) (part3 z))))
            shapeCasts_S1x1_S1x1) broadcasts_S1x1_S8x128)) shapeCasts_S8x128_S8x128 := rfl
end Quantiser

/-! ### The decoder -/

section Dec
variable (z : FVec F S2048x256 .f32) (n : FVec F S1x1024 .f32) (c : FVec F S1024x64 .bf16) (w : FVec F S64x1024 .bf16)
  (wi : FVec F S256x512 .bf16) (bi : FVec F S1x512 .f32) (wr : FVec F S4x512x512 .bf16)
  (br gr cr : FVec F S4x512 .f32) (wo : FVec F S512x128 .bf16) (bo : FVec F S1x128 .f32)

/-- The rows after the first layer. -/
def d0 : FVec F S2048x512 .f32 := k0_pay54 (p0 z n c w) (p1 z n c w) (p2 z n c w) (o3 z n w) c wi bi
/-- The rows after the first residual layer. -/
def d1 : FVec F S2048x512 .f32 := k0_pay55 (d0 z n c w wi bi) (sheet 0 wr) (row 0 br) (row 0 gr) (row 0 cr)
/-- The dense part of the second. -/
def d2 : FVec F S2048x512 .f32 := k0_pay56 (d0 z n c w wi bi) (sheet 0 wr) (row 0 br) (row 0 gr) (row 0 cr) (sheet 1 wr) (row 1 br)
/-- The rows after the second. -/
def d3 : FVec F S2048x512 .f32 := k0_pay57 (d1 z n c w wi bi wr br gr cr) (d2 z n c w wi bi wr br gr cr) (row 1 gr) (row 1 cr)
/-- The dense part of the third, its means and the sums of its squares. -/
def d4 : FVec F S2048x512 .f32 := k0_pay58 (d1 z n c w wi bi wr br gr cr) (d2 z n c w wi bi wr br gr cr) (row 1 gr) (row 1 cr) (sheet 2 wr) (row 2 br)
@[inherit_doc d4] def d5 : FVec F S2048x1 .f32 := k0_pay59 (d1 z n c w wi bi wr br gr cr) (d2 z n c w wi bi wr br gr cr) (row 1 gr) (row 1 cr) (sheet 2 wr) (row 2 br)
@[inherit_doc d4] def d6 : FVec F S2048x1 .f32 := k0_pay60 (d1 z n c w wi bi wr br gr cr) (d2 z n c w wi bi wr br gr cr) (row 1 gr) (row 1 cr) (sheet 2 wr) (row 2 br)
/-- The rows after the third. -/
def d7 : FVec F S2048x512 .f32 := k0_pay61 (d3 z n c w wi bi wr br gr cr) (d4 z n c w wi bi wr br gr cr) (d5 z n c w wi bi wr br gr cr) (d6 z n c w wi bi wr br gr cr)
  (Scalar.ofBits .f32 0x44000000#32) (row 2 gr) (row 2 cr)
/-- The deviations of the fourth's dense part, and the reciprocals of their spread. -/
def d8 : FVec F S2048x512 .f32 := k0_pay64 (d3 z n c w wi bi wr br gr cr) (d4 z n c w wi bi wr br gr cr) (d5 z n c w wi bi wr br gr cr) (d6 z n c w wi bi wr br gr cr)
  (Scalar.ofBits .f32 0x44000000#32) (row 2 gr) (row 2 cr) (sheet 3 wr) (row 3 br)
@[inherit_doc d8] def d9 : FVec F S2048x1 .f32 := k0_pay65 (d3 z n c w wi bi wr br gr cr) (d4 z n c w wi bi wr br gr cr) (d5 z n c w wi bi wr br gr cr) (d6 z n c w wi bi wr br gr cr)
  (Scalar.ofBits .f32 0x44000000#32) (row 2 gr) (row 2 cr) (sheet 3 wr) (row 3 br)
/-- The decoded rows. -/
def xt : FVec F S2048x128 .f32 := k0_pay1 (d7 z n c w wi bi wr br gr cr) (d8 z n c w wi bi wr br gr cr) (d9 z n c w wi bi wr br gr cr) (row 3 gr) (row 3 cr) wo bo

theorem xt_eq : xt z n c w wi bi wr br gr cr wo bo
    = decOut (step' (step' (step' (step' (decIn (yt z n c w) wi bi) (sheet 0 wr) (row 0 br) (row 0 gr) (row 0 cr)) (sheet 1 wr) (row 1 br) (row 1 gr) (row 1 cr))
        (sheet 2 wr) (row 2 br) (row 2 gr) (row 2 cr)) (sheet 3 wr) (row 3 br) (row 3 gr) (row 3 cr)) wo bo := rfl
end Dec

end Values

/-! ### Over the reals -/

theorem row_R (j : Fin 4) (f : Fin 4 → Fin 512 → ℝ) : row j (R2 f) = R2 fun _ : Fin 1 => f j := rfl
theorem sheet_R (j : Fin 4) (f : Fin 4 → Fin 512 → Fin 512 → ℝ) : sheet j (R3 f) = R3 fun _ : Fin 1 => f j := rfl

theorem enc_R (x : Fin 2048 → Fin 128 → ℝ) (E : Net 128 256) :
    enc (F := Ideal) (R2 x) (R2 E.wi) (R2 fun _ : Fin 1 => E.bi) (R3 E.wr) (R2 E.br) (R2 E.gr) (R2 E.cr) (R2 E.wo) (R2 fun _ : Fin 1 => E.bo)
      = R2 fun r => E.run (x r) := by
  rw [enc_eq]
  simp only [row_R, sheet_R]
  rw [encIn_R, step_R, step_R, step_R, step_R, encOut_R]
  rfl

section Quantiser
variable (y : Fin 2048 → Fin 256 → ℝ) (cb : Fin 1024 → Fin 64 → ℝ)

/-- The squared lengths of the rows of the code book, as one row. -/
def lens : Fin 1 → Fin 1024 → ℝ := fun _ k => ∑ e, cb k e * cb k e
/-- The transpose of twice the code book. -/
def twice : Fin 64 → Fin 1024 → ℝ := fun e k => 2 * cb k e

theorem chosen_R (z : Fin 2048 → Fin 64 → ℝ) : rows (F := Ideal) (pick (R2 z) (R2 (lens cb)) (R2 (twice cb))) (R2 cb) = R2 fun r => cb (near cb (z r)) := by
  rw [show pick (F := Ideal) (R2 z) (R2 (lens cb)) (R2 (twice cb)) = _ from pick_R z cb, rows_R]

theorem yt_R : yt (F := Ideal) (R2 y) (R2 (lens cb)) (R2 cb) (R2 (twice cb)) = R2 fun r => quant cb (y r) := by
  rw [yt_eq, part0_R, part1_R, part2_R, part3_R, chosen_R, chosen_R, chosen_R, chosen_R]
  refine ext2 fun r k => ?_
  have hk := k.isLt
  have e (L : List ((s : Shape) × (s.Idx → EReal)))
      (hL : L = List.ofFn fun g : Fin 4 => (⟨S2048x64, R2 fun r => cb (near cb (grp (y r) g))⟩ : (s : Shape) × (s.Idx → EReal)))
      (h : Shape.Concatenates (L.map (·.1)) S2048x256 (1 : Fin 2)) :
      concatenate S2048x256 (1 : Fin 2) L h (ValueIdx.ix2 r k) = ((quant cb (y r) k : ℝ) : EReal) := by
    subst hL
    exact concatenate_ofFn_apply (t := S2048x256) (s₁ := S2048x64) (1 : Fin 2) (N := 4)
      (fun g : Fin 4 => (R2 fun r => cb (near cb (grp (y r) g)) : S2048x64.Idx → EReal)) h rfl 64 rfl (ValueIdx.ix2 r k) ⟨k.val / 64, by omega⟩ rfl
      (ix2 r (⟨k.val % 64, by omega⟩ : Fin 64)) rfl fun b hb => by
        match b with
        | ⟨0, _⟩ => rfl
        | ⟨1, _⟩ => exact absurd rfl hb
  exact e _ (by simp [List.ofFn_succ]) _

/-- The counts of a tile. -/
def tileCount : Fin 1024 → ℝ := fun k => ∑ r, ∑ g : Fin 4, chosen cb (grp (y r) g) k
/-- The squared distances of a tile. -/
def tileMoved : ℝ := ∑ r, ∑ g : Fin 4, moved cb (grp (y r) g)

theorem ct_R (a : Fin 8 → Fin 1024 → ℝ) : ct (F := Ideal) (R2 y) (R2 (lens cb)) (R2 (twice cb)) (R2 a) = R2 fun i k => a i k + tileCount y cb k := by
  have h (z : Fin 2048 → Fin 64 → ℝ) : tally (F := Ideal) (pick (R2 z) (R2 (lens cb)) (R2 (twice cb))) = R2 fun _ k => ∑ r, chosen cb (z r) k := by
    rw [show pick (F := Ideal) (R2 z) (R2 (lens cb)) (R2 (twice cb)) = _ from pick_R z cb, tally_R]
  rw [ct_eq, part0_R, part1_R, part2_R, part3_R, h, h, h, h, b_zero, addf_R2, addf_R2, addf_R2, addf_R2, shapeCast_same, broadcastTo_row, addf_R2, shapeCast_same]
  refine congrArg R2 (funext fun i => funext fun k => congrArg (a i k + ·) ?_)
  unfold tileCount
  rw [Finset.sum_comm, Fin.sum_univ_four, zero_add]

theorem st_R (a : ℝ) : st (F := Ideal) (R2 y) (R2 (lens cb)) (R2 cb) (R2 (twice cb)) (R2 fun _ _ => a) = R2 fun _ _ => a + tileMoved y cb := by
  rw [st_eq, part0_R, part1_R, part2_R, part3_R, chosen_R, chosen_R, chosen_R, chosen_R, gap_R, gap_R, gap_R, gap_R]
  rw [show ∀ v : EReal, broadcastTo S8x128 (shapeCast S1x1 (broadcast S1x1 v) shapeCasts_S1x1_S1x1) broadcasts_S1x1_S8x128 = fun _ => v from fun v => rfl]
  have e (p q r s : ℝ) : Scalar.addf (F := Ideal) (φ := .f32) (Scalar.addf (F := Ideal) (φ := .f32) (Scalar.addf (F := Ideal) (φ := .f32) (Scalar.addf (F := Ideal) (φ := .f32)
      (Scalar.ofBits .f32 0x00000000#32) (p : EReal)) (q : EReal)) (r : EReal)) (s : EReal) = ((p + q + r + s : ℝ) : EReal) := by
    show Ideal.ofBits .f32 0x00000000#32 + (p : EReal) + q + r + s = _
    rw [w_zero, ← EReal.coe_add, ← EReal.coe_add, ← EReal.coe_add, ← EReal.coe_add, zero_add]
  rw [e]
  refine (congrArg (fun v => shapeCast S8x128 v shapeCasts_S8x128_S8x128) (addf_R2 (fun _ _ => a) (fun _ _ => _))).trans ((shapeCast_same _ _).trans ?_)
  refine congrArg R2 (funext fun _ => funext fun _ => congrArg (a + ·) ?_)
  unfold tileMoved
  simp only [Fin.sum_univ_four, Finset.sum_add_distrib]
  rfl

theorem xt_R (D : Net 256 128) :
    xt (F := Ideal) (R2 y) (R2 (lens cb)) (R2 cb) (R2 (twice cb)) (R2 D.wi) (R2 fun _ : Fin 1 => D.bi) (R3 D.wr) (R2 D.br) (R2 D.gr) (R2 D.cr) (R2 D.wo)
      (R2 fun _ : Fin 1 => D.bo) = R2 fun r => D.run (quant cb (y r)) := by
  rw [xt_eq, yt_R]
  simp only [row_R, sheet_R]
  rw [decIn_R, step'_R, step'_R, step'_R, step'_R, decOut_R]
  rfl
end Quantiser

/-! ### The two numbers at the end -/

theorem loss_R (s : ℝ) : k0_pay2 (F := Ideal) (R2 fun _ _ => s) = R2 fun _ _ => lossOf s := by
  simp only [k0_pay2]
  rw [extractAt_eq]
  have e : Scalar.addf (F := Ideal) (φ := .f32) (Scalar.divf (F := Ideal) (φ := .f32) (s : EReal) (Scalar.ofBits .f32 0x4A000000#32))
      (Scalar.mulf (F := Ideal) (φ := .f32) (Scalar.ofBits .f32 0x3E800000#32) (Scalar.divf (F := Ideal) (φ := .f32) (s : EReal) (Scalar.ofBits .f32 0x4A000000#32)))
      = (lossOf s : EReal) := by
    show Ideal.div (s : EReal) (Ideal.ofBits .f32 0x4A000000#32) + Ideal.ofBits .f32 0x3E800000#32 * Ideal.div (s : EReal) (Ideal.ofBits .f32 0x4A000000#32) = _
    rw [w_all, w_quarter, coe_div _ _ (by norm_num), ← EReal.coe_mul, ← EReal.coe_add]
    rfl
  exact funext fun _ => e

theorem perp_R (c : Fin 1 → Fin 1024 → ℝ) (hc : ∀ i k, 0 ≤ c i k) : k0_pay3 (F := Ideal) (R2 c) = R2 fun _ _ => perpOf (c 0) := by
  simp only [k0_pay3]
  rw [b_rows, divf_R2 _ _ fun _ _ => by norm_num, b_tiny, addf_R2, log_R2 _ fun i k => add_pos_of_nonneg_of_pos (div_nonneg (hc i k) (by norm_num)) tiny_pos,
    mulf_R2, extractAt_eq]
  have e (f : Fin 1 → Fin 1024 → ℝ) : shapeCast S1x1x1 (multiReduction (F := Ideal) (φ := .f32) .add [1, 2] S1 (shapeCast S1x1x1024 (R2 f) shapeCasts_S1x1024_S1x1x1024)
      0x00000000#32 reduces_S1x1x1024_S1 (.inl rfl) rfl) shapeCasts_S1_S1x1x1 (fun a => ⟨(![0, 0, 0] : Fin 3 → ℕ) a, inpos_S1x1x1_p0_0_0 a⟩) = ((∑ k, f 0 k : ℝ) : EReal) := by
    refine (shapeCast_apply _ _ _ (ix1 (0 : Fin 1)) rfl).trans ?_
    pointwise
    show ∑ r : Fin 1, ∑ e : Fin 1024, ((f 0 e : ℝ) : EReal) = _
    simp only [coe_sum]
    simp
  have e' (v : ℝ) : Scalar.exp (F := Ideal) (φ := .f32) (Scalar.subf (F := Ideal) (φ := .f32) (Scalar.ofBits .f32 0x00000000#32) (v : EReal)) = ((Real.exp (-v) : ℝ) : EReal) := by
    show Ideal.exp (Ideal.ofBits .f32 0x00000000#32 - (v : EReal)) = _
    rw [w_zero, ← EReal.coe_sub, coe_exp, zero_sub]
  refine funext fun _ => ?_
  exact (congrArg (fun v : EReal => Scalar.exp (F := Ideal) (φ := .f32) (Scalar.subf (F := Ideal) (φ := .f32) (Scalar.ofBits .f32 0x00000000#32) v)) (e _)).trans (e' _)

end Cert.Kern
end
-- ==== Proof.Kern.Reads.lean ====
/- Loads of a whole buffer, of a row of a stack, and of a matrix of a stack. -/
module

public import proofs.«01_k».proof.Proof.Kern.Tile
public import Idealize.ShloMosaic.Lib.VecWindow

@[expose] public section

set_option maxRecDepth 16384

noncomputable section

namespace Cert.Kern

open Cert.KernelIdeal Cert.KernelIdeal.Gen Idealize.ShloMosaic

variable {F : FTy → Type} [FloatOps F]

section Any
variable {S : Shape} {e : EltTy} (a : Memref sig .tc .vmem S e) (h : a.IsWhole) (x : S.Idx → Elt F e)

theorem read_at (r : LoadRect S) : a.view.readAt (Elt F) r (h.unread x) = fun y => x (r.idx y) := by
  funext y
  show a.view.read (Elt F) (h.unread x) (r.idx y) = _
  rw [h.read_unread]

theorem read_cov {off : Fin S.rank → ℕ} (inb : ∀ b, off b + S.size b ≤ S.size b) (w : S.Idx → Elt F e) (L : List (View.Piece (Elt F) S e)) (r : LoadRect S) :
    a.view.readCov (⟨Rect.unit off S.size inb, w⟩ :: L) r = fun y => w (r.idx y) := by
  funext y
  exact congrFun (View.read_writes_full a.view a.view.junk inb w L) (r.idx y)

theorem idx_whole {off : Fin S.rank → ℕ} (inb : ∀ b, off b + S.size b ≤ S.size b) (y : S.Idx) : (Rect.unit off S.size inb).toLoadRect.idx y = y :=
  Rect.emb_unit_full inb y

theorem read_whole {off : Fin S.rank → ℕ} (inb : ∀ b, off b + S.size b ≤ S.size b) :
    a.view.readAt (Elt F) (Rect.unit off S.size inb).toLoadRect (h.unread x) = x := by
  rw [read_at]
  exact funext fun y => congrArg x (idx_whole inb y)

theorem cov_whole {off off' : Fin S.rank → ℕ} (inb : ∀ b, off b + S.size b ≤ S.size b) (inb' : ∀ b, off' b + S.size b ≤ S.size b) (w : S.Idx → Elt F e)
    (L : List (View.Piece (Elt F) S e)) : a.view.readCov (⟨Rect.unit off S.size inb, w⟩ :: L) (Rect.unit off' S.size inb').toLoadRect = w := by
  rw [read_cov]
  exact funext fun y => congrArg w (idx_whole inb' y)
end Any

theorem idx_row {α : Type} (x : S4x512.Idx → α) (j : ℕ) (inb : ∀ b, (![j, 0] : Fin 2 → ℕ) b + S1x512.size b ≤ S4x512.size b) :
    (fun y : S1x512.Idx => x ((Rect.unit (s := S4x512) ![j, 0] S1x512.size inb).toLoadRect.idx y)) = row ⟨j, inb 0⟩ x := by
  funext y
  refine congrArg x (funext fun b => Fin.ext ?_)
  match b with
  | ⟨0, _⟩ =>
    have hy : (y 0).val = 0 := by have := (y 0).isLt; change (y 0).val < 1 at this; omega
    show j + 1 * (y 0).val = j
    omega
  | ⟨1, _⟩ =>
    show 0 + 1 * (y 1).val = (y 1).val
    omega

theorem idx_sheet {α : Type} (x : S4x512x512.Idx → α) (j : ℕ) (inb : ∀ b, (![j, 0, 0] : Fin 3 → ℕ) b + S1x512x512.size b ≤ S4x512x512.size b) :
    (fun y : S1x512x512.Idx => x ((Rect.unit (s := S4x512x512) ![j, 0, 0] S1x512x512.size inb).toLoadRect.idx y)) = sheet ⟨j, inb 0⟩ x := by
  funext y
  refine congrArg x (funext fun b => Fin.ext ?_)
  match b with
  | ⟨0, _⟩ =>
    have hy : (y 0).val = 0 := by have := (y 0).isLt; change (y 0).val < 1 at this; omega
    show j + 1 * (y 0).val = j
    omega
  | ⟨1, _⟩ =>
    show 0 + 1 * (y 1).val = (y 1).val
    omega
  | ⟨2, _⟩ =>
    show 0 + 1 * (y 2).val = (y 2).val
    omega

theorem read_row (a : Memref sig .tc .vmem S4x512 .f32) (h : a.IsWhole) (x : Vec F S4x512 .f32) (j : ℕ)
    (inb : ∀ b, (![j, 0] : Fin 2 → ℕ) b + S1x512.size b ≤ S4x512.size b) :
    a.view.readAt (Elt F) (Rect.unit (s := S4x512) ![j, 0] S1x512.size inb).toLoadRect (h.unread x) = row ⟨j, inb 0⟩ x :=
  (read_at a h x _).trans (idx_row x j inb)
theorem read_sheet (a : Memref sig .tc .vmem S4x512x512 .bf16) (h : a.IsWhole) (x : Vec F S4x512x512 .bf16) (j : ℕ)
    (inb : ∀ b, (![j, 0, 0] : Fin 3 → ℕ) b + S1x512x512.size b ≤ S4x512x512.size b) :
    a.view.readAt (Elt F) (Rect.unit (s := S4x512x512) ![j, 0, 0] S1x512x512.size inb).toLoadRect (h.unread x) = sheet ⟨j, inb 0⟩ x :=
  (read_at a h x _).trans (idx_sheet x j inb)
theorem cov_sheet (a : Memref sig .tc .vmem S4x512x512 .bf16) (w : Vec F S4x512x512 .bf16) {off : Fin S4x512x512.rank → ℕ}
    (inb' : ∀ b, off b + S4x512x512.size b ≤ S4x512x512.size b) (L : List (View.Piece (Elt F) S4x512x512 .bf16)) (j : ℕ)
    (inb : ∀ b, (![j, 0, 0] : Fin 3 → ℕ) b + S1x512x512.size b ≤ S4x512x512.size b) :
    a.view.readCov (⟨Rect.unit off S4x512x512.size inb', w⟩ :: L) (Rect.unit (s := S4x512x512) ![j, 0, 0] S1x512x512.size inb).toLoadRect = sheet ⟨j, inb 0⟩ w :=
  (read_cov a inb' w L _).trans (idx_sheet w j inb)

end Cert.Kern
end
-- ==== Proof.Kern.PointA.lean ====
/- What the first point stores, as functions of what it reads. -/
module

public import proofs.«01_k».proof.Proof.Kern.Reads
public import proofs.«01_k».proof.Proof.Body.Held

@[expose] public section

set_option maxRecDepth 16384

noncomputable section

namespace Cert.Kern

open Cert.KernelIdeal Cert.KernelIdeal.Gen Cert.KernelIdeal.Body Idealize.ShloMosaic Idealize.ShloMosaic.TcCoe

variable {F : FTy → Type} [FloatOps F]
variable {c : Dev nD} {i : grid0.Coords}
  {arg1 : Memref sig .tc .vmem S2048x128 .f32} {harg1 : arg1.IsWhole} {arg2 : Memref sig .tc .vmem S128x512 .f32} {harg2 : arg2.IsWhole} {arg3 : Memref sig .tc .vmem S1x512 .f32} {harg3 : arg3.IsWhole}
  {arg4 : Memref sig .tc .vmem S4x512x512 .f32} {harg4 : arg4.IsWhole} {arg5 : Memref sig .tc .vmem S4x512 .f32} {harg5 : arg5.IsWhole} {arg6 : Memref sig .tc .vmem S4x512 .f32} {harg6 : arg6.IsWhole}
  {arg7 : Memref sig .tc .vmem S4x512 .f32} {harg7 : arg7.IsWhole} {arg8 : Memref sig .tc .vmem S512x256 .f32} {harg8 : arg8.IsWhole} {arg9 : Memref sig .tc .vmem S1x256 .f32} {harg9 : arg9.IsWhole}
  {arg10 : Memref sig .tc .vmem S256x512 .f32} {harg10 : arg10.IsWhole} {arg11 : Memref sig .tc .vmem S1x512 .f32} {harg11 : arg11.IsWhole} {arg12 : Memref sig .tc .vmem S4x512x512 .f32} {harg12 : arg12.IsWhole}
  {arg13 : Memref sig .tc .vmem S4x512 .f32} {harg13 : arg13.IsWhole} {arg14 : Memref sig .tc .vmem S4x512 .f32} {harg14 : arg14.IsWhole} {arg15 : Memref sig .tc .vmem S4x512 .f32} {harg15 : arg15.IsWhole}
  {arg16 : Memref sig .tc .vmem S512x128 .f32} {harg16 : arg16.IsWhole} {arg17 : Memref sig .tc .vmem S1x128 .f32} {harg17 : arg17.IsWhole} {arg18 : Memref sig .tc .vmem S1024x64 .f32} {harg18 : arg18.IsWhole}
  {arg19 : Memref sig .tc .vmem S64x1024 .f32} {harg19 : arg19.IsWhole} {arg20 : Memref sig .tc .vmem S1x1024 .f32} {harg20 : arg20.IsWhole} {arg21 : Memref sig .tc .vmem S2048x256 .f32} {harg21 : arg21.IsWhole}
  {arg22 : Memref sig .tc .vmem S2048x128 .f32} {harg22 : arg22.IsWhole} {arg23 : Memref sig .tc .vmem S8x128 .f32} {harg23 : arg23.IsWhole} {arg24 : Memref sig .tc .vmem S8x128 .f32} {harg24 : arg24.IsWhole}
  {arg25 : Memref sig .tc .vmem S128x512 .bf16} {harg25 : arg25.IsWhole} {arg26 : Memref sig .tc .vmem S4x512x512 .bf16} {harg26 : arg26.IsWhole} {arg27 : Memref sig .tc .vmem S512x256 .bf16} {harg27 : arg27.IsWhole}
  {arg28 : Memref sig .tc .vmem S256x512 .bf16} {harg28 : arg28.IsWhole} {arg29 : Memref sig .tc .vmem S4x512x512 .bf16} {harg29 : arg29.IsWhole} {arg30 : Memref sig .tc .vmem S512x128 .bf16} {harg30 : arg30.IsWhole}
  {arg31 : Memref sig .tc .vmem S1024x64 .bf16} {harg31 : arg31.IsWhole} {arg32 : Memref sig .tc .vmem S64x1024 .bf16} {harg32 : arg32.IsWhole} {arg33 : Memref sig .tc .vmem S8x1024 .f32} {harg33 : arg33.IsWhole}
  {arg34 : Memref sig .tc .vmem S8x128 .f32} {harg34 : arg34.IsWhole}
  {x0 : Vec F S2048x128 .f32} {x1 : Vec F S128x512 .f32} {x2 : Vec F S1x512 .f32} {x3 : Vec F S4x512x512 .f32} {x4 : Vec F S4x512 .f32}
  {x5 : Vec F S4x512 .f32} {x6 : Vec F S4x512 .f32} {x7 : Vec F S512x256 .f32} {x8 : Vec F S1x256 .f32} {x9 : Vec F S256x512 .f32}
  {x10 : Vec F S1x512 .f32} {x11 : Vec F S4x512x512 .f32} {x12 : Vec F S4x512 .f32} {x13 : Vec F S4x512 .f32} {x14 : Vec F S4x512 .f32}
  {x15 : Vec F S512x128 .f32} {x16 : Vec F S1x128 .f32} {x17 : Vec F S1024x64 .f32} {x18 : Vec F S64x1024 .f32} {x19 : Vec F S1x1024 .f32}
  {xs0 : Vec F S128x512 .bf16} {xs1 : Vec F S4x512x512 .bf16} {xs2 : Vec F S512x256 .bf16} {xs3 : Vec F S256x512 .bf16} {xs4 : Vec F S4x512x512 .bf16}
  {xs5 : Vec F S512x128 .bf16} {xs6 : Vec F S1024x64 .bf16} {xs7 : Vec F S64x1024 .bf16} {xs8 : Vec F S8x1024 .f32} {xs9 : Vec F S8x128 .f32}

theorem A_enc : runA.sl.r_10 arg1 harg1 arg2 harg2 arg3 harg3 arg4 harg4 arg5 harg5 arg6 harg6 arg7 harg7 arg8 harg8 arg9 harg9 arg25 arg26 arg27 x0 x1 x2 x3 x4 x5 x6 x7 x8 = enc x0 (k0_pay4 x1) x2 (k0_pay5 x3) x4 x5 x6 (k0_pay6 x7) x8 := by
  unfold runA.sl.r_10 runA.sl.r_9 runA.sl.r_8 runA.sl.r_7 runA.sl.r_6 runA.sl.r_5 runA.sl.r_4 runA.sl.r_3 runA.sl.r_2 runA.sl.r_1 runA.sl.v4 runA.sl.v11 runA.sl.v45 runA.sl.v79 runA.sl.v113 runA.sl.v147 runA.sl.HS0_1 runA.sl.HS1_1 runA.sl.HS2_1
  repeat first | rw [read_whole] | rw [read_row] | rw [read_sheet] | rw [cov_whole] | rw [cov_sheet]
  rfl

theorem A_y (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).1 = [⟨Rect.unit ![0, 0] S2048x256.size inb_S2048x256_S2048x256_0_0, yt (enc x0 (k0_pay4 x1) x2 (k0_pay5 x3) x4 x5 x6 (k0_pay6 x7) x8) x19 (k0_pay11 x17) (k0_pay12 x18)⟩] := by
  refine Eq.trans (b := [⟨Rect.unit ![0, 0] S2048x256.size inb_S2048x256_S2048x256_0_0, k0_pay51 _ _ _ _ _⟩]) rfl (congrArg (fun w : FVec F S2048x256 .f32 => ([⟨Rect.unit ![0, 0] S2048x256.size inb_S2048x256_S2048x256_0_0, w⟩] : List (View.Piece (Elt F) S2048x256 .f32))) ?_)
  unfold runA.sl.r_28 runA.sl.r_23 runA.sl.r_22 runA.sl.r_18 runA.sl.r_17 runA.sl.r_16 runA.sl.r_12 runA.sl.r_11 runA.sl.v156 runA.sl.cst_90 runA.sl.v162 runA.sl.v182 runA.sl.HS6_1 runA.sl.HS7_1
  rw [A_enc]
  repeat first | rw [read_whole] | rw [read_row] | rw [read_sheet] | rw [cov_whole] | rw [cov_sheet]
  rfl

theorem A_ct (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.2.2.2.2.2.1 = ⟨Rect.unit ![0, 0] S8x1024.size inb_S8x1024_S8x1024_0_0, ct (enc x0 (k0_pay4 x1) x2 (k0_pay5 x3) x4 x5 x6 (k0_pay6 x7) x8) x19 (k0_pay12 x18) k0_pay13⟩ :: runA.sl.HS8_1 := by
  refine Eq.trans (b := ⟨Rect.unit ![0, 0] S8x1024.size inb_S8x1024_S8x1024_0_0, k0_pay52 _ _ _⟩ :: runA.sl.HS8_1) rfl (congrArg (fun w : FVec F S8x1024 .f32 => (⟨Rect.unit ![0, 0] S8x1024.size inb_S8x1024_S8x1024_0_0, w⟩ :: runA.sl.HS8_1 : List (View.Piece (Elt F) S8x1024 .f32))) ?_)
  unfold runA.sl.r_27 runA.sl.r_24 runA.sl.r_22 runA.sl.r_19 runA.sl.r_17 runA.sl.r_16 runA.sl.r_13 runA.sl.r_11 runA.sl.v156 runA.sl.cst_90 runA.sl.v162 runA.sl.cst_74 runA.sl.v304 runA.sl.HS7_1 runA.sl.HS8_1
  rw [A_enc]
  repeat first | rw [read_whole] | rw [read_row] | rw [read_sheet] | rw [cov_whole] | rw [cov_sheet]
  rfl

theorem A_st (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.2.2.2.2.2.2.1 = ⟨Rect.unit ![0, 0] S8x128.size inb_S8x128_S8x128_0_0, st (enc x0 (k0_pay4 x1) x2 (k0_pay5 x3) x4 x5 x6 (k0_pay6 x7) x8) x19 (k0_pay11 x17) (k0_pay12 x18) k0_pay14⟩ :: runA.sl.HS9_1 := by
  refine Eq.trans (b := ⟨Rect.unit ![0, 0] S8x128.size inb_S8x128_S8x128_0_0, k0_pay53 _ _ _ _ _⟩ :: runA.sl.HS9_1) rfl (congrArg (fun w : FVec F S8x128 .f32 => (⟨Rect.unit ![0, 0] S8x128.size inb_S8x128_S8x128_0_0, w⟩ :: runA.sl.HS9_1 : List (View.Piece (Elt F) S8x128 .f32))) ?_)
  unfold runA.sl.r_28 runA.sl.r_26 runA.sl.r_25 runA.sl.r_22 runA.sl.r_21 runA.sl.r_20 runA.sl.r_17 runA.sl.r_16 runA.sl.r_15 runA.sl.r_14 runA.sl.r_11 runA.sl.v156 runA.sl.cst_90 runA.sl.v162 runA.sl.v182 runA.sl.v311 runA.sl.HS7_1 runA.sl.HS6_1 runA.sl.HS9_1
  rw [A_enc]
  repeat first | rw [read_whole] | rw [read_row] | rw [read_sheet] | rw [cov_whole] | rw [cov_sheet]
  rfl

theorem A_x (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.1 = [⟨Rect.unit ![0, 0] S2048x128.size inb_S2048x128_S2048x128_0_0, xt (enc x0 (k0_pay4 x1) x2 (k0_pay5 x3) x4 x5 x6 (k0_pay6 x7) x8) x19 (k0_pay11 x17) (k0_pay12 x18) (k0_pay7 x9) x10 (k0_pay8 x11) x12 x13 x14 (k0_pay10 (k0_pay9 x15)) x16⟩] := by
  refine Eq.trans (b := [⟨Rect.unit ![0, 0] S2048x128.size inb_S2048x128_S2048x128_0_0, k0_pay1 _ _ _ _ _ _ _⟩]) rfl (congrArg (fun w : FVec F S2048x128 .f32 => ([⟨Rect.unit ![0, 0] S2048x128.size inb_S2048x128_S2048x128_0_0, w⟩] : List (View.Piece (Elt F) S2048x128 .f32))) ?_)
  unfold runA.sl.r_38 runA.sl.r_37 runA.sl.r_36 runA.sl.r_35 runA.sl.r_34 runA.sl.r_33 runA.sl.r_32 runA.sl.r_31 runA.sl.r_30 runA.sl.r_29 runA.sl.r_28 runA.sl.r_23 runA.sl.r_22 runA.sl.r_18 runA.sl.r_17 runA.sl.r_16 runA.sl.r_12 runA.sl.r_11 runA.sl.v156 runA.sl.cst_90 runA.sl.v162 runA.sl.cst_179 runA.sl.v182 runA.sl.v319 runA.sl.v326 runA.sl.v360 runA.sl.v394 runA.sl.v428 runA.sl.v462 runA.sl.HS3_1 runA.sl.HS4_1 runA.sl.HS5_1 runA.sl.HS6_1 runA.sl.HS7_1 runA.sl.r
  rw [A_enc]
  repeat first | rw [read_whole] | rw [read_row] | rw [read_sheet] | rw [cov_whole] | rw [cov_sheet]
  rfl

theorem A_s0 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.1 = [⟨Rect.unit ![0, 0] S128x512.size inb_S128x512_S128x512_0_0, k0_pay4 x1⟩] := by
  refine Eq.trans (b := [⟨Rect.unit ![0, 0] S128x512.size inb_S128x512_S128x512_0_0, k0_pay4 _⟩]) rfl (congrArg (fun w : FVec F S128x512 .bf16 => ([⟨Rect.unit ![0, 0] S128x512.size inb_S128x512_S128x512_0_0, w⟩] : List (View.Piece (Elt F) S128x512 .bf16))) ?_)
  repeat first | rw [read_whole] | rw [read_row] | rw [read_sheet] | rw [cov_whole] | rw [cov_sheet]

theorem A_s1 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.1 = [⟨Rect.unit ![0, 0, 0] S4x512x512.size inb_S4x512x512_S4x512x512_0_0_0, k0_pay5 x3⟩] := by
  refine Eq.trans (b := [⟨Rect.unit ![0, 0, 0] S4x512x512.size inb_S4x512x512_S4x512x512_0_0_0, k0_pay5 _⟩]) rfl (congrArg (fun w : FVec F S4x512x512 .bf16 => ([⟨Rect.unit ![0, 0, 0] S4x512x512.size inb_S4x512x512_S4x512x512_0_0_0, w⟩] : List (View.Piece (Elt F) S4x512x512 .bf16))) ?_)
  repeat first | rw [read_whole] | rw [read_row] | rw [read_sheet] | rw [cov_whole] | rw [cov_sheet]

theorem A_s2 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.1 = [⟨Rect.unit ![0, 0] S512x256.size inb_S512x256_S512x256_0_0, k0_pay6 x7⟩] := by
  refine Eq.trans (b := [⟨Rect.unit ![0, 0] S512x256.size inb_S512x256_S512x256_0_0, k0_pay6 _⟩]) rfl (congrArg (fun w : FVec F S512x256 .bf16 => ([⟨Rect.unit ![0, 0] S512x256.size inb_S512x256_S512x256_0_0, w⟩] : List (View.Piece (Elt F) S512x256 .bf16))) ?_)
  repeat first | rw [read_whole] | rw [read_row] | rw [read_sheet] | rw [cov_whole] | rw [cov_sheet]

theorem A_s3 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.1 = [⟨Rect.unit ![0, 0] S256x512.size inb_S256x512_S256x512_0_0, k0_pay7 x9⟩] := by
  refine Eq.trans (b := [⟨Rect.unit ![0, 0] S256x512.size inb_S256x512_S256x512_0_0, k0_pay7 _⟩]) rfl (congrArg (fun w : FVec F S256x512 .bf16 => ([⟨Rect.unit ![0, 0] S256x512.size inb_S256x512_S256x512_0_0, w⟩] : List (View.Piece (Elt F) S256x512 .bf16))) ?_)
  repeat first | rw [read_whole] | rw [read_row] | rw [read_sheet] | rw [cov_whole] | rw [cov_sheet]

theorem A_s4 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.2.1 = [⟨Rect.unit ![0, 0, 0] S4x512x512.size inb_S4x512x512_S4x512x512_0_0_0, k0_pay8 x11⟩] := by
  refine Eq.trans (b := [⟨Rect.unit ![0, 0, 0] S4x512x512.size inb_S4x512x512_S4x512x512_0_0_0, k0_pay8 _⟩]) rfl (congrArg (fun w : FVec F S4x512x512 .bf16 => ([⟨Rect.unit ![0, 0, 0] S4x512x512.size inb_S4x512x512_S4x512x512_0_0_0, w⟩] : List (View.Piece (Elt F) S4x512x512 .bf16))) ?_)
  repeat first | rw [read_whole] | rw [read_row] | rw [read_sheet] | rw [cov_whole] | rw [cov_sheet]

theorem A_s5 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.2.2.1 = [⟨Rect.unit ![0, 0] S512x128.size inb_S512x128_S512x128_0_0, k0_pay10 (k0_pay9 x15)⟩] := by
  refine Eq.trans (b := [⟨Rect.unit ![0, 0] S512x128.size inb_S512x128_S512x128_0_0, k0_pay10 _⟩]) rfl (congrArg (fun w : FVec F S512x128 .bf16 => ([⟨Rect.unit ![0, 0] S512x128.size inb_S512x128_S512x128_0_0, w⟩] : List (View.Piece (Elt F) S512x128 .bf16))) ?_)
  unfold runA.sl.r
  repeat first | rw [read_whole] | rw [read_row] | rw [read_sheet] | rw [cov_whole] | rw [cov_sheet]

theorem A_s6 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.2.2.2.1 = [⟨Rect.unit ![0, 0] S1024x64.size inb_S1024x64_S1024x64_0_0, k0_pay11 x17⟩] := by
  refine Eq.trans (b := [⟨Rect.unit ![0, 0] S1024x64.size inb_S1024x64_S1024x64_0_0, k0_pay11 _⟩]) rfl (congrArg (fun w : FVec F S1024x64 .bf16 => ([⟨Rect.unit ![0, 0] S1024x64.size inb_S1024x64_S1024x64_0_0, w⟩] : List (View.Piece (Elt F) S1024x64 .bf16))) ?_)
  repeat first | rw [read_whole] | rw [read_row] | rw [read_sheet] | rw [cov_whole] | rw [cov_sheet]

theorem A_s7 (hc0 : cond0_0 i) (hc1 : ¬cond0_1 i) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19).2.2.2.2.2.2.2.2.2.2.2.1 = [⟨Rect.unit ![0, 0] S64x1024.size inb_S64x1024_S64x1024_0_0, k0_pay12 x18⟩] := by
  refine Eq.trans (b := [⟨Rect.unit ![0, 0] S64x1024.size inb_S64x1024_S64x1024_0_0, k0_pay12 _⟩]) rfl (congrArg (fun w : FVec F S64x1024 .bf16 => ([⟨Rect.unit ![0, 0] S64x1024.size inb_S64x1024_S64x1024_0_0, w⟩] : List (View.Piece (Elt F) S64x1024 .bf16))) ?_)
  repeat first | rw [read_whole] | rw [read_row] | rw [read_sheet] | rw [cov_whole] | rw [cov_sheet]

end Cert.Kern
end
-- ==== Proof.Kern.PointB.lean ====
/- What a middle point stores, as functions of what it reads. -/
module

public import proofs.«01_k».proof.Proof.Kern.Reads
public import proofs.«01_k».proof.Proof.Body.Held

@[expose] public section

set_option maxRecDepth 16384

noncomputable section

namespace Cert.Kern

open Cert.KernelIdeal Cert.KernelIdeal.Gen Cert.KernelIdeal.Body Idealize.ShloMosaic Idealize.ShloMosaic.TcCoe

variable {F : FTy → Type} [FloatOps F]
variable {c : Dev nD} {i : grid0.Coords}
  {arg1 : Memref sig .tc .vmem S2048x128 .f32} {harg1 : arg1.IsWhole} {arg2 : Memref sig .tc .vmem S128x512 .f32} {harg2 : arg2.IsWhole} {arg3 : Memref sig .tc .vmem S1x512 .f32} {harg3 : arg3.IsWhole}
  {arg4 : Memref sig .tc .vmem S4x512x512 .f32} {harg4 : arg4.IsWhole} {arg5 : Memref sig .tc .vmem S4x512 .f32} {harg5 : arg5.IsWhole} {arg6 : Memref sig .tc .vmem S4x512 .f32} {harg6 : arg6.IsWhole}
  {arg7 : Memref sig .tc .vmem S4x512 .f32} {harg7 : arg7.IsWhole} {arg8 : Memref sig .tc .vmem S512x256 .f32} {harg8 : arg8.IsWhole} {arg9 : Memref sig .tc .vmem S1x256 .f32} {harg9 : arg9.IsWhole}
  {arg10 : Memref sig .tc .vmem S256x512 .f32} {harg10 : arg10.IsWhole} {arg11 : Memref sig .tc .vmem S1x512 .f32} {harg11 : arg11.IsWhole} {arg12 : Memref sig .tc .vmem S4x512x512 .f32} {harg12 : arg12.IsWhole}
  {arg13 : Memref sig .tc .vmem S4x512 .f32} {harg13 : arg13.IsWhole} {arg14 : Memref sig .tc .vmem S4x512 .f32} {harg14 : arg14.IsWhole} {arg15 : Memref sig .tc .vmem S4x512 .f32} {harg15 : arg15.IsWhole}
  {arg16 : Memref sig .tc .vmem S512x128 .f32} {harg16 : arg16.IsWhole} {arg17 : Memref sig .tc .vmem S1x128 .f32} {harg17 : arg17.IsWhole} {arg18 : Memref sig .tc .vmem S1024x64 .f32} {harg18 : arg18.IsWhole}
  {arg19 : Memref sig .tc .vmem S64x1024 .f32} {harg19 : arg19.IsWhole} {arg20 : Memref sig .tc .vmem S1x1024 .f32} {harg20 : arg20.IsWhole} {arg21 : Memref sig .tc .vmem S2048x256 .f32} {harg21 : arg21.IsWhole}
  {arg22 : Memref sig .tc .vmem S2048x128 .f32} {harg22 : arg22.IsWhole} {arg23 : Memref sig .tc .vmem S8x128 .f32} {harg23 : arg23.IsWhole} {arg24 : Memref sig .tc .vmem S8x128 .f32} {harg24 : arg24.IsWhole}
  {arg25 : Memref sig .tc .vmem S128x512 .bf16} {harg25 : arg25.IsWhole} {arg26 : Memref sig .tc .vmem S4x512x512 .bf16} {harg26 : arg26.IsWhole} {arg27 : Memref sig .tc .vmem S512x256 .bf16} {harg27 : arg27.IsWhole}
  {arg28 : Memref sig .tc .vmem S256x512 .bf16} {harg28 : arg28.IsWhole} {arg29 : Memref sig .tc .vmem S4x512x512 .bf16} {harg29 : arg29.IsWhole} {arg30 : Memref sig .tc .vmem S512x128 .bf16} {harg30 : arg30.IsWhole}
  {arg31 : Memref sig .tc .vmem S1024x64 .bf16} {harg31 : arg31.IsWhole} {arg32 : Memref sig .tc .vmem S64x1024 .bf16} {harg32 : arg32.IsWhole} {arg33 : Memref sig .tc .vmem S8x1024 .f32} {harg33 : arg33.IsWhole}
  {arg34 : Memref sig .tc .vmem S8x128 .f32} {harg34 : arg34.IsWhole}
  {x0 : Vec F S2048x128 .f32} {x1 : Vec F S128x512 .f32} {x2 : Vec F S1x512 .f32} {x3 : Vec F S4x512x512 .f32} {x4 : Vec F S4x512 .f32}
  {x5 : Vec F S4x512 .f32} {x6 : Vec F S4x512 .f32} {x7 : Vec F S512x256 .f32} {x8 : Vec F S1x256 .f32} {x9 : Vec F S256x512 .f32}
  {x10 : Vec F S1x512 .f32} {x11 : Vec F S4x512x512 .f32} {x12 : Vec F S4x512 .f32} {x13 : Vec F S4x512 .f32} {x14 : Vec F S4x512 .f32}
  {x15 : Vec F S512x128 .f32} {x16 : Vec F S1x128 .f32} {x17 : Vec F S1024x64 .f32} {x18 : Vec F S64x1024 .f32} {x19 : Vec F S1x1024 .f32}
  {xs0 : Vec F S128x512 .bf16} {xs1 : Vec F S4x512x512 .bf16} {xs2 : Vec F S512x256 .bf16} {xs3 : Vec F S256x512 .bf16} {xs4 : Vec F S4x512x512 .bf16}
  {xs5 : Vec F S512x128 .bf16} {xs6 : Vec F S1024x64 .bf16} {xs7 : Vec F S64x1024 .bf16} {xs8 : Vec F S8x1024 .f32} {xs9 : Vec F S8x128 .f32}

theorem B_enc : runB.sl.r_9 arg1 harg1 arg3 harg3 arg5 harg5 arg6 harg6 arg7 harg7 arg9 harg9 arg25 harg25 arg26 harg26 arg27 harg27 x0 x2 x4 x5 x6 x8 xs0 xs1 xs2 = enc x0 xs0 x2 xs1 x4 x5 x6 xs2 x8 := by
  unfold runB.sl.r_9 runB.sl.r_8 runB.sl.r_7 runB.sl.r_6 runB.sl.r_5 runB.sl.r_4 runB.sl.r_3 runB.sl.r_2 runB.sl.r_1 runB.sl.r
  repeat first | rw [read_whole] | rw [read_row] | rw [read_sheet]
  rfl

theorem B_y (hc0 : ¬cond0_0 i) (hc1 : ¬cond0_1 i) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).1 = [⟨Rect.unit ![0, 0] S2048x256.size inb_S2048x256_S2048x256_0_0, yt (enc x0 xs0 x2 xs1 x4 x5 x6 xs2 x8) x19 xs6 xs7⟩] := by
  refine Eq.trans (b := [⟨Rect.unit ![0, 0] S2048x256.size inb_S2048x256_S2048x256_0_0, k0_pay51 _ _ _ _ _⟩]) rfl (congrArg (fun w : FVec F S2048x256 .f32 => ([⟨Rect.unit ![0, 0] S2048x256.size inb_S2048x256_S2048x256_0_0, w⟩] : List (View.Piece (Elt F) S2048x256 .f32))) ?_)
  unfold runB.sl.r_29 runB.sl.r_28 runB.sl.r_23 runB.sl.r_22 runB.sl.r_18 runB.sl.r_17 runB.sl.r_16 runB.sl.r_15 runB.sl.r_11 runB.sl.r_10 runB.sl.v156 runB.sl.cst_90
  rw [B_enc]
  repeat first | rw [read_whole] | rw [read_row] | rw [read_sheet]
  rfl

theorem B_ct (hc0 : ¬cond0_0 i) (hc1 : ¬cond0_1 i) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.2.2.2.2.2.2.2.2.2.2.2.1 = [⟨Rect.unit ![0, 0] S8x1024.size inb_S8x1024_S8x1024_0_0, ct (enc x0 xs0 x2 xs1 x4 x5 x6 xs2 x8) x19 xs7 xs8⟩] := by
  refine Eq.trans (b := [⟨Rect.unit ![0, 0] S8x1024.size inb_S8x1024_S8x1024_0_0, k0_pay52 _ _ _⟩]) rfl (congrArg (fun w : FVec F S8x1024 .f32 => ([⟨Rect.unit ![0, 0] S8x1024.size inb_S8x1024_S8x1024_0_0, w⟩] : List (View.Piece (Elt F) S8x1024 .f32))) ?_)
  unfold runB.sl.r_27 runB.sl.r_24 runB.sl.r_22 runB.sl.r_19 runB.sl.r_17 runB.sl.r_16 runB.sl.r_15 runB.sl.r_12 runB.sl.r_10 runB.sl.v156 runB.sl.cst_90 runB.sl.cst_74
  rw [B_enc]
  repeat first | rw [read_whole] | rw [read_row] | rw [read_sheet]
  rfl

theorem B_st (hc0 : ¬cond0_0 i) (hc1 : ¬cond0_1 i) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.2.2.2.2.2.2.2.2.2.2.2.2.1 = [⟨Rect.unit ![0, 0] S8x128.size inb_S8x128_S8x128_0_0, st (enc x0 xs0 x2 xs1 x4 x5 x6 xs2 x8) x19 xs6 xs7 xs9⟩] := by
  refine Eq.trans (b := [⟨Rect.unit ![0, 0] S8x128.size inb_S8x128_S8x128_0_0, k0_pay53 _ _ _ _ _⟩]) rfl (congrArg (fun w : FVec F S8x128 .f32 => ([⟨Rect.unit ![0, 0] S8x128.size inb_S8x128_S8x128_0_0, w⟩] : List (View.Piece (Elt F) S8x128 .f32))) ?_)
  unfold runB.sl.r_29 runB.sl.r_28 runB.sl.r_26 runB.sl.r_25 runB.sl.r_22 runB.sl.r_21 runB.sl.r_20 runB.sl.r_17 runB.sl.r_16 runB.sl.r_15 runB.sl.r_14 runB.sl.r_13 runB.sl.r_10 runB.sl.v156 runB.sl.cst_90
  rw [B_enc]
  repeat first | rw [read_whole] | rw [read_row] | rw [read_sheet]
  rfl

theorem B_x (hc0 : ¬cond0_0 i) (hc1 : ¬cond0_1 i) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.1 = [⟨Rect.unit ![0, 0] S2048x128.size inb_S2048x128_S2048x128_0_0, xt (enc x0 xs0 x2 xs1 x4 x5 x6 xs2 x8) x19 xs6 xs7 xs3 x10 xs4 x12 x13 x14 xs5 x16⟩] := by
  refine Eq.trans (b := [⟨Rect.unit ![0, 0] S2048x128.size inb_S2048x128_S2048x128_0_0, k0_pay1 _ _ _ _ _ _ _⟩]) rfl (congrArg (fun w : FVec F S2048x128 .f32 => ([⟨Rect.unit ![0, 0] S2048x128.size inb_S2048x128_S2048x128_0_0, w⟩] : List (View.Piece (Elt F) S2048x128 .f32))) ?_)
  unfold runB.sl.r_40 runB.sl.r_39 runB.sl.r_38 runB.sl.r_37 runB.sl.r_36 runB.sl.r_35 runB.sl.r_34 runB.sl.r_33 runB.sl.r_32 runB.sl.r_31 runB.sl.r_30 runB.sl.r_29 runB.sl.r_28 runB.sl.r_23 runB.sl.r_22 runB.sl.r_18 runB.sl.r_17 runB.sl.r_16 runB.sl.r_15 runB.sl.r_11 runB.sl.r_10 runB.sl.v156 runB.sl.cst_90 runB.sl.cst_179
  rw [B_enc]
  repeat first | rw [read_whole] | rw [read_row] | rw [read_sheet]
  rfl

end Cert.Kern
end
-- ==== Proof.Kern.PointC.lean ====
/- What the last point stores, as functions of what it reads. -/
module

public import proofs.«01_k».proof.Proof.Kern.Reads
public import proofs.«01_k».proof.Proof.Body.Held

@[expose] public section

set_option maxRecDepth 16384

noncomputable section

namespace Cert.Kern

open Cert.KernelIdeal Cert.KernelIdeal.Gen Cert.KernelIdeal.Body Idealize.ShloMosaic Idealize.ShloMosaic.TcCoe

variable {F : FTy → Type} [FloatOps F]
variable {c : Dev nD} {i : grid0.Coords}
  {arg1 : Memref sig .tc .vmem S2048x128 .f32} {harg1 : arg1.IsWhole} {arg2 : Memref sig .tc .vmem S128x512 .f32} {harg2 : arg2.IsWhole} {arg3 : Memref sig .tc .vmem S1x512 .f32} {harg3 : arg3.IsWhole}
  {arg4 : Memref sig .tc .vmem S4x512x512 .f32} {harg4 : arg4.IsWhole} {arg5 : Memref sig .tc .vmem S4x512 .f32} {harg5 : arg5.IsWhole} {arg6 : Memref sig .tc .vmem S4x512 .f32} {harg6 : arg6.IsWhole}
  {arg7 : Memref sig .tc .vmem S4x512 .f32} {harg7 : arg7.IsWhole} {arg8 : Memref sig .tc .vmem S512x256 .f32} {harg8 : arg8.IsWhole} {arg9 : Memref sig .tc .vmem S1x256 .f32} {harg9 : arg9.IsWhole}
  {arg10 : Memref sig .tc .vmem S256x512 .f32} {harg10 : arg10.IsWhole} {arg11 : Memref sig .tc .vmem S1x512 .f32} {harg11 : arg11.IsWhole} {arg12 : Memref sig .tc .vmem S4x512x512 .f32} {harg12 : arg12.IsWhole}
  {arg13 : Memref sig .tc .vmem S4x512 .f32} {harg13 : arg13.IsWhole} {arg14 : Memref sig .tc .vmem S4x512 .f32} {harg14 : arg14.IsWhole} {arg15 : Memref sig .tc .vmem S4x512 .f32} {harg15 : arg15.IsWhole}
  {arg16 : Memref sig .tc .vmem S512x128 .f32} {harg16 : arg16.IsWhole} {arg17 : Memref sig .tc .vmem S1x128 .f32} {harg17 : arg17.IsWhole} {arg18 : Memref sig .tc .vmem S1024x64 .f32} {harg18 : arg18.IsWhole}
  {arg19 : Memref sig .tc .vmem S64x1024 .f32} {harg19 : arg19.IsWhole} {arg20 : Memref sig .tc .vmem S1x1024 .f32} {harg20 : arg20.IsWhole} {arg21 : Memref sig .tc .vmem S2048x256 .f32} {harg21 : arg21.IsWhole}
  {arg22 : Memref sig .tc .vmem S2048x128 .f32} {harg22 : arg22.IsWhole} {arg23 : Memref sig .tc .vmem S8x128 .f32} {harg23 : arg23.IsWhole} {arg24 : Memref sig .tc .vmem S8x128 .f32} {harg24 : arg24.IsWhole}
  {arg25 : Memref sig .tc .vmem S128x512 .bf16} {harg25 : arg25.IsWhole} {arg26 : Memref sig .tc .vmem S4x512x512 .bf16} {harg26 : arg26.IsWhole} {arg27 : Memref sig .tc .vmem S512x256 .bf16} {harg27 : arg27.IsWhole}
  {arg28 : Memref sig .tc .vmem S256x512 .bf16} {harg28 : arg28.IsWhole} {arg29 : Memref sig .tc .vmem S4x512x512 .bf16} {harg29 : arg29.IsWhole} {arg30 : Memref sig .tc .vmem S512x128 .bf16} {harg30 : arg30.IsWhole}
  {arg31 : Memref sig .tc .vmem S1024x64 .bf16} {harg31 : arg31.IsWhole} {arg32 : Memref sig .tc .vmem S64x1024 .bf16} {harg32 : arg32.IsWhole} {arg33 : Memref sig .tc .vmem S8x1024 .f32} {harg33 : arg33.IsWhole}
  {arg34 : Memref sig .tc .vmem S8x128 .f32} {harg34 : arg34.IsWhole}
  {x0 : Vec F S2048x128 .f32} {x1 : Vec F S128x512 .f32} {x2 : Vec F S1x512 .f32} {x3 : Vec F S4x512x512 .f32} {x4 : Vec F S4x512 .f32}
  {x5 : Vec F S4x512 .f32} {x6 : Vec F S4x512 .f32} {x7 : Vec F S512x256 .f32} {x8 : Vec F S1x256 .f32} {x9 : Vec F S256x512 .f32}
  {x10 : Vec F S1x512 .f32} {x11 : Vec F S4x512x512 .f32} {x12 : Vec F S4x512 .f32} {x13 : Vec F S4x512 .f32} {x14 : Vec F S4x512 .f32}
  {x15 : Vec F S512x128 .f32} {x16 : Vec F S1x128 .f32} {x17 : Vec F S1024x64 .f32} {x18 : Vec F S64x1024 .f32} {x19 : Vec F S1x1024 .f32}
  {xs0 : Vec F S128x512 .bf16} {xs1 : Vec F S4x512x512 .bf16} {xs2 : Vec F S512x256 .bf16} {xs3 : Vec F S256x512 .bf16} {xs4 : Vec F S4x512x512 .bf16}
  {xs5 : Vec F S512x128 .bf16} {xs6 : Vec F S1024x64 .bf16} {xs7 : Vec F S64x1024 .bf16} {xs8 : Vec F S8x1024 .f32} {xs9 : Vec F S8x128 .f32}

theorem C_enc : runC.sl.r_9 arg1 harg1 arg3 harg3 arg5 harg5 arg6 harg6 arg7 harg7 arg9 harg9 arg25 harg25 arg26 harg26 arg27 harg27 x0 x2 x4 x5 x6 x8 xs0 xs1 xs2 = enc x0 xs0 x2 xs1 x4 x5 x6 xs2 x8 := by
  unfold runC.sl.r_9 runC.sl.r_8 runC.sl.r_7 runC.sl.r_6 runC.sl.r_5 runC.sl.r_4 runC.sl.r_3 runC.sl.r_2 runC.sl.r_1 runC.sl.r
  repeat first | rw [read_whole] | rw [read_row] | rw [read_sheet]
  rfl

theorem C_y (hc0 : ¬cond0_0 i) (hc1 : cond0_1 i) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).1 = [⟨Rect.unit ![0, 0] S2048x256.size inb_S2048x256_S2048x256_0_0, yt (enc x0 xs0 x2 xs1 x4 x5 x6 xs2 x8) x19 xs6 xs7⟩] := by
  refine Eq.trans (b := [⟨Rect.unit ![0, 0] S2048x256.size inb_S2048x256_S2048x256_0_0, k0_pay51 _ _ _ _ _⟩]) rfl (congrArg (fun w : FVec F S2048x256 .f32 => ([⟨Rect.unit ![0, 0] S2048x256.size inb_S2048x256_S2048x256_0_0, w⟩] : List (View.Piece (Elt F) S2048x256 .f32))) ?_)
  unfold runC.sl.r_29 runC.sl.r_28 runC.sl.r_23 runC.sl.r_22 runC.sl.r_18 runC.sl.r_17 runC.sl.r_16 runC.sl.r_15 runC.sl.r_11 runC.sl.r_10 runC.sl.v156 runC.sl.cst_90
  rw [C_enc]
  repeat first | rw [read_whole] | rw [read_row] | rw [read_sheet]
  rfl

theorem C_ct (hc0 : ¬cond0_0 i) (hc1 : cond0_1 i) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.2.2.2.2.2.2.2.2.2.2.2.1 = [⟨Rect.unit ![0, 0] S8x1024.size inb_S8x1024_S8x1024_0_0, ct (enc x0 xs0 x2 xs1 x4 x5 x6 xs2 x8) x19 xs7 xs8⟩] := by
  refine Eq.trans (b := [⟨Rect.unit ![0, 0] S8x1024.size inb_S8x1024_S8x1024_0_0, k0_pay52 _ _ _⟩]) rfl (congrArg (fun w : FVec F S8x1024 .f32 => ([⟨Rect.unit ![0, 0] S8x1024.size inb_S8x1024_S8x1024_0_0, w⟩] : List (View.Piece (Elt F) S8x1024 .f32))) ?_)
  unfold runC.sl.r_27 runC.sl.r_24 runC.sl.r_22 runC.sl.r_19 runC.sl.r_17 runC.sl.r_16 runC.sl.r_15 runC.sl.r_12 runC.sl.r_10 runC.sl.v156 runC.sl.cst_90 runC.sl.cst_74
  rw [C_enc]
  repeat first | rw [read_whole] | rw [read_row] | rw [read_sheet]
  rfl

theorem C_st (hc0 : ¬cond0_0 i) (hc1 : cond0_1 i) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.2.2.2.2.2.2.2.2.2.2.2.2.1 = [⟨Rect.unit ![0, 0] S8x128.size inb_S8x128_S8x128_0_0, st (enc x0 xs0 x2 xs1 x4 x5 x6 xs2 x8) x19 xs6 xs7 xs9⟩] := by
  refine Eq.trans (b := [⟨Rect.unit ![0, 0] S8x128.size inb_S8x128_S8x128_0_0, k0_pay53 _ _ _ _ _⟩]) rfl (congrArg (fun w : FVec F S8x128 .f32 => ([⟨Rect.unit ![0, 0] S8x128.size inb_S8x128_S8x128_0_0, w⟩] : List (View.Piece (Elt F) S8x128 .f32))) ?_)
  unfold runC.sl.r_29 runC.sl.r_28 runC.sl.r_26 runC.sl.r_25 runC.sl.r_22 runC.sl.r_21 runC.sl.r_20 runC.sl.r_17 runC.sl.r_16 runC.sl.r_15 runC.sl.r_14 runC.sl.r_13 runC.sl.r_10 runC.sl.v156 runC.sl.cst_90
  rw [C_enc]
  repeat first | rw [read_whole] | rw [read_row] | rw [read_sheet]
  rfl

theorem C_x (hc0 : ¬cond0_0 i) (hc1 : cond0_1 i) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.1 = [⟨Rect.unit ![0, 0] S2048x128.size inb_S2048x128_S2048x128_0_0, xt (enc x0 xs0 x2 xs1 x4 x5 x6 xs2 x8) x19 xs6 xs7 xs3 x10 xs4 x12 x13 x14 xs5 x16⟩] := by
  refine Eq.trans (b := [⟨Rect.unit ![0, 0] S2048x128.size inb_S2048x128_S2048x128_0_0, k0_pay1 _ _ _ _ _ _ _⟩]) rfl (congrArg (fun w : FVec F S2048x128 .f32 => ([⟨Rect.unit ![0, 0] S2048x128.size inb_S2048x128_S2048x128_0_0, w⟩] : List (View.Piece (Elt F) S2048x128 .f32))) ?_)
  unfold runC.sl.r_40 runC.sl.r_39 runC.sl.r_38 runC.sl.r_37 runC.sl.r_36 runC.sl.r_35 runC.sl.r_34 runC.sl.r_33 runC.sl.r_32 runC.sl.r_31 runC.sl.r_30 runC.sl.r_29 runC.sl.r_28 runC.sl.r_23 runC.sl.r_22 runC.sl.r_18 runC.sl.r_17 runC.sl.r_16 runC.sl.r_15 runC.sl.r_11 runC.sl.r_10 runC.sl.v156 runC.sl.cst_90 runC.sl.cst_179
  rw [C_enc]
  repeat first | rw [read_whole] | rw [read_row] | rw [read_sheet]
  rfl

theorem C_l (hc0 : ¬cond0_0 i) (hc1 : cond0_1 i) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.2.1 = [⟨Rect.unit ![0, 0] S8x128.size inb_S8x128_S8x128_0_0, k0_pay2 (fun y => st (enc x0 xs0 x2 xs1 x4 x5 x6 xs2 x8) x19 xs6 xs7 xs9 ((Rect.unit (s := S8x128) ![0, 0] ![1, 1] inb_S8x128_S1x1_0_0).toLoadRect.idx y))⟩] := by
  refine Eq.trans (b := [⟨Rect.unit ![0, 0] S8x128.size inb_S8x128_S8x128_0_0, k0_pay2 _⟩]) rfl (congrArg (fun w : FVec F S8x128 .f32 => ([⟨Rect.unit ![0, 0] S8x128.size inb_S8x128_S8x128_0_0, w⟩] : List (View.Piece (Elt F) S8x128 .f32))) ?_)
  unfold runC.sl.v486 runC.sl.HS9_1
  rw [read_cov]
  unfold runC.sl.r_29 runC.sl.r_28 runC.sl.r_26 runC.sl.r_25 runC.sl.r_22 runC.sl.r_21 runC.sl.r_20 runC.sl.r_17 runC.sl.r_16 runC.sl.r_15 runC.sl.r_14 runC.sl.r_13 runC.sl.r_10 runC.sl.v156 runC.sl.cst_90
  rw [C_enc]
  repeat first | rw [read_whole] | rw [read_row] | rw [read_sheet]
  rfl

theorem C_p (hc0 : ¬cond0_0 i) (hc1 : cond0_1 i) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 hc1
      x0 x1 x2 x3 x4 x5 x6 x7 x8 x9 x10 x11 x12 x13 x14 x15 x16 x17 x18 x19 xs0 xs1 xs2 xs3 xs4 xs5 xs6 xs7 xs8 xs9).2.2.2.1 = [⟨Rect.unit ![0, 0] S8x128.size inb_S8x128_S8x128_0_0, k0_pay3 (fun y => ct (enc x0 xs0 x2 xs1 x4 x5 x6 xs2 x8) x19 xs7 xs8 ((Rect.unit (s := S8x1024) ![0, 0] ![1, 1024] inb_S8x1024_S1x1024_0_0).toLoadRect.idx y))⟩] := by
  refine Eq.trans (b := [⟨Rect.unit ![0, 0] S8x128.size inb_S8x128_S8x128_0_0, k0_pay3 _⟩]) rfl (congrArg (fun w : FVec F S8x128 .f32 => ([⟨Rect.unit ![0, 0] S8x128.size inb_S8x128_S8x128_0_0, w⟩] : List (View.Piece (Elt F) S8x128 .f32))) ?_)
  unfold runC.sl.v473 runC.sl.HS8_1
  rw [read_cov]
  unfold runC.sl.r_27 runC.sl.r_24 runC.sl.r_22 runC.sl.r_19 runC.sl.r_17 runC.sl.r_16 runC.sl.r_15 runC.sl.r_12 runC.sl.r_10 runC.sl.v156 runC.sl.cst_90 runC.sl.cst_74
  rw [C_enc]
  repeat first | rw [read_whole] | rw [read_row] | rw [read_sheet]
  rfl

end Cert.Kern
end
-- ==== Proof.Kern.Leaves.lean ====
/- What the points leave in the buffers, as functions of what they are given. -/
module

public import proofs.«01_k».proof.Proof.Kern.PointA
public import proofs.«01_k».proof.Proof.Kern.PointB
public import proofs.«01_k».proof.Proof.Kern.PointC

@[expose] public section

set_option maxRecDepth 16384

noncomputable section

namespace Cert.Kern

open Cert.Up Cert.Spec Cert.KernelIdeal Cert.KernelIdeal.Gen Cert.KernelIdeal.Body Idealize.ShloMosaic Idealize.ShloMosaic.TcCoe

variable {F : FTy → Type} [FloatOps F]

section Leaves
variable (m : (ℓ : Loc nD τ sig) → Buf (Elt F) ℓ) (c : Dev nD) (t : Fin cfg0.N) (h : Held F)

theorem leavesB_y (h0 : ¬cond0_0 (grid0.coords t)) (h1 : ¬cond0_1 (grid0.coords t)) :
    (leavesB m c t h0 h1 h).y = yt (enc (iblk m c 0 t) h.s0 (iblk m c 2 t) h.s1 (iblk m c 4 t) (iblk m c 5 t) (iblk m c 6 t) h.s2 (iblk m c 8 t)) (iblk m c 19 t) h.s6 h.s7 :=
  by
  have e : (atB m c t h0 h1 h).1 = [⟨Rect.unit ![0, 0] S2048x256.size inb_S2048x256_S2048x256_0_0, yt (enc (iblk m c 0 t) h.s0 (iblk m c 2 t) h.s1 (iblk m c 4 t) (iblk m c 5 t) (iblk m c 6 t) h.s2 (iblk m c 8 t)) (iblk m c 19 t) h.s6 h.s7⟩] := B_y h0 h1
  unfold leavesB
  dsimp only
  rw [e, View.read_writes_full]

theorem leavesB_x (h0 : ¬cond0_0 (grid0.coords t)) (h1 : ¬cond0_1 (grid0.coords t)) :
    (leavesB m c t h0 h1 h).x = xt (enc (iblk m c 0 t) h.s0 (iblk m c 2 t) h.s1 (iblk m c 4 t) (iblk m c 5 t) (iblk m c 6 t) h.s2 (iblk m c 8 t)) (iblk m c 19 t) h.s6 h.s7 h.s3 (iblk m c 10 t) h.s4 (iblk m c 12 t) (iblk m c 13 t) (iblk m c 14 t) h.s5 (iblk m c 16 t) :=
  by
  have e : (atB m c t h0 h1 h).2.1 = [⟨Rect.unit ![0, 0] S2048x128.size inb_S2048x128_S2048x128_0_0, xt (enc (iblk m c 0 t) h.s0 (iblk m c 2 t) h.s1 (iblk m c 4 t) (iblk m c 5 t) (iblk m c 6 t) h.s2 (iblk m c 8 t)) (iblk m c 19 t) h.s6 h.s7 h.s3 (iblk m c 10 t) h.s4 (iblk m c 12 t) (iblk m c 13 t) (iblk m c 14 t) h.s5 (iblk m c 16 t)⟩] := B_x h0 h1
  unfold leavesB
  dsimp only
  rw [e, View.read_writes_full]

theorem leavesB_s8 (h0 : ¬cond0_0 (grid0.coords t)) (h1 : ¬cond0_1 (grid0.coords t)) :
    (leavesB m c t h0 h1 h).s8 = ct (enc (iblk m c 0 t) h.s0 (iblk m c 2 t) h.s1 (iblk m c 4 t) (iblk m c 5 t) (iblk m c 6 t) h.s2 (iblk m c 8 t)) (iblk m c 19 t) h.s7 h.s8 :=
  by
  have e : (atB m c t h0 h1 h).2.2.2.2.2.2.2.2.2.2.2.2.1 = [⟨Rect.unit ![0, 0] S8x1024.size inb_S8x1024_S8x1024_0_0, ct (enc (iblk m c 0 t) h.s0 (iblk m c 2 t) h.s1 (iblk m c 4 t) (iblk m c 5 t) (iblk m c 6 t) h.s2 (iblk m c 8 t)) (iblk m c 19 t) h.s7 h.s8⟩] := B_ct h0 h1
  unfold leavesB
  dsimp only
  rw [e, View.read_writes_full]

theorem leavesB_s9 (h0 : ¬cond0_0 (grid0.coords t)) (h1 : ¬cond0_1 (grid0.coords t)) :
    (leavesB m c t h0 h1 h).s9 = st (enc (iblk m c 0 t) h.s0 (iblk m c 2 t) h.s1 (iblk m c 4 t) (iblk m c 5 t) (iblk m c 6 t) h.s2 (iblk m c 8 t)) (iblk m c 19 t) h.s6 h.s7 h.s9 :=
  by
  have e : (atB m c t h0 h1 h).2.2.2.2.2.2.2.2.2.2.2.2.2.1 = [⟨Rect.unit ![0, 0] S8x128.size inb_S8x128_S8x128_0_0, st (enc (iblk m c 0 t) h.s0 (iblk m c 2 t) h.s1 (iblk m c 4 t) (iblk m c 5 t) (iblk m c 6 t) h.s2 (iblk m c 8 t)) (iblk m c 19 t) h.s6 h.s7 h.s9⟩] := B_st h0 h1
  unfold leavesB
  dsimp only
  rw [e, View.read_writes_full]

theorem leavesC_y (h0 : ¬cond0_0 (grid0.coords t)) (h1 : cond0_1 (grid0.coords t)) :
    (leavesC m c t h0 h1 h).y = yt (enc (iblk m c 0 t) h.s0 (iblk m c 2 t) h.s1 (iblk m c 4 t) (iblk m c 5 t) (iblk m c 6 t) h.s2 (iblk m c 8 t)) (iblk m c 19 t) h.s6 h.s7 :=
  by
  have e : (atC m c t h0 h1 h).1 = [⟨Rect.unit ![0, 0] S2048x256.size inb_S2048x256_S2048x256_0_0, yt (enc (iblk m c 0 t) h.s0 (iblk m c 2 t) h.s1 (iblk m c 4 t) (iblk m c 5 t) (iblk m c 6 t) h.s2 (iblk m c 8 t)) (iblk m c 19 t) h.s6 h.s7⟩] := C_y h0 h1
  unfold leavesC
  dsimp only
  rw [e, View.read_writes_full]

theorem leavesC_x (h0 : ¬cond0_0 (grid0.coords t)) (h1 : cond0_1 (grid0.coords t)) :
    (leavesC m c t h0 h1 h).x = xt (enc (iblk m c 0 t) h.s0 (iblk m c 2 t) h.s1 (iblk m c 4 t) (iblk m c 5 t) (iblk m c 6 t) h.s2 (iblk m c 8 t)) (iblk m c 19 t) h.s6 h.s7 h.s3 (iblk m c 10 t) h.s4 (iblk m c 12 t) (iblk m c 13 t) (iblk m c 14 t) h.s5 (iblk m c 16 t) :=
  by
  have e : (atC m c t h0 h1 h).2.1 = [⟨Rect.unit ![0, 0] S2048x128.size inb_S2048x128_S2048x128_0_0, xt (enc (iblk m c 0 t) h.s0 (iblk m c 2 t) h.s1 (iblk m c 4 t) (iblk m c 5 t) (iblk m c 6 t) h.s2 (iblk m c 8 t)) (iblk m c 19 t) h.s6 h.s7 h.s3 (iblk m c 10 t) h.s4 (iblk m c 12 t) (iblk m c 13 t) (iblk m c 14 t) h.s5 (iblk m c 16 t)⟩] := C_x h0 h1
  unfold leavesC
  dsimp only
  rw [e, View.read_writes_full]

theorem leavesC_s8 (h0 : ¬cond0_0 (grid0.coords t)) (h1 : cond0_1 (grid0.coords t)) :
    (leavesC m c t h0 h1 h).s8 = ct (enc (iblk m c 0 t) h.s0 (iblk m c 2 t) h.s1 (iblk m c 4 t) (iblk m c 5 t) (iblk m c 6 t) h.s2 (iblk m c 8 t)) (iblk m c 19 t) h.s7 h.s8 :=
  by
  have e : (atC m c t h0 h1 h).2.2.2.2.2.2.2.2.2.2.2.2.1 = [⟨Rect.unit ![0, 0] S8x1024.size inb_S8x1024_S8x1024_0_0, ct (enc (iblk m c 0 t) h.s0 (iblk m c 2 t) h.s1 (iblk m c 4 t) (iblk m c 5 t) (iblk m c 6 t) h.s2 (iblk m c 8 t)) (iblk m c 19 t) h.s7 h.s8⟩] := C_ct h0 h1
  unfold leavesC
  dsimp only
  rw [e, View.read_writes_full]

theorem leavesC_s9 (h0 : ¬cond0_0 (grid0.coords t)) (h1 : cond0_1 (grid0.coords t)) :
    (leavesC m c t h0 h1 h).s9 = st (enc (iblk m c 0 t) h.s0 (iblk m c 2 t) h.s1 (iblk m c 4 t) (iblk m c 5 t) (iblk m c 6 t) h.s2 (iblk m c 8 t)) (iblk m c 19 t) h.s6 h.s7 h.s9 :=
  by
  have e : (atC m c t h0 h1 h).2.2.2.2.2.2.2.2.2.2.2.2.2.1 = [⟨Rect.unit ![0, 0] S8x128.size inb_S8x128_S8x128_0_0, st (enc (iblk m c 0 t) h.s0 (iblk m c 2 t) h.s1 (iblk m c 4 t) (iblk m c 5 t) (iblk m c 6 t) h.s2 (iblk m c 8 t)) (iblk m c 19 t) h.s6 h.s7 h.s9⟩] := C_st h0 h1
  unfold leavesC
  dsimp only
  rw [e, View.read_writes_full]

theorem leavesC_l (h0 : ¬cond0_0 (grid0.coords t)) (h1 : cond0_1 (grid0.coords t)) :
    (leavesC m c t h0 h1 h).l = k0_pay2 (fun y => st (enc (iblk m c 0 t) h.s0 (iblk m c 2 t) h.s1 (iblk m c 4 t) (iblk m c 5 t) (iblk m c 6 t) h.s2 (iblk m c 8 t)) (iblk m c 19 t) h.s6 h.s7 h.s9
      ((Rect.unit (s := S8x128) ![0, 0] ![1, 1] inb_S8x128_S1x1_0_0).toLoadRect.idx y)) :=
  by
  have e : (atC m c t h0 h1 h).2.2.1 = [⟨Rect.unit ![0, 0] S8x128.size inb_S8x128_S8x128_0_0, k0_pay2 (fun y => st (enc (iblk m c 0 t) h.s0 (iblk m c 2 t) h.s1 (iblk m c 4 t) (iblk m c 5 t) (iblk m c 6 t) h.s2 (iblk m c 8 t)) (iblk m c 19 t) h.s6 h.s7 h.s9 ((Rect.unit (s := S8x128) ![0, 0] ![1, 1] inb_S8x128_S1x1_0_0).toLoadRect.idx y))⟩] := C_l h0 h1
  unfold leavesC
  dsimp only
  rw [e, View.read_writes_full]

theorem leavesC_p (h0 : ¬cond0_0 (grid0.coords t)) (h1 : cond0_1 (grid0.coords t)) :
    (leavesC m c t h0 h1 h).p = k0_pay3 (fun y => ct (enc (iblk m c 0 t) h.s0 (iblk m c 2 t) h.s1 (iblk m c 4 t) (iblk m c 5 t) (iblk m c 6 t) h.s2 (iblk m c 8 t)) (iblk m c 19 t) h.s7 h.s8
      ((Rect.unit (s := S8x1024) ![0, 0] ![1, 1024] inb_S8x1024_S1x1024_0_0).toLoadRect.idx y)) :=
  by
  have e : (atC m c t h0 h1 h).2.2.2.1 = [⟨Rect.unit ![0, 0] S8x128.size inb_S8x128_S8x128_0_0, k0_pay3 (fun y => ct (enc (iblk m c 0 t) h.s0 (iblk m c 2 t) h.s1 (iblk m c 4 t) (iblk m c 5 t) (iblk m c 6 t) h.s2 (iblk m c 8 t)) (iblk m c 19 t) h.s7 h.s8 ((Rect.unit (s := S8x1024) ![0, 0] ![1, 1024] inb_S8x1024_S1x1024_0_0).toLoadRect.idx y))⟩] := C_p h0 h1
  unfold leavesC
  dsimp only
  rw [e, View.read_writes_full]

theorem leavesA_s0 (h0 : cond0_0 (grid0.coords t)) (h1 : ¬cond0_1 (grid0.coords t)) : (leavesA m c t h0 h1).s0 = k0_pay4 (iblk m c 1 t) :=
  by
  have e : (atA m c t h0 h1).2.2.2.2.1 = [⟨Rect.unit ![0, 0] S128x512.size inb_S128x512_S128x512_0_0, k0_pay4 (iblk m c 1 t)⟩] := A_s0 h0 h1
  unfold leavesA
  dsimp only
  rw [e, View.read_writes_full]

theorem leavesA_s1 (h0 : cond0_0 (grid0.coords t)) (h1 : ¬cond0_1 (grid0.coords t)) : (leavesA m c t h0 h1).s1 = k0_pay5 (iblk m c 3 t) :=
  by
  have e : (atA m c t h0 h1).2.2.2.2.2.1 = [⟨Rect.unit ![0, 0, 0] S4x512x512.size inb_S4x512x512_S4x512x512_0_0_0, k0_pay5 (iblk m c 3 t)⟩] := A_s1 h0 h1
  unfold leavesA
  dsimp only
  rw [e, View.read_writes_full]

theorem leavesA_s2 (h0 : cond0_0 (grid0.coords t)) (h1 : ¬cond0_1 (grid0.coords t)) : (leavesA m c t h0 h1).s2 = k0_pay6 (iblk m c 7 t) :=
  by
  have e : (atA m c t h0 h1).2.2.2.2.2.2.1 = [⟨Rect.unit ![0, 0] S512x256.size inb_S512x256_S512x256_0_0, k0_pay6 (iblk m c 7 t)⟩] := A_s2 h0 h1
  unfold leavesA
  dsimp only
  rw [e, View.read_writes_full]

theorem leavesA_s3 (h0 : cond0_0 (grid0.coords t)) (h1 : ¬cond0_1 (grid0.coords t)) : (leavesA m c t h0 h1).s3 = k0_pay7 (iblk m c 9 t) :=
  by
  have e : (atA m c t h0 h1).2.2.2.2.2.2.2.1 = [⟨Rect.unit ![0, 0] S256x512.size inb_S256x512_S256x512_0_0, k0_pay7 (iblk m c 9 t)⟩] := A_s3 h0 h1
  unfold leavesA
  dsimp only
  rw [e, View.read_writes_full]

theorem leavesA_s4 (h0 : cond0_0 (grid0.coords t)) (h1 : ¬cond0_1 (grid0.coords t)) : (leavesA m c t h0 h1).s4 = k0_pay8 (iblk m c 11 t) :=
  by
  have e : (atA m c t h0 h1).2.2.2.2.2.2.2.2.1 = [⟨Rect.unit ![0, 0, 0] S4x512x512.size inb_S4x512x512_S4x512x512_0_0_0, k0_pay8 (iblk m c 11 t)⟩] := A_s4 h0 h1
  unfold leavesA
  dsimp only
  rw [e, View.read_writes_full]

theorem leavesA_s5 (h0 : cond0_0 (grid0.coords t)) (h1 : ¬cond0_1 (grid0.coords t)) : (leavesA m c t h0 h1).s5 = k0_pay10 (k0_pay9 (iblk m c 15 t)) :=
  by
  have e : (atA m c t h0 h1).2.2.2.2.2.2.2.2.2.1 = [⟨Rect.unit ![0, 0] S512x128.size inb_S512x128_S512x128_0_0, k0_pay10 (k0_pay9 (iblk m c 15 t))⟩] := A_s5 h0 h1
  unfold leavesA
  dsimp only
  rw [e, View.read_writes_full]

theorem leavesA_s6 (h0 : cond0_0 (grid0.coords t)) (h1 : ¬cond0_1 (grid0.coords t)) : (leavesA m c t h0 h1).s6 = k0_pay11 (iblk m c 17 t) :=
  by
  have e : (atA m c t h0 h1).2.2.2.2.2.2.2.2.2.2.1 = [⟨Rect.unit ![0, 0] S1024x64.size inb_S1024x64_S1024x64_0_0, k0_pay11 (iblk m c 17 t)⟩] := A_s6 h0 h1
  unfold leavesA
  dsimp only
  rw [e, View.read_writes_full]

theorem leavesA_s7 (h0 : cond0_0 (grid0.coords t)) (h1 : ¬cond0_1 (grid0.coords t)) : (leavesA m c t h0 h1).s7 = k0_pay12 (iblk m c 18 t) :=
  by
  have e : (atA m c t h0 h1).2.2.2.2.2.2.2.2.2.2.2.1 = [⟨Rect.unit ![0, 0] S64x1024.size inb_S64x1024_S64x1024_0_0, k0_pay12 (iblk m c 18 t)⟩] := A_s7 h0 h1
  unfold leavesA
  dsimp only
  rw [e, View.read_writes_full]

theorem leavesA_y (h0 : cond0_0 (grid0.coords t)) (h1 : ¬cond0_1 (grid0.coords t)) :
    (leavesA m c t h0 h1).y = yt (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay11 (iblk m c 17 t)) (k0_pay12 (iblk m c 18 t)) :=
  by
  have e : (atA m c t h0 h1).1 = [⟨Rect.unit ![0, 0] S2048x256.size inb_S2048x256_S2048x256_0_0, yt (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay11 (iblk m c 17 t)) (k0_pay12 (iblk m c 18 t))⟩] := A_y h0 h1
  unfold leavesA
  dsimp only
  rw [e, View.read_writes_full]

theorem leavesA_x (h0 : cond0_0 (grid0.coords t)) (h1 : ¬cond0_1 (grid0.coords t)) :
    (leavesA m c t h0 h1).x = xt (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay11 (iblk m c 17 t)) (k0_pay12 (iblk m c 18 t)) (k0_pay7 (iblk m c 9 t)) (iblk m c 10 t) (k0_pay8 (iblk m c 11 t)) (iblk m c 12 t) (iblk m c 13 t) (iblk m c 14 t) (k0_pay10 (k0_pay9 (iblk m c 15 t))) (iblk m c 16 t) :=
  by
  have e : (atA m c t h0 h1).2.1 = [⟨Rect.unit ![0, 0] S2048x128.size inb_S2048x128_S2048x128_0_0, xt (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay11 (iblk m c 17 t)) (k0_pay12 (iblk m c 18 t)) (k0_pay7 (iblk m c 9 t)) (iblk m c 10 t) (k0_pay8 (iblk m c 11 t)) (iblk m c 12 t) (iblk m c 13 t) (iblk m c 14 t) (k0_pay10 (k0_pay9 (iblk m c 15 t))) (iblk m c 16 t)⟩] := A_x h0 h1
  unfold leavesA
  dsimp only
  rw [e, View.read_writes_full]

theorem leavesA_s8 (h0 : cond0_0 (grid0.coords t)) (h1 : ¬cond0_1 (grid0.coords t)) :
    (leavesA m c t h0 h1).s8 = ct (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay12 (iblk m c 18 t)) k0_pay13 :=
  by
  have e : (atA m c t h0 h1).2.2.2.2.2.2.2.2.2.2.2.2.1 = ⟨Rect.unit ![0, 0] S8x1024.size inb_S8x1024_S8x1024_0_0, ct (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay12 (iblk m c 18 t)) k0_pay13⟩ :: runA.sl.HS8_1 := A_ct h0 h1
  unfold leavesA
  dsimp only
  rw [e, View.read_writes_full]

theorem leavesA_s9 (h0 : cond0_0 (grid0.coords t)) (h1 : ¬cond0_1 (grid0.coords t)) :
    (leavesA m c t h0 h1).s9 = st (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay11 (iblk m c 17 t)) (k0_pay12 (iblk m c 18 t)) k0_pay14 :=
  by
  have e : (atA m c t h0 h1).2.2.2.2.2.2.2.2.2.2.2.2.2.1 = ⟨Rect.unit ![0, 0] S8x128.size inb_S8x128_S8x128_0_0, st (enc (iblk m c 0 t) (k0_pay4 (iblk m c 1 t)) (iblk m c 2 t) (k0_pay5 (iblk m c 3 t)) (iblk m c 4 t) (iblk m c 5 t) (iblk m c 6 t) (k0_pay6 (iblk m c 7 t)) (iblk m c 8 t)) (iblk m c 19 t) (k0_pay11 (iblk m c 17 t)) (k0_pay12 (iblk m c 18 t)) k0_pay14⟩ :: runA.sl.HS9_1 := A_st h0 h1
  unfold leavesA
  dsimp only
  rw [e, View.read_writes_full]
end Leaves

end Cert.Kern
end
-- ==== Proof.Kern.Held.lean ====
/- What the points leave in the buffers, over the reals. -/
module

public import proofs.«01_k».proof.Proof.Kern.Leaves

@[expose] public section

set_option maxRecDepth 16384

noncomputable section

namespace Cert.Kern

open Cert.Up Cert.Spec Cert.KernelIdeal Cert.KernelIdeal.Gen Cert.KernelIdeal.Body Idealize.ShloMosaic Idealize.ShloMosaic.TcCoe

/-! ### The copies of the first point -/

theorem cast_same {S : Shape} {α : Type} (x : S.Idx → α) (h : S.ShapeCasts S) : shapeCast S x h = x := funext fun i => shapeCast_apply x h i i rfl

theorem pay4_R (x : Vec Ideal S128x512 .f32) : k0_pay4 (F := Ideal) x = x := cast_same _ _
theorem pay5_R (x : Vec Ideal S4x512x512 .f32) : k0_pay5 (F := Ideal) x = x := cast_same _ _
theorem pay6_R (x : Vec Ideal S512x256 .f32) : k0_pay6 (F := Ideal) x = x := cast_same _ _
theorem pay7_R (x : Vec Ideal S256x512 .f32) : k0_pay7 (F := Ideal) x = x := cast_same _ _
theorem pay8_R (x : Vec Ideal S4x512x512 .f32) : k0_pay8 (F := Ideal) x = x := cast_same _ _
theorem pay11_R (x : Vec Ideal S1024x64 .f32) : k0_pay11 (F := Ideal) x = x := cast_same _ _
theorem pay10_R (x : Vec Ideal S512x128 .f32) : k0_pay10 (F := Ideal) (k0_pay9 x) = x := cast_same _ _
theorem pay12_R (x : Vec Ideal S64x1024 .f32) : k0_pay12 (F := Ideal) x = x := (cast_same _ _).trans (cast_same _ _)
theorem pay13_R : k0_pay13 (F := Ideal) = R2 fun _ _ => 0 := (cast_same _ _).trans b_zero
theorem pay14_R : k0_pay14 (F := Ideal) = R2 fun _ _ => 0 := (cast_same _ _).trans b_zero

/-! ### The blocks and what is held -/

section Inv
variable (X : Fin 8192 → Fin 128 → ℝ) (E : Net 128 256) (D : Net 256 128) (cb : Fin 1024 → Fin 64 → ℝ)

/-- The rows of tile `n`. -/
def tile (n : ℕ) : Fin 2048 → Fin 128 → ℝ := fun r => X ⟨(2048 * n + r.val) % 8192, Nat.mod_lt _ (by norm_num)⟩
/-- The encoded rows of tile `n`. -/
def coded (n : ℕ) : Fin 2048 → Fin 256 → ℝ := fun r => E.run (tile X n r)

/-- The blocks that every point is given. -/
structure Blocks (m : (ℓ : Loc nD τ sig) → Buf (Elt Ideal) ℓ) (c : Dev nD) : Prop where
  b0 (t : Fin cfg0.N) : (iblk m c 0 t : Vec Ideal S2048x128 .f32) = R2 (tile X t.val)
  b1 (t : Fin cfg0.N) : (iblk m c 1 t : Vec Ideal S128x512 .f32) = R2 E.wi
  b2 (t : Fin cfg0.N) : (iblk m c 2 t : Vec Ideal S1x512 .f32) = R2 fun _ : Fin 1 => E.bi
  b3 (t : Fin cfg0.N) : (iblk m c 3 t : Vec Ideal S4x512x512 .f32) = R3 E.wr
  b4 (t : Fin cfg0.N) : (iblk m c 4 t : Vec Ideal S4x512 .f32) = R2 E.br
  b5 (t : Fin cfg0.N) : (iblk m c 5 t : Vec Ideal S4x512 .f32) = R2 E.gr
  b6 (t : Fin cfg0.N) : (iblk m c 6 t : Vec Ideal S4x512 .f32) = R2 E.cr
  b7 (t : Fin cfg0.N) : (iblk m c 7 t : Vec Ideal S512x256 .f32) = R2 E.wo
  b8 (t : Fin cfg0.N) : (iblk m c 8 t : Vec Ideal S1x256 .f32) = R2 fun _ : Fin 1 => E.bo
  b9 (t : Fin cfg0.N) : (iblk m c 9 t : Vec Ideal S256x512 .f32) = R2 D.wi
  b10 (t : Fin cfg0.N) : (iblk m c 10 t : Vec Ideal S1x512 .f32) = R2 fun _ : Fin 1 => D.bi
  b11 (t : Fin cfg0.N) : (iblk m c 11 t : Vec Ideal S4x512x512 .f32) = R3 D.wr
  b12 (t : Fin cfg0.N) : (iblk m c 12 t : Vec Ideal S4x512 .f32) = R2 D.br
  b13 (t : Fin cfg0.N) : (iblk m c 13 t : Vec Ideal S4x512 .f32) = R2 D.gr
  b14 (t : Fin cfg0.N) : (iblk m c 14 t : Vec Ideal S4x512 .f32) = R2 D.cr
  b15 (t : Fin cfg0.N) : (iblk m c 15 t : Vec Ideal S512x128 .f32) = R2 D.wo
  b16 (t : Fin cfg0.N) : (iblk m c 16 t : Vec Ideal S1x128 .f32) = R2 fun _ : Fin 1 => D.bo
  b17 (t : Fin cfg0.N) : (iblk m c 17 t : Vec Ideal S1024x64 .f32) = R2 cb
  b18 (t : Fin cfg0.N) : (iblk m c 18 t : Vec Ideal S64x1024 .f32) = R2 (twice cb)
  b19 (t : Fin cfg0.N) : (iblk m c 19 t : Vec Ideal S1x1024 .f32) = R2 (lens cb)

/-- What is held after point `n`. -/
structure Inv (n : ℕ) (h : Held Ideal) : Prop where
  y : h.y = R2 fun r => quant cb (coded X E n r)
  x : h.x = R2 fun r => D.run (quant cb (coded X E n r))
  s0 : h.s0 = R2 E.wi
  s1 : h.s1 = R3 E.wr
  s2 : h.s2 = R2 E.wo
  s3 : h.s3 = R2 D.wi
  s4 : h.s4 = R3 D.wr
  s5 : h.s5 = R2 D.wo
  s6 : h.s6 = R2 cb
  s7 : h.s7 = R2 (twice cb)
  s8 : h.s8 = R2 fun _ k => ∑ i ∈ Finset.range (n + 1), tileCount (coded X E i) cb k
  s9 : h.s9 = R2 fun _ _ => ∑ i ∈ Finset.range (n + 1), tileMoved (coded X E i) cb

variable {X E D cb} {m : (ℓ : Loc nD τ sig) → Buf (Elt Ideal) ℓ} {c : Dev nD}

theorem enc_tile (hb : Blocks X E D cb m c) (t : Fin cfg0.N) :
    enc (F := Ideal) (iblk m c 0 t) (R2 E.wi) (iblk m c 2 t) (R3 E.wr) (iblk m c 4 t) (iblk m c 5 t) (iblk m c 6 t) (R2 E.wo) (iblk m c 8 t) = R2 (coded X E t.val) := by
  rw [hb.b0, hb.b2, hb.b4, hb.b5, hb.b6, hb.b8]
  exact enc_R (tile X t.val) E

theorem inv_A (hb : Blocks X E D cb m c) (t : Fin cfg0.N) (ht : t.val = 0) (h0 : cond0_0 (grid0.coords t)) (h1 : ¬cond0_1 (grid0.coords t)) :
    Inv X E D cb t.val (leavesA m c t h0 h1) where
  y := by rw [leavesA_y, pay4_R, pay5_R, pay6_R, pay11_R, pay12_R, hb.b1, hb.b3, hb.b7, enc_tile hb, hb.b17, hb.b18, hb.b19]; exact yt_R _ cb
  x := by
    rw [leavesA_x, pay4_R, pay5_R, pay6_R, pay7_R, pay8_R, pay10_R, pay11_R, pay12_R, hb.b1, hb.b3, hb.b7, enc_tile hb, hb.b17, hb.b18, hb.b19, hb.b9, hb.b10, hb.b11, hb.b12, hb.b13, hb.b14,
      hb.b15, hb.b16]
    exact xt_R _ cb D
  s0 := by rw [leavesA_s0, pay4_R, hb.b1]
  s1 := by rw [leavesA_s1, pay5_R, hb.b3]
  s2 := by rw [leavesA_s2, pay6_R, hb.b7]
  s3 := by rw [leavesA_s3, pay7_R, hb.b9]
  s4 := by rw [leavesA_s4, pay8_R, hb.b11]
  s5 := by rw [leavesA_s5, pay10_R, hb.b15]
  s6 := by rw [leavesA_s6, pay11_R, hb.b17]
  s7 := by rw [leavesA_s7, pay12_R, hb.b18]
  s8 := by
    rw [leavesA_s8, pay4_R, pay5_R, pay6_R, pay12_R, pay13_R, hb.b1, hb.b3, hb.b7, enc_tile hb, hb.b18, hb.b19, ht]
    refine (ct_R _ cb _).trans (congrArg R2 (funext fun _ => funext fun k => ?_))
    rw [Finset.sum_range_one, zero_add]
  s9 := by
    rw [leavesA_s9, pay4_R, pay5_R, pay6_R, pay11_R, pay12_R, pay14_R, hb.b1, hb.b3, hb.b7, enc_tile hb, hb.b17, hb.b18, hb.b19, ht]
    refine (st_R _ cb _).trans (congrArg R2 (funext fun _ => funext fun k => ?_))
    rw [Finset.sum_range_one, zero_add]

theorem inv_B (hb : Blocks X E D cb m c) (t : Fin cfg0.N) (n : ℕ) (ht : t.val = n + 1) (h0 : ¬cond0_0 (grid0.coords t)) (h1 : ¬cond0_1 (grid0.coords t)) (h : Held Ideal)
    (hi : Inv X E D cb n h) : Inv X E D cb t.val (leavesB m c t h0 h1 h) where
  y := by rw [leavesB_y, hi.s0, hi.s1, hi.s2, hi.s6, hi.s7, enc_tile hb, hb.b19]; exact yt_R _ cb
  x := by
    rw [leavesB_x, hi.s0, hi.s1, hi.s2, hi.s3, hi.s4, hi.s5, hi.s6, hi.s7, enc_tile hb, hb.b19, hb.b10, hb.b12, hb.b13, hb.b14, hb.b16]
    exact xt_R _ cb D
  s0 := by unfold leavesB; dsimp only; exact hi.s0
  s1 := by unfold leavesB; dsimp only; exact hi.s1
  s2 := by unfold leavesB; dsimp only; exact hi.s2
  s3 := by unfold leavesB; dsimp only; exact hi.s3
  s4 := by unfold leavesB; dsimp only; exact hi.s4
  s5 := by unfold leavesB; dsimp only; exact hi.s5
  s6 := by unfold leavesB; dsimp only; exact hi.s6
  s7 := by unfold leavesB; dsimp only; exact hi.s7
  s8 := by
    rw [leavesB_s8, hi.s0, hi.s1, hi.s2, hi.s7, hi.s8, enc_tile hb, hb.b19, ht]
    refine (ct_R _ cb _).trans (congrArg R2 (funext fun _ => funext fun k => ?_))
    rw [Finset.sum_range_succ _ (n + 1)]
  s9 := by
    rw [leavesB_s9, hi.s0, hi.s1, hi.s2, hi.s6, hi.s7, hi.s9, enc_tile hb, hb.b19, ht]
    refine (st_R _ cb _).trans (congrArg R2 (funext fun _ => funext fun k => ?_))
    rw [Finset.sum_range_succ _ (n + 1)]

theorem inv_C (hb : Blocks X E D cb m c) (t : Fin cfg0.N) (n : ℕ) (ht : t.val = n + 1) (h0 : ¬cond0_0 (grid0.coords t)) (h1 : cond0_1 (grid0.coords t)) (h : Held Ideal)
    (hi : Inv X E D cb n h) : Inv X E D cb t.val (leavesC m c t h0 h1 h) where
  y := by rw [leavesC_y, hi.s0, hi.s1, hi.s2, hi.s6, hi.s7, enc_tile hb, hb.b19]; exact yt_R _ cb
  x := by
    rw [leavesC_x, hi.s0, hi.s1, hi.s2, hi.s3, hi.s4, hi.s5, hi.s6, hi.s7, enc_tile hb, hb.b19, hb.b10, hb.b12, hb.b13, hb.b14, hb.b16]
    exact xt_R _ cb D
  s0 := by unfold leavesC; dsimp only; exact hi.s0
  s1 := by unfold leavesC; dsimp only; exact hi.s1
  s2 := by unfold leavesC; dsimp only; exact hi.s2
  s3 := by unfold leavesC; dsimp only; exact hi.s3
  s4 := by unfold leavesC; dsimp only; exact hi.s4
  s5 := by unfold leavesC; dsimp only; exact hi.s5
  s6 := by unfold leavesC; dsimp only; exact hi.s6
  s7 := by unfold leavesC; dsimp only; exact hi.s7
  s8 := by
    rw [leavesC_s8, hi.s0, hi.s1, hi.s2, hi.s7, hi.s8, enc_tile hb, hb.b19, ht]
    refine (ct_R _ cb _).trans (congrArg R2 (funext fun _ => funext fun k => ?_))
    rw [Finset.sum_range_succ _ (n + 1)]
  s9 := by
    rw [leavesC_s9, hi.s0, hi.s1, hi.s2, hi.s6, hi.s7, hi.s9, enc_tile hb, hb.b19, ht]
    refine (st_R _ cb _).trans (congrArg R2 (funext fun _ => funext fun k => ?_))
    rw [Finset.sum_range_succ _ (n + 1)]

/-- The four points keep it. -/
theorem inv_held (hb : Blocks X E D cb m c) : ∀ (n : ℕ) (hn : n < cfg0.N), Inv X E D cb n (held m c n hn)
  | 0, hn => by
    have h0 : cond0_0 (grid0.coords ⟨0, hn⟩) := (hcond0_0 ⟨0, hn⟩).mpr rfl
    have h1 : ¬cond0_1 (grid0.coords ⟨0, hn⟩) := fun h => absurd ((hcond0_1 ⟨0, hn⟩).mp h) (by norm_num)
    rw [held_A m c ⟨0, hn⟩ h0 h1]
    exact inv_A hb ⟨0, hn⟩ rfl h0 h1
  | n + 1, hn => by
    have hi := inv_held hb n (Nat.lt_of_succ_lt hn)
    have h4 : n + 1 < 4 := hn
    have h0 : ¬cond0_0 (grid0.coords ⟨n + 1, hn⟩) := fun h => by
      have := (hcond0_0 ⟨n + 1, hn⟩).mp h
      simp only at this
      omega
    by_cases h1 : cond0_1 (grid0.coords ⟨n + 1, hn⟩)
    · rw [held_C m c ⟨n + 1, hn⟩ h0 h1]
      exact inv_C hb ⟨n + 1, hn⟩ n rfl h0 h1 _ hi
    · rw [held_B m c ⟨n + 1, hn⟩ h0 h1]
      exact inv_B hb ⟨n + 1, hn⟩ n rfl h0 h1 _ hi

/-- The last point. -/
def last : Fin cfg0.N := ⟨3, by decide⟩

theorem held_l (hb : Blocks X E D cb m c) :
    (held m c 3 last.isLt).l = R2 fun _ _ => lossOf (∑ i ∈ Finset.range 4, tileMoved (coded X E i) cb) := by
  have h0 : ¬cond0_0 (grid0.coords last) := fun h => absurd ((hcond0_0 last).mp h) (by norm_num [last])
  have h1 : cond0_1 (grid0.coords last) := (hcond0_1 last).mpr rfl
  have hc : held m c 3 last.isLt = leavesC m c last h0 h1 (held m c 2 (by decide)) := held_C m c last h0 h1
  have e := (inv_held hb 3 last.isLt).s9
  rw [hc, leavesC_s9] at e
  rw [hc, leavesC_l, e]
  exact loss_R _

theorem held_p (hb : Blocks X E D cb m c) :
    (held m c 3 last.isLt).p = R2 fun _ _ => perpOf fun k => ∑ i ∈ Finset.range 4, tileCount (coded X E i) cb k := by
  have h0 : ¬cond0_0 (grid0.coords last) := fun h => absurd ((hcond0_0 last).mp h) (by norm_num [last])
  have h1 : cond0_1 (grid0.coords last) := (hcond0_1 last).mpr rfl
  have hc : held m c 3 last.isLt = leavesC m c last h0 h1 (held m c 2 (by decide)) := held_C m c last h0 h1
  have e := (inv_held hb 3 last.isLt).s8
  rw [hc, leavesC_s8] at e
  rw [hc, leavesC_p, e]
  have hr : (fun y : S1x1024.Idx => (R2 (fun (_ : Fin 8) (k : Fin 1024) => ∑ i ∈ Finset.range 4, tileCount (coded X E i) cb k) : S8x1024.Idx → EReal)
      ((Rect.unit (s := S8x1024) ![0, 0] ![1, 1024] inb_S8x1024_S1x1024_0_0).toLoadRect.idx y))
      = R2 fun (_ : Fin 1) k => ∑ i ∈ Finset.range 4, tileCount (coded X E i) cb k := by
    funext y
    refine congrArg (fun k : Fin 1024 => ((∑ i ∈ Finset.range 4, tileCount (coded X E i) cb k : ℝ) : EReal)) (Fin.ext ?_)
    show 0 + 1 * (y 1).val = (y 1).val
    omega
  refine (congrArg (k0_pay3 (F := Ideal)) hr).trans (perp_R (fun _ k => ∑ i ∈ Finset.range 4, tileCount (coded X E i) cb k) fun _ k => ?_)
  exact Finset.sum_nonneg fun i _ => Finset.sum_nonneg fun r _ => Finset.sum_nonneg fun g _ => by
    unfold chosen
    split <;> norm_num
end Inv

end Cert.Kern
end
-- ==== Proof.Kern.Feed.lean ====
/- The blocks that the windows of the kernel read, when the arguments are arrays of reals. -/
module

public import proofs.«01_k».proof.Proof.Kern.Held
public import Idealize.ShloMosaic.Lib.Pipeline.ValueKit
public import Idealize.ShloMosaic.Lib.Claim
public import Idealize.ShloMosaic.Lib.StableHlo.RunRead

@[expose] public section

set_option maxRecDepth 16384

noncomputable section

namespace Cert.Kern

open Cert.Up Cert.Spec Cert.KernelIdeal Cert.KernelIdeal.Gen Cert.KernelIdeal.Body Idealize.ShloMosaic Idealize.ShloMosaic.TcCoe

/-- The arguments of the kernel are these arrays of reals. -/
structure Given (X : Fin 8192 → Fin 128 → ℝ) (E : Net 128 256) (D : Net 256 128) (cb : Fin 1024 → Fin 64 → ℝ)
    (m : (ℓ : Loc nD τ sig) → Buf (Elt Ideal) ℓ) (c : Dev nD) : Prop where
  a0 : m ((c.tc : Thread nD τ).loc main_arg0) = R2 X
  a1 : m ((c.tc : Thread nD τ).loc main_arg1) = R2 E.wi
  a2 : m ((c.tc : Thread nD τ).loc main_arg2) = R1 E.bi
  a3 : m ((c.tc : Thread nD τ).loc main_arg3) = R3 E.wr
  a4 : m ((c.tc : Thread nD τ).loc main_arg4) = R2 E.br
  a5 : m ((c.tc : Thread nD τ).loc main_arg5) = R2 E.gr
  a6 : m ((c.tc : Thread nD τ).loc main_arg6) = R2 E.cr
  a7 : m ((c.tc : Thread nD τ).loc main_arg7) = R2 E.wo
  a8 : m ((c.tc : Thread nD τ).loc main_arg8) = R1 E.bo
  a9 : m ((c.tc : Thread nD τ).loc main_arg9) = R2 D.wi
  a10 : m ((c.tc : Thread nD τ).loc main_arg10) = R1 D.bi
  a11 : m ((c.tc : Thread nD τ).loc main_arg11) = R3 D.wr
  a12 : m ((c.tc : Thread nD τ).loc main_arg12) = R2 D.br
  a13 : m ((c.tc : Thread nD τ).loc main_arg13) = R2 D.gr
  a14 : m ((c.tc : Thread nD τ).loc main_arg14) = R2 D.cr
  a15 : m ((c.tc : Thread nD τ).loc main_arg15) = R2 D.wo
  a16 : m ((c.tc : Thread nD τ).loc main_arg16) = R1 D.bo
  a17 : m ((c.tc : Thread nD τ).loc main_arg17) = R2 cb

variable {X : Fin 8192 → Fin 128 → ℝ} {E : Net 128 256} {D : Net 256 128} {cb : Fin 1024 → Fin 64 → ℝ}
  {m : (ℓ : Loc nD τ sig) → Buf (Elt Ideal) ℓ} {c : Dev nD}

/-! ### What the operations before the launch compute -/

section Before
variable (σ : Valuation τ sig (Elt Ideal))

theorem before_v5 : StableHlo.after hostOps0 σ (main_v5 : DevRef τ sig) = shapeCast S1x512 (σ main_arg2) shapeCasts_S512_S1x512 := by
  unfold hostOps0
  after_reads_simp
  rfl
theorem before_v6 : StableHlo.after hostOps0 σ (main_v6 : DevRef τ sig) = shapeCast S1x256 (σ main_arg8) shapeCasts_S256_S1x256 := by
  unfold hostOps0
  after_reads_simp
  rfl
theorem before_v7 : StableHlo.after hostOps0 σ (main_v7 : DevRef τ sig) = shapeCast S1x512 (σ main_arg10) shapeCasts_S512_S1x512 := by
  unfold hostOps0
  after_reads_simp
  rfl
theorem before_v8 : StableHlo.after hostOps0 σ (main_v8 : DevRef τ sig) = shapeCast S1x128 (σ main_arg16) shapeCasts_S128_S1x128 := by
  unfold hostOps0
  after_reads_simp
  rfl
theorem before_v1 : StableHlo.after hostOps0 σ (main_v1 : DevRef τ sig)
    = transpose S64x1024 [1, 0] (addf (F := Ideal) (φ := .f32) (σ main_arg17) (σ main_arg17)) transposes_S1024x64_S64x1024_1_0 := by
  unfold hostOps0
  after_reads_simp
theorem before_v4 : StableHlo.after hostOps0 σ (main_v4 : DevRef τ sig)
    = shapeCast S1x1024 (Host.reduceAdd (F := Ideal) (φ := .f32) (mulf (F := Ideal) (φ := .f32) (σ main_arg17) (σ main_arg17))
        (constant S_ .f32 0x00000000#32) reducesTo_S1024x64_S1024_d1 h_S_) shapeCasts_S1024_S1x1024 := by
  unfold hostOps0
  after_reads_simp
  rfl
end Before

theorem pre_bi (h : Given X E D cb m c) : (V m c main_v5 : Vec Ideal S1x512 .f32) = R2 fun _ : Fin 1 => E.bi :=
  (before_v5 _).trans ((congrArg (shapeCast S1x512 · _) h.a2).trans (shapeCast_row E.bi _))
theorem pre_bo (h : Given X E D cb m c) : (V m c main_v6 : Vec Ideal S1x256 .f32) = R2 fun _ : Fin 1 => E.bo :=
  (before_v6 _).trans ((congrArg (shapeCast S1x256 · _) h.a8).trans (shapeCast_row E.bo _))
theorem pre_di (h : Given X E D cb m c) : (V m c main_v7 : Vec Ideal S1x512 .f32) = R2 fun _ : Fin 1 => D.bi :=
  (before_v7 _).trans ((congrArg (shapeCast S1x512 · _) h.a10).trans (shapeCast_row D.bi _))
theorem pre_do (h : Given X E D cb m c) : (V m c main_v8 : Vec Ideal S1x128 .f32) = R2 fun _ : Fin 1 => D.bo :=
  (before_v8 _).trans ((congrArg (shapeCast S1x128 · _) h.a16).trans (shapeCast_row D.bo _))
theorem pre_twice (h : Given X E D cb m c) : (V m c main_v1 : Vec Ideal S64x1024 .f32) = R2 (twice cb) := by
  refine (before_v1 _).trans ((congrArg (fun a => transpose S64x1024 [1, 0] (addf (F := Ideal) (φ := .f32) a a) _) h.a17).trans ?_)
  rw [addf_R2, transpose_R2]
  unfold twice
  simp only [two_mul]
theorem pre_lens (h : Given X E D cb m c) : (V m c main_v4 : Vec Ideal S1x1024 .f32) = R2 (lens cb) := by
  refine (before_v4 _).trans ((congrArg (fun a => shapeCast S1x1024 (Host.reduceAdd (F := Ideal) (φ := .f32)
    (mulf (F := Ideal) (φ := .f32) a a) _ _ _) _) h.a17).trans ?_)
  rw [mulf_R2, show constant (F := Ideal) S_ .f32 0x00000000#32 = R0 0 from funext fun _ => w_zero, hostSum1_R2, shapeCast_row]
  unfold lens
  simp only [zero_add]

/-! ### The windows -/

theorem at_1 : ∀ t : Fin cfg0.N, win0_1.index t = ![0, 0] := (by decide +kernel : ∀ t : Fin grid0.N, _)
theorem w1 (t : Fin cfg0.N) : (iblk m c 1 t : Vec Ideal S128x512 .f32) = V m c main_arg1 := by
  funext y
  blk_simp [iblk, at_1 t]
  refine congrArg (V m c main_arg1) ?_
  blk_ext [at_1 t]
theorem at_2 : ∀ t : Fin cfg0.N, win0_2.index t = ![0, 0] := (by decide +kernel : ∀ t : Fin grid0.N, _)
theorem w2 (t : Fin cfg0.N) : (iblk m c 2 t : Vec Ideal S1x512 .f32) = V m c main_v5 := by
  funext y
  blk_simp [iblk, at_2 t]
  refine congrArg (V m c main_v5) ?_
  blk_ext [at_2 t]
theorem at_3 : ∀ t : Fin cfg0.N, win0_3.index t = ![0, 0, 0] := (by decide +kernel : ∀ t : Fin grid0.N, _)
theorem w3 (t : Fin cfg0.N) : (iblk m c 3 t : Vec Ideal S4x512x512 .f32) = V m c main_arg3 := by
  funext y
  blk_simp [iblk, at_3 t]
  refine congrArg (V m c main_arg3) ?_
  blk_ext [at_3 t]
theorem at_4 : ∀ t : Fin cfg0.N, win0_4.index t = ![0, 0] := (by decide +kernel : ∀ t : Fin grid0.N, _)
theorem w4 (t : Fin cfg0.N) : (iblk m c 4 t : Vec Ideal S4x512 .f32) = V m c main_arg4 := by
  funext y
  blk_simp [iblk, at_4 t]
  refine congrArg (V m c main_arg4) ?_
  blk_ext [at_4 t]
theorem at_5 : ∀ t : Fin cfg0.N, win0_5.index t = ![0, 0] := (by decide +kernel : ∀ t : Fin grid0.N, _)
theorem w5 (t : Fin cfg0.N) : (iblk m c 5 t : Vec Ideal S4x512 .f32) = V m c main_arg5 := by
  funext y
  blk_simp [iblk, at_5 t]
  refine congrArg (V m c main_arg5) ?_
  blk_ext [at_5 t]
theorem at_6 : ∀ t : Fin cfg0.N, win0_6.index t = ![0, 0] := (by decide +kernel : ∀ t : Fin grid0.N, _)
theorem w6 (t : Fin cfg0.N) : (iblk m c 6 t : Vec Ideal S4x512 .f32) = V m c main_arg6 := by
  funext y
  blk_simp [iblk, at_6 t]
  refine congrArg (V m c main_arg6) ?_
  blk_ext [at_6 t]
theorem at_7 : ∀ t : Fin cfg0.N, win0_7.index t = ![0, 0] := (by decide +kernel : ∀ t : Fin grid0.N, _)
theorem w7 (t : Fin cfg0.N) : (iblk m c 7 t : Vec Ideal S512x256 .f32) = V m c main_arg7 := by
  funext y
  blk_simp [iblk, at_7 t]
  refine congrArg (V m c main_arg7) ?_
  blk_ext [at_7 t]
theorem at_8 : ∀ t : Fin cfg0.N, win0_8.index t = ![0, 0] := (by decide +kernel : ∀ t : Fin grid0.N, _)
theorem w8 (t : Fin cfg0.N) : (iblk m c 8 t : Vec Ideal S1x256 .f32) = V m c main_v6 := by
  funext y
  blk_simp [iblk, at_8 t]
  refine congrArg (V m c main_v6) ?_
  blk_ext [at_8 t]
theorem at_9 : ∀ t : Fin cfg0.N, win0_9.index t = ![0, 0] := (by decide +kernel : ∀ t : Fin grid0.N, _)
theorem w9 (t : Fin cfg0.N) : (iblk m c 9 t : Vec Ideal S256x512 .f32) = V m c main_arg9 := by
  funext y
  blk_simp [iblk, at_9 t]
  refine congrArg (V m c main_arg9) ?_
  blk_ext [at_9 t]
theorem at_10 : ∀ t : Fin cfg0.N, win0_10.index t = ![0, 0] := (by decide +kernel : ∀ t : Fin grid0.N, _)
theorem w10 (t : Fin cfg0.N) : (iblk m c 10 t : Vec Ideal S1x512 .f32) = V m c main_v7 := by
  funext y
  blk_simp [iblk, at_10 t]
  refine congrArg (V m c main_v7) ?_
  blk_ext [at_10 t]
theorem at_11 : ∀ t : Fin cfg0.N, win0_11.index t = ![0, 0, 0] := (by decide +kernel : ∀ t : Fin grid0.N, _)
theorem w11 (t : Fin cfg0.N) : (iblk m c 11 t : Vec Ideal S4x512x512 .f32) = V m c main_arg11 := by
  funext y
  blk_simp [iblk, at_11 t]
  refine congrArg (V m c main_arg11) ?_
  blk_ext [at_11 t]
theorem at_12 : ∀ t : Fin cfg0.N, win0_12.index t = ![0, 0] := (by decide +kernel : ∀ t : Fin grid0.N, _)
theorem w12 (t : Fin cfg0.N) : (iblk m c 12 t : Vec Ideal S4x512 .f32) = V m c main_arg12 := by
  funext y
  blk_simp [iblk, at_12 t]
  refine congrArg (V m c main_arg12) ?_
  blk_ext [at_12 t]
theorem at_13 : ∀ t : Fin cfg0.N, win0_13.index t = ![0, 0] := (by decide +kernel : ∀ t : Fin grid0.N, _)
theorem w13 (t : Fin cfg0.N) : (iblk m c 13 t : Vec Ideal S4x512 .f32) = V m c main_arg13 := by
  funext y
  blk_simp [iblk, at_13 t]
  refine congrArg (V m c main_arg13) ?_
  blk_ext [at_13 t]
theorem at_14 : ∀ t : Fin cfg0.N, win0_14.index t = ![0, 0] := (by decide +kernel : ∀ t : Fin grid0.N, _)
theorem w14 (t : Fin cfg0.N) : (iblk m c 14 t : Vec Ideal S4x512 .f32) = V m c main_arg14 := by
  funext y
  blk_simp [iblk, at_14 t]
  refine congrArg (V m c main_arg14) ?_
  blk_ext [at_14 t]
theorem at_15 : ∀ t : Fin cfg0.N, win0_15.index t = ![0, 0] := (by decide +kernel : ∀ t : Fin grid0.N, _)
theorem w15 (t : Fin cfg0.N) : (iblk m c 15 t : Vec Ideal S512x128 .f32) = V m c main_arg15 := by
  funext y
  blk_simp [iblk, at_15 t]
  refine congrArg (V m c main_arg15) ?_
  blk_ext [at_15 t]
theorem at_16 : ∀ t : Fin cfg0.N, win0_16.index t = ![0, 0] := (by decide +kernel : ∀ t : Fin grid0.N, _)
theorem w16 (t : Fin cfg0.N) : (iblk m c 16 t : Vec Ideal S1x128 .f32) = V m c main_v8 := by
  funext y
  blk_simp [iblk, at_16 t]
  refine congrArg (V m c main_v8) ?_
  blk_ext [at_16 t]
theorem at_17 : ∀ t : Fin cfg0.N, win0_17.index t = ![0, 0] := (by decide +kernel : ∀ t : Fin grid0.N, _)
theorem w17 (t : Fin cfg0.N) : (iblk m c 17 t : Vec Ideal S1024x64 .f32) = V m c main_arg17 := by
  funext y
  blk_simp [iblk, at_17 t]
  refine congrArg (V m c main_arg17) ?_
  blk_ext [at_17 t]
theorem at_18 : ∀ t : Fin cfg0.N, win0_18.index t = ![0, 0] := (by decide +kernel : ∀ t : Fin grid0.N, _)
theorem w18 (t : Fin cfg0.N) : (iblk m c 18 t : Vec Ideal S64x1024 .f32) = V m c main_v1 := by
  funext y
  blk_simp [iblk, at_18 t]
  refine congrArg (V m c main_v1) ?_
  blk_ext [at_18 t]
theorem at_19 : ∀ t : Fin cfg0.N, win0_19.index t = ![0, 0] := (by decide +kernel : ∀ t : Fin grid0.N, _)
theorem w19 (t : Fin cfg0.N) : (iblk m c 19 t : Vec Ideal S1x1024 .f32) = V m c main_v4 := by
  funext y
  blk_simp [iblk, at_19 t]
  refine congrArg (V m c main_v4) ?_
  blk_ext [at_19 t]
theorem at_0 : ∀ t : Fin cfg0.N, win0_0.index t = ![t.val, 0] := (by decide +kernel : ∀ t : Fin grid0.N, _)
theorem w0 (h : Given X E D cb m c) (t : Fin cfg0.N) : (iblk m c 0 t : Vec Ideal S2048x128 .f32) = R2 (tile X t.val) := by
  funext y
  have ht : t.val < 4 := lt_of_lt_of_eq t.isLt N_0
  have hy : (y 0).val < 2048 := (y 0).isLt
  blk_simp [iblk, at_0 t]
  rw [(V_main_arg0 m c).trans h.a0]
  refine congrArg (fun x : ℝ => (x : EReal)) ?_
  refine congr (congrArg X (Fin.ext ?_)) (Fin.ext ?_)
  · blk_simp [at_0 t]
    change t.val * 2048 + (y 0).val = (2048 * t.val + (y 0).val) % 8192
    omega
  · blk_simp [at_0 t]

theorem blocks (h : Given X E D cb m c) : Blocks X E D cb m c where
  b0 := w0 h
  b1 t := (w1 t).trans ((V_main_arg1 m c).trans h.a1)
  b2 t := (w2 t).trans (pre_bi h)
  b3 t := (w3 t).trans ((V_main_arg3 m c).trans h.a3)
  b4 t := (w4 t).trans ((V_main_arg4 m c).trans h.a4)
  b5 t := (w5 t).trans ((V_main_arg5 m c).trans h.a5)
  b6 t := (w6 t).trans ((V_main_arg6 m c).trans h.a6)
  b7 t := (w7 t).trans ((V_main_arg7 m c).trans h.a7)
  b8 t := (w8 t).trans (pre_bo h)
  b9 t := (w9 t).trans ((V_main_arg9 m c).trans h.a9)
  b10 t := (w10 t).trans (pre_di h)
  b11 t := (w11 t).trans ((V_main_arg11 m c).trans h.a11)
  b12 t := (w12 t).trans ((V_main_arg12 m c).trans h.a12)
  b13 t := (w13 t).trans ((V_main_arg13 m c).trans h.a13)
  b14 t := (w14 t).trans ((V_main_arg14 m c).trans h.a14)
  b15 t := (w15 t).trans ((V_main_arg15 m c).trans h.a15)
  b16 t := (w16 t).trans (pre_do h)
  b17 t := (w17 t).trans ((V_main_arg17 m c).trans h.a17)
  b18 t := (w18 t).trans (pre_twice h)
  b19 t := (w19 t).trans (pre_lens h)

end Cert.Kern
end
-- ==== Proof.Kern.Reals.lean ====
/- Arguments that the precondition admits are arrays of reals. -/
module

public import proofs.«01_k».proof.Defs
public import proofs.«01_k».proof.Proof.Math.Finite
public import proofs.«01_k».proof.Proof.Kern.Feed

@[expose] public section

set_option maxRecDepth 16384

noncomputable section

namespace Cert.Kern

open Cert.Up Cert.Spec Cert.KernelIdeal Idealize.ShloMosaic

/-- Every argument is an array of reals. -/
theorem reals [Cert.Pre_finite.Facts] {m : (ℓ : Loc nD τ sig) → Buf (Elt Ideal) ℓ} (h : Cert.Pre_KernelIdeal_finite m) (c : Dev nD) :
    ∃ X E D cb, Given X E D cb m c := by
  have h := congrFun ((tests _ _ _ _ _ _ _ _ _ _ _ _ _ _ _ _ _ _).symm.trans (h c)) (fun k => k.elim0)
  obtain ⟨h, h17⟩ := and_one h
  obtain ⟨h, h16⟩ := and_one h
  obtain ⟨h, h15⟩ := and_one h
  obtain ⟨h, h14⟩ := and_one h
  obtain ⟨h, h13⟩ := and_one h
  obtain ⟨h, h12⟩ := and_one h
  obtain ⟨h, h11⟩ := and_one h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h, h1⟩ := and_one h
  obtain ⟨X, e0⟩ := exists_R2 (finite_of_small h)
  obtain ⟨wi, e1⟩ := exists_R2 (finite_of_small h1)
  obtain ⟨bi, e2⟩ := exists_R1 (finite_of_small h2)
  obtain ⟨wr, e3⟩ := exists_R3 (finite_of_small h3)
  obtain ⟨br, e4⟩ := exists_R2 (finite_of_small h4)
  obtain ⟨gr, e5⟩ := exists_R2 (finite_of_small h5)
  obtain ⟨cr, e6⟩ := exists_R2 (finite_of_small h6)
  obtain ⟨wo, e7⟩ := exists_R2 (finite_of_small h7)
  obtain ⟨bo, e8⟩ := exists_R1 (finite_of_small h8)
  obtain ⟨wi₂, e9⟩ := exists_R2 (finite_of_small h9)
  obtain ⟨bi₂, e10⟩ := exists_R1 (finite_of_small h10)
  obtain ⟨wr₂, e11⟩ := exists_R3 (finite_of_small h11)
  obtain ⟨br₂, e12⟩ := exists_R2 (finite_of_small h12)
  obtain ⟨gr₂, e13⟩ := exists_R2 (finite_of_small h13)
  obtain ⟨cr₂, e14⟩ := exists_R2 (finite_of_small h14)
  obtain ⟨wo₂, e15⟩ := exists_R2 (finite_of_small h15)
  obtain ⟨bo₂, e16⟩ := exists_R1 (finite_of_small h16)
  obtain ⟨cb, e17⟩ := exists_R2 (finite_of_small h17)
  exact ⟨X, ⟨wi, bi, wr, br, gr, cr, wo, bo⟩, ⟨wi₂, bi₂, wr₂, br₂, gr₂, cr₂, wo₂, bo₂⟩, cb,
    ⟨e0, e1, e2, e3, e4, e5, e6, e7, e8, e9, e10, e11, e12, e13, e14, e15, e16, e17⟩⟩

end Cert.Kern
end
-- ==== Proof.Kern.Final.lean ====
/- The arrays that the kernel leaves, over the reals. -/
module

public import proofs.«01_k».proof.Proof.Kern.Feed
public import proofs.«01_k».proof.Proof.Body.Launch
public import Idealize.ShloMosaic.Lib.Pointwise.Sums

@[expose] public section

set_option maxRecDepth 16384

noncomputable section

namespace Cert.Kern

open Cert.Up Cert.Spec Cert.KernelIdeal Cert.KernelIdeal.Gen Cert.KernelIdeal.Body Idealize.ShloMosaic Idealize.ShloMosaic.TcCoe

variable {X : Fin 8192 → Fin 128 → ℝ} {E : Net 128 256} {D : Net 256 128} {cb : Fin 1024 → Fin 64 → ℝ}
  {m : (ℓ : Loc nD τ sig) → Buf (Elt Ideal) ℓ} {c : Dev nD}

/-! ### The sums over the tiles -/

/-- A sum over all rows, tile by tile. -/
theorem sum_tiles (f : (Fin 128 → ℝ) → ℝ) : ∑ i ∈ Finset.range 4, ∑ r, f (tile X i r) = ∑ r, f (X r) := by
  rw [Fin.sum_univ_tiles 4 2048 (by norm_num) fun r => f (X r), Finset.sum_range]
  refine Finset.sum_congr rfl fun j _ => Finset.sum_congr rfl fun r _ => congrArg (fun q => f (X q)) (Fin.ext ?_)
  change (2048 * j.val + r.val) % 8192 = j.val * 2048 + r.val
  omega

theorem moved_all : ∑ i ∈ Finset.range 4, tileMoved (coded X E i) cb = total X E cb :=
  sum_tiles fun x => ∑ g : Fin 4, moved cb (grp (E.run x) g)
theorem count_all (k : Fin 1024) : ∑ i ∈ Finset.range 4, tileCount (coded X E i) cb k = counts X E cb k :=
  sum_tiles fun x => ∑ g : Fin 4, chosen cb (grp (E.run x) g) k

/-! ### The four arrays -/

theorem at_20 : ∀ t : Fin cfg0.N, win0_20.index t = ![t.val, 0] := (by decide +kernel : ∀ t : Fin grid0.N, _)
theorem at_21 : ∀ t : Fin cfg0.N, win0_21.index t = ![t.val, 0] := (by decide +kernel : ∀ t : Fin grid0.N, _)
theorem at_22 : ∀ t : Fin cfg0.N, win0_22.index t = ![0, 0] := (by decide +kernel : ∀ t : Fin grid0.N, _)
theorem at_23 : ∀ t : Fin cfg0.N, win0_23.index t = ![0, 0] := (by decide +kernel : ∀ t : Fin grid0.N, _)

theorem final_y (hb : Blocks X E D cb m c) : (dats m 0 c).arrAt 20 cfg0.N = (R2 (yHat X E cb) : Vec Ideal S8192x256 .f32) := by
  refine (dats m 0 c).arrAt_eq_of_covers 20 _ (by decide +kernel) fun t hf y => ?_
  have ht : t.val < 4 := lt_of_lt_of_eq t.isLt N_0
  have hy : (y 0).val < 2048 := (y 0).isLt
  refine (congrFun ((after_y m c t).trans (inv_held hb t.val t.isLt).y) _).trans ?_
  refine congrArg (fun x : ℝ => (x : EReal)) (congr (congrArg (fun q => quant cb (E.run (X q))) (Fin.ext ?_)) (Fin.ext ?_))
  · blk_simp [at_20 t]
    change (2048 * t.val + (y 0).val) % 8192 = t.val * 2048 + (y 0).val
    omega
  · blk_simp [at_20 t]

theorem final_x (hb : Blocks X E D cb m c) : (dats m 0 c).arrAt 21 cfg0.N = (R2 (xHat X E D cb) : Vec Ideal S8192x128 .f32) := by
  refine (dats m 0 c).arrAt_eq_of_covers 21 _ (by decide +kernel) fun t hf y => ?_
  have ht : t.val < 4 := lt_of_lt_of_eq t.isLt N_0
  have hy : (y 0).val < 2048 := (y 0).isLt
  refine (congrFun ((after_x m c t).trans (inv_held hb t.val t.isLt).x) _).trans ?_
  refine congrArg (fun x : ℝ => (x : EReal)) (congr (congrArg (fun q => D.run (quant cb (E.run (X q)))) (Fin.ext ?_)) (Fin.ext ?_))
  · blk_simp [at_21 t]
    change (2048 * t.val + (y 0).val) % 8192 = t.val * 2048 + (y 0).val
    omega
  · blk_simp [at_21 t]

theorem final_l (hb : Blocks X E D cb m c) : (dats m 0 c).arrAt 22 cfg0.N = (R2 (fun _ _ => loss X E cb) : Vec Ideal S8x128 .f32) := by
  refine (dats m 0 c).arrAt_eq_of_after_last 22 last (by decide +kernel) _ fun j => ?_
  refine (congrFun ((after_l m c last).trans (held_l hb)) _).trans ?_
  rw [moved_all]
  rfl

theorem final_p (hb : Blocks X E D cb m c) : (dats m 0 c).arrAt 23 cfg0.N = (R2 (fun _ _ => perp X E cb) : Vec Ideal S8x128 .f32) := by
  refine (dats m 0 c).arrAt_eq_of_after_last 23 last (by decide +kernel) _ fun j => ?_
  refine (congrFun ((after_p m c last).trans (held_p hb)) _).trans ?_
  simp only [count_all]
  rfl

end Cert.Kern
end
-- ==== Proof.Kern.Tail.lean ====
/- The results of the kernel, over the reals. -/
module

public import proofs.«01_k».proof.Proof.Kern.Final

@[expose] public section

set_option maxRecDepth 16384

noncomputable section

namespace Cert.Kern

open Cert.Up Cert.Spec Cert.KernelIdeal Cert.KernelIdeal.Gen Cert.KernelIdeal.Body Idealize.ShloMosaic Idealize.ShloMosaic.TcCoe Idealize.SL.Sem

/-! ### The operations after the launch -/

theorem after_v11 (σ : Valuation τ sig (Elt Ideal)) : StableHlo.after [hostOps1].flatten σ (main_v11 : DevRef τ sig)
    = shapeCast S_ (extractStridedSlice S1x1 ![0, 0] (σ main_v9_2) slices_S8x128_S1x1_0_0) shapeCasts_S1x1_S_ := by
  change StableHlo.after hostOps1 σ _ = _
  unfold hostOps1
  after_reads_simp
  rfl
theorem after_v13 (σ : Valuation τ sig (Elt Ideal)) : StableHlo.after [hostOps1].flatten σ (main_v13 : DevRef τ sig)
    = shapeCast S_ (extractStridedSlice S1x1 ![0, 0] (σ main_v9_3) slices_S8x128_S1x1_0_0) shapeCasts_S1x1_S_ := by
  change StableHlo.after hostOps1 σ _ = _
  unfold hostOps1
  after_reads_simp
  rfl

/-- The corner of a constant block. -/
theorem corner (x : ℝ) : shapeCast S_ (extractStridedSlice S1x1 ![0, 0] (R2 fun _ _ => x : Vec Ideal S8x128 .f32) slices_S8x128_S1x1_0_0)
    shapeCasts_S1x1_S_ = R0 x := rfl

variable {X : Fin 8192 → Fin 128 → ℝ} {E : Net 128 256} {D : Net 256 128} {cb : Fin 1024 → Fin 64 → ℝ}
  {m : (ℓ : Loc nD τ sig) → Buf (Elt Ideal) ℓ} {c : Dev nD}

theorem arrs_inj : Function.Injective (Pipeline.arrRef spec0) := by decide

theorem tail_l (hb : Blocks X E D cb m c) :
    Pipeline.afterTail₀ cfgs (dats m) 0 (V0 m) [hostOps1] c main_v11 = R0 (loss X E cb) := by
  unfold Pipeline.afterTail₀
  refine (after_v11 _).trans ((congrArg (fun a => shapeCast S_ (extractStridedSlice S1x1 ![0, 0] a slices_S8x128_S1x1_0_0) shapeCasts_S1x1_S_)
    ((Pipeline.withArrays_arr spec0 arrs_inj c (V0 m c) (fun w => (dats m 0 c).arrAt w cfg0.N) 22).trans (final_l hb))).trans (corner _))
theorem tail_p (hb : Blocks X E D cb m c) :
    Pipeline.afterTail₀ cfgs (dats m) 0 (V0 m) [hostOps1] c main_v13 = R0 (perp X E cb) := by
  unfold Pipeline.afterTail₀
  refine (after_v13 _).trans ((congrArg (fun a => shapeCast S_ (extractStridedSlice S1x1 ![0, 0] a slices_S8x128_S1x1_0_0) shapeCasts_S1x1_S_)
    ((Pipeline.withArrays_arr spec0 arrs_inj c (V0 m c) (fun w => (dats m 0 c).arrAt w cfg0.N) 23).trans (final_p hb))).trans (corner _))

/-! ### What a run ends with -/

variable {r : PUnit × MemSt nD τ sig (Elt Ideal)}
  (h : Pipeline.FramePost cfgs (dats m) 0 (Pipeline.afterTail₀ cfgs (dats m) 0 (V0 m) [hostOps1]) r) (g : Given X E D cb m c)
include h g

theorem ends_y : r.2.mem ((c.tc : Thread nD τ).loc main_v9_0) = (R2 (yHat X E cb) : Vec Ideal S8192x256 .f32) :=
  ((h c).1 20).trans (final_y (blocks g))
theorem ends_x : r.2.mem ((c.tc : Thread nD τ).loc main_v9_1) = (R2 (xHat X E D cb) : Vec Ideal S8192x128 .f32) :=
  ((h c).1 21).trans (final_x (blocks g))
theorem ends_l : r.2.mem ((c.tc : Thread nD τ).loc main_v11) = R0 (loss X E cb) :=
  ((h c).2 main_v11 (by decide)).trans (tail_l (blocks g))
theorem ends_p : r.2.mem ((c.tc : Thread nD τ).loc main_v13) = R0 (perp X E cb) :=
  ((h c).2 main_v13 (by decide)).trans (tail_p (blocks g))

end Cert.Kern
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Body.Printed
public import proofs.«01_k».proof.Proof.Ref.Stages
public import proofs.«01_k».proof.Proof.Ref.Value
public import proofs.«01_k».proof.Proof.Kern.Reals
public import proofs.«01_k».proof.Proof.Kern.Tail
public import Idealize.ShloMosaic.Lib.Quiescent

@[expose] public section

set_option maxRecDepth 16384

noncomputable section

namespace Cert.Proof

open Idealize.ShloMosaic Idealize.SL.Sem

/-- The frame of the program as printed. -/
theorem frame_kernel : quiescent_Kernel (hKernel := Cert.Kernel.Gen.facts) := fun m g _ => Cert.Printed.frame m g

/-- The frame of the idealized program. -/
theorem frame_ideal : quiescent_KernelIdeal (hKernelIdeal := Cert.KernelIdeal.Gen.facts) :=
  fun m g _ => Cert.KernelIdeal.Body.frame (F := Ideal) m g

/-- The frame of the reference: it has no semaphore. -/
theorem frame_ref : quiescent_ReferenceIdeal (hReferenceIdeal := Cert.ReferenceIdeal.Gen.facts) := fun m g _ =>
  (θ_run _ _ _).mono (fun r h => ⟨h, sem_eq_zero_of_no_sems (by decide) r.2⟩) (Cert.Ref.unchanged m g)

/-- The two programs end with the same results: those of the specification. -/
theorem values : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre agree
  choose X E D cb given using fun c => Cert.Kern.reals hpre c
  refine ⟨fun c => Cert.Up.R0 (Cert.Spec.loss (X c) (E c) (cb c)), fun c => Cert.Up.R2 (Cert.Spec.xHat (X c) (E c) (D c) (cb c)),
    fun c => Cert.Up.R0 (Cert.Spec.perp (X c) (E c) (cb c)), fun c => Cert.Up.R2 (Cert.Spec.yHat (X c) (E c) (cb c)), ?_, ?_⟩
  · refine θ_run_mono (θ_run_and (Cert.KernelIdeal.Body.run_main m ρ) (Cert.KernelIdeal.Body.unchanged m ρ)) fun r h c => ?_
    exact ⟨Cert.Kern.ends_l h.1 (given c), Cert.Kern.ends_x h.1 (given c), Cert.Kern.ends_p h.1 (given c),
      Cert.Kern.ends_y h.1 (given c), h.2 c⟩
  · refine θ_run_mono (θ_run_and (Cert.Ref.run m' ρ') (Cert.Ref.unchanged m' ρ')) fun r h c => ?_
    have fed : Cert.Ref.Fed (StableHlo.launchContents m' c) (X c) (E c) (D c) (cb c) := by
      have a := agree c
      have g := given c
      exact ⟨(a.1).trans g.a0, (a.2.1).trans g.a1, (a.2.2.1).trans g.a2, (a.2.2.2.1).trans g.a3, (a.2.2.2.2.1).trans g.a4, (a.2.2.2.2.2.1).trans g.a5, (a.2.2.2.2.2.2.1).trans g.a6, (a.2.2.2.2.2.2.2.1).trans g.a7, (a.2.2.2.2.2.2.2.2.1).trans g.a8, (a.2.2.2.2.2.2.2.2.2.1).trans g.a9, (a.2.2.2.2.2.2.2.2.2.2.1).trans g.a10, (a.2.2.2.2.2.2.2.2.2.2.2.1).trans g.a11, (a.2.2.2.2.2.2.2.2.2.2.2.2.1).trans g.a12, (a.2.2.2.2.2.2.2.2.2.2.2.2.2.1).trans g.a13, (a.2.2.2.2.2.2.2.2.2.2.2.2.2.2.1).trans g.a14, (a.2.2.2.2.2.2.2.2.2.2.2.2.2.2.2.1).trans g.a15, (a.2.2.2.2.2.2.2.2.2.2.2.2.2.2.2.2.1).trans g.a16, (a.2.2.2.2.2.2.2.2.2.2.2.2.2.2.2.2.2).trans g.a17⟩
    exact ⟨(h.1 c _).trans (Cert.Ref.end_loss fed), (h.1 c _).trans (Cert.Ref.end_x fed), (h.1 c _).trans (Cert.Ref.end_perp fed),
      (h.1 c _).trans (Cert.Ref.end_y fed), h.2 c⟩

theorem claim : Cert.Claim := ⟨Cert.Kernel.Gen.facts, Cert.KernelIdeal.Gen.facts, Cert.ReferenceIdeal.Gen.facts, Cert.Pre_finite.Gen.facts,
  frame_kernel, frame_ideal, fun m g _ => frame_ideal m g trivial, frame_ref, fun m g _ => frame_ref m g trivial, trivial, values⟩

end Cert.Proof

end
